-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14))
      ∧ r.2.sem = fun _ => 0)

def preserves_Kernel_KernelIdeal : Prop :=
  True

def algebraic_KernelIdeal_ReferenceIdeal_on_rows_written_pre_finite [hKernelIdeal : Cert.KernelIdeal.Facts] [hReferenceIdeal : Cert.ReferenceIdeal.Facts] [hPre_finite : Cert.Pre_finite.Facts] [hOn_rows_written : Cert.On_rows_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 4096]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v1_0) i = v0 c i)
          ∧ (∀ i : (⟨2, ![1024, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v1_1) i = v1 c i)
          ∧ (∀ i : (⟨2, ![8, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v1_2) i = v2 c i)
          ∧ (∀ i : (⟨2, ![8448, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v1_3) i = v3 c i)
          ∧ (∀ i : (⟨2, ![8448, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.KernelIdeal.nD Cert.KernelIdeal.τ).loc Cert.KernelIdeal.main_v1_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 4096]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v88) i = v0 c i)
          ∧ (∀ i : (⟨2, ![1024, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v38) i = v1 c i)
          ∧ (∀ i : (⟨2, ![8, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v89) i = v2 c i)
          ∧ (∀ i : (⟨2, ![8448, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v86) i = v3 c i)
          ∧ (∀ i : (⟨2, ![8448, 1024]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 i = 1#1 → r.2.mem ((c.tc : Thread Cert.ReferenceIdeal.nD Cert.ReferenceIdeal.τ).loc Cert.ReferenceIdeal.main_v90) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)) (v7 : (c : Dev Cert.Kernel3Ideal.nD) → Buf (Elt Ideal) ((c.tc : Thread Cert.Kernel3Ideal.nD Cert.Kernel3Ideal.τ).loc Cert.Kernel3Ideal.main_v0_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_v0_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_v89) = v3 c
          ∧ r.2.mem ((c.tc : Thread Cert.Reference3Ideal.nD Cert.Reference3Ideal.τ).loc Cert.Reference3Ideal.main_v93) = v4 c
          ∧ r.2.mem ((c.tc : Thread Cert.Reference3Ideal.nD Cert.Reference3Ideal.τ).loc Cert.Reference3Ideal.main_v79) = v5 c
          ∧ r.2.mem ((c.tc : Thread Cert.Reference3Ideal.nD Cert.Reference3Ideal.τ).loc Cert.Reference3Ideal.main_v88) = v6 c
          ∧ r.2.mem ((c.tc : Thread Cert.Reference3Ideal.nD Cert.Reference3Ideal.τ).loc Cert.Reference3Ideal.main_v94) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v69) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_v72) = v2 c
          ∧ r.2.mem ((c.tc : Thread Cert.Reference5Ideal.nD Cert.Reference5Ideal.τ).loc Cert.Reference5Ideal.main_v73) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)) (v6 : (c : Dev Cert.Kernel7Ideal.nD) → Buf (Elt Ideal) ((c.tc : Thread Cert.Kernel7Ideal.nD Cert.Kernel7Ideal.τ).loc Cert.Kernel7Ideal.main_v0_6)) (v7 : (c : Dev Cert.Kernel7Ideal.nD) → Buf (Elt Ideal) ((c.tc : Thread Cert.Kernel7Ideal.nD Cert.Kernel7Ideal.τ).loc Cert.Kernel7Ideal.main_v0_7)) (v8 : (c : Dev Cert.Kernel7Ideal.nD) → Buf (Elt Ideal) ((c.tc : Thread Cert.Kernel7Ideal.nD Cert.Kernel7Ideal.τ).loc Cert.Kernel7Ideal.main_v0_8)) (v9 : (c : Dev Cert.Kernel7Ideal.nD) → Buf (Elt Ideal) ((c.tc : Thread Cert.Kernel7Ideal.nD Cert.Kernel7Ideal.τ).loc Cert.Kernel7Ideal.main_v0_9)) (v10 : (c : Dev Cert.Kernel7Ideal.nD) → Buf (Elt Ideal) ((c.tc : Thread Cert.Kernel7Ideal.nD Cert.Kernel7Ideal.τ).loc Cert.Kernel7Ideal.main_v0_10)) (v11 : (c : Dev Cert.Kernel7Ideal.nD) → Buf (Elt Ideal) ((c.tc : Thread Cert.Kernel7Ideal.nD Cert.Kernel7Ideal.τ).loc Cert.Kernel7Ideal.main_v0_11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_v0_6) = v6 c
          ∧ r.2.mem ((c.tc : Thread Cert.Kernel7Ideal.nD Cert.Kernel7Ideal.τ).loc Cert.Kernel7Ideal.main_v0_7) = v7 c
          ∧ r.2.mem ((c.tc : Thread Cert.Kernel7Ideal.nD Cert.Kernel7Ideal.τ).loc Cert.Kernel7Ideal.main_v0_8) = v8 c
          ∧ r.2.mem ((c.tc : Thread Cert.Kernel7Ideal.nD Cert.Kernel7Ideal.τ).loc Cert.Kernel7Ideal.main_v0_9) = v9 c
          ∧ r.2.mem ((c.tc : Thread Cert.Kernel7Ideal.nD Cert.Kernel7Ideal.τ).loc Cert.Kernel7Ideal.main_v0_10) = v10 c
          ∧ r.2.mem ((c.tc : Thread Cert.Kernel7Ideal.nD Cert.Kernel7Ideal.τ).loc Cert.Kernel7Ideal.main_v0_11) = v11 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_v8) = v2 c
          ∧ r.2.mem ((c.tc : Thread Cert.Reference7Ideal.nD Cert.Reference7Ideal.τ).loc Cert.Reference7Ideal.main_v32) = v3 c
          ∧ r.2.mem ((c.tc : Thread Cert.Reference7Ideal.nD Cert.Reference7Ideal.τ).loc Cert.Reference7Ideal.main_v56) = v4 c
          ∧ r.2.mem ((c.tc : Thread Cert.Reference7Ideal.nD Cert.Reference7Ideal.τ).loc Cert.Reference7Ideal.main_v80) = v5 c
          ∧ r.2.mem ((c.tc : Thread Cert.Reference7Ideal.nD Cert.Reference7Ideal.τ).loc Cert.Reference7Ideal.main_v13) = v6 c
          ∧ r.2.mem ((c.tc : Thread Cert.Reference7Ideal.nD Cert.Reference7Ideal.τ).loc Cert.Reference7Ideal.main_v37) = v7 c
          ∧ r.2.mem ((c.tc : Thread Cert.Reference7Ideal.nD Cert.Reference7Ideal.τ).loc Cert.Reference7Ideal.main_v61) = v8 c
          ∧ r.2.mem ((c.tc : Thread Cert.Reference7Ideal.nD Cert.Reference7Ideal.τ).loc Cert.Reference7Ideal.main_v19) = v9 c
          ∧ r.2.mem ((c.tc : Thread Cert.Reference7Ideal.nD Cert.Reference7Ideal.τ).loc Cert.Reference7Ideal.main_v43) = v10 c
          ∧ r.2.mem ((c.tc : Thread Cert.Reference7Ideal.nD Cert.Reference7Ideal.τ).loc Cert.Reference7Ideal.main_v67) = v11 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hPre_finite3 : Cert.Pre_finite3.Facts) (hOn_rows_written : Cert.On_rows_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_on_rows_written_pre_finite (hKernelIdeal := hKernelIdeal) (hReferenceIdeal := hReferenceIdeal) (hPre_finite := hPre_finite) (hOn_rows_written := hOn_rows_written)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_rows_written.lean ====
abbrev S8192x1024 : Shape := ⟨2, ![8192, 1024]⟩
abbrev S8192x4096 : Shape := ⟨2, ![8192, 4096]⟩
abbrev S3x1024 : Shape := ⟨2, ![3, 1024]⟩
abbrev S1024x1024 : Shape := ⟨2, ![1024, 1024]⟩
abbrev S_ : Shape := ⟨0, ![]⟩
abbrev S8x1024 : Shape := ⟨2, ![8, 1024]⟩
abbrev S8448x1024 : Shape := ⟨2, ![8448, 1024]⟩

class Facts : Prop where
  bcast_S_S8192x4096 : S_.BroadcastsInDim S8192x4096 (![] : Fin 0 → Fin S8192x4096.rank)
  bcast_S_S1024x1024 : S_.BroadcastsInDim S1024x1024 (![] : Fin 0 → Fin S1024x1024.rank)
  bcast_S_S8x1024 : S_.BroadcastsInDim S8x1024 (![] : Fin 0 → Fin S8x1024.rank)
  bcast_S_S8448x1024 : S_.BroadcastsInDim S8448x1024 (![] : Fin 0 → Fin S8448x1024.rank)

variable [Facts]

def fn {F : FTy → Type} [FloatOps F] (main_arg0 : FVec F S8192x1024 .bf16) (main_arg1 : FVec F S8192x4096 .bf16) (main_arg2 : FVec F S8192x1024 .bf16) (main_arg3 : FVec F S3x1024 .f32) (main_arg4 : FVec F S1024x1024 .bf16) : IVec S8192x4096 1 × IVec S1024x1024 1 × IVec S8x1024 1 × IVec S8448x1024 1 × IVec S8448x1024 1 :=
  let main_v0 : IVec S8192x4096 32 := iotaInDim S8192x4096 32 0
  let main_c : IVec S_ 32 := constantI S_ 32 8192#32
  let main_v1 : IVec S8192x4096 32 := broadcastInDim S8192x4096 ![] bcast_S_S8192x4096 main_c
  let main_v2 : IVec S8192x4096 1 := cmpi .slt main_v0 main_v1
  let main_v3 : IVec S1024x1024 32 := iotaInDim S1024x1024 32 0
  let main_c_0 : IVec S_ 32 := constantI S_ 32 1024#32
  let main_v4 : IVec S1024x1024 32 := broadcastInDim S1024x1024 ![] bcast_S_S1024x1024 main_c_0
  let main_v5 : IVec S1024x1024 1 := cmpi .slt main_v3 main_v4
  let main_v6 : IVec S8x1024 32 := iotaInDim S8x1024 32 0
  let main_c_1 : IVec S_ 32 := constantI S_ 32 8#32
  let main_v7 : IVec S8x1024 32 := broadcastInDim S8x1024 ![] bcast_S_S8x1024 main_c_1
  let main_v8 : IVec S8x1024 1 := cmpi .slt main_v6 main_v7
  let main_v9 : IVec S8448x1024 32 := iotaInDim S8448x1024 32 0
  let main_c_2 : IVec S_ 32 := constantI S_ 32 4096#32
  let main_v10 : IVec S8448x1024 32 := broadcastInDim S8448x1024 ![] bcast_S_S8448x1024 main_c_2
  let main_v11 : IVec S8448x1024 1 := cmpi .slt main_v9 main_v10
  let main_v12 : IVec S8448x1024 32 := iotaInDim S8448x1024 32 0
  let main_c_3 : IVec S_ 32 := constantI S_ 32 4096#32
  let main_v13 : IVec S8448x1024 32 := broadcastInDim S8448x1024 ![] bcast_S_S8448x1024 main_c_3
  let main_v14 : IVec S8448x1024 1 := cmpi .slt main_v12 main_v13
  (main_v2, main_v5, main_v8, main_v11, main_v14)
-- ==== Pre_finite.lean ====
abbrev S8192x1024 : Shape := ⟨2, ![8192, 1024]⟩
abbrev S8192x4096 : Shape := ⟨2, ![8192, 4096]⟩
abbrev S3x1024 : Shape := ⟨2, ![3, 1024]⟩
abbrev S1024x1024 : Shape := ⟨2, ![1024, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x4096 : S_.BroadcastsInDim S8192x4096 (![] : Fin 0 → Fin S8192x4096.rank)
  bcast_S_S3x1024 : S_.BroadcastsInDim S3x1024 (![] : Fin 0 → Fin S3x1024.rank)
  bcast_S_S1024x1024 : S_.BroadcastsInDim S1024x1024 (![] : Fin 0 → Fin S1024x1024.rank)

variable [Facts]

def fn {F : FTy → Type} [FloatOps F] (main_arg0 : FVec F S8192x1024 .bf16) (main_arg1 : FVec F S8192x4096 .bf16) (main_arg2 : FVec F S8192x1024 .bf16) (main_arg3 : FVec F S3x1024 .f32) (main_arg4 : FVec F S1024x1024 .bf16) : IVec S8192x1024 1 × IVec S8192x4096 1 × IVec S3x1024 1 × IVec S1024x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x4096 .f32 := (extf .f32 · bitsLt_bf16_f32) main_arg1
  let main_v5 : FVec F S8192x4096 .f32 := Host.absf main_v4
  let main_cst_0 : FVec F S_ .f32 := constant S_ .f32 0x7F800000#32
  let main_v6 : FVec F S8192x4096 .f32 := broadcastInDim S8192x4096 ![] bcast_S_S8192x4096 main_cst_0
  let main_v7 : IVec S8192x4096 1 := cmpf .olt main_v5 main_v6
  let main_v8 : FVec F S3x1024 .f32 := Host.absf main_arg3
  let main_cst_1 : FVec F S_ .f32 := constant S_ .f32 0x7F800000#32
  let main_v9 : FVec F S3x1024 .f32 := broadcastInDim S3x1024 ![] bcast_S_S3x1024 main_cst_1
  let main_v10 : IVec S3x1024 1 := cmpf .olt main_v8 main_v9
  let main_v11 : FVec F S1024x1024 .f32 := (extf .f32 · bitsLt_bf16_f32) main_arg4
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  (main_v3, main_v7, main_v10, main_v14)
-- ==== Pre_finite2.lean ====
abbrev S8192x4096 : Shape := ⟨2, ![8192, 4096]⟩
abbrev S8192x1024 : Shape := ⟨2, ![8192, 1024]⟩
abbrev S8192x256 : Shape := ⟨2, ![8192, 256]⟩
abbrev S8192x2048 : Shape := ⟨2, ![8192, 2048]⟩
abbrev S8448x1024 : Shape := ⟨2, ![8448, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S8192x1024 : S_.BroadcastsInDim S8192x1024 (![] : Fin 0 → Fin S8192x1024.rank)
  bcast_S_S8192x256 : S_.BroadcastsInDim S8192x256 (![] : Fin 0 → Fin S8192x256.rank)
  bcast_S_S8192x2048 : S_.BroadcastsInDim S8192x2048 (![] : Fin 0 → Fin S8192x2048.rank)
  bcast_S_S8448x1024 : S_.BroadcastsInDim S8448x1024 (![] : Fin 0 → Fin S8448x1024.rank)
  bcast_S_S1x1024 : S_.BroadcastsInDim S1x1024 (![] : Fin 0 → Fin S1x1024.rank)

variable [Facts]

def fn_part1 {F : FTy → Type} [FloatOps F] (main_arg5 : FVec F S8192x1024 .f32) (main_arg6 : FVec F S1x1024 .f32) (main_v3 : IVec S8192x4096 1) (main_v6 : IVec S8192x1024 1) (main_v10 : IVec S8192x256 1) (main_v14 : IVec S8192x2048 1) (main_v18 : IVec S8448x1024 1) : IVec S8192x4096 1 × IVec S8192x1024 1 × IVec S8192x256 1 × IVec S8192x2048 1 × IVec S8448x1024 1 × IVec S8192x1024 1 × IVec S1x1024 1 :=
  let main_v19 : FVec F S8192x1024 .f32 := Host.absf main_arg5
  let main_cst_4 : FVec F S_ .f32 := constant S_ .f32 0x7F800000#32
  let main_v20 : FVec F S8192x1024 .f32 := broadcastInDim S8192x1024 ![] bcast_S_S8192x1024 main_cst_4
  let main_v21 : IVec S8192x1024 1 := cmpf .olt main_v19 main_v20
  let main_v22 : FVec F S1x1024 .f32 := Host.absf main_arg6
  let main_cst_5 : FVec F S_ .f32 := constant S_ .f32 0x7F800000#32
  let main_v23 : FVec F S1x1024 .f32 := broadcastInDim S1x1024 ![] bcast_S_S1x1024 main_cst_5
  let main_v24 : IVec S1x1024 1 := cmpf .olt main_v22 main_v23
  (main_v3, main_v6, main_v10, main_v14, main_v18, main_v21, main_v24)

def fn {F : FTy → Type} [FloatOps F] (main_arg0 : FVec F S8192x4096 .bf16) (main_arg1 : FVec F S8192x1024 .f32) (main_arg2 : FVec F S8192x256 .bf16) (main_arg3 : FVec F S8192x2048 .bf16) (main_arg4 : FVec F S8448x1024 .bf16) (main_arg5 : FVec F S8192x1024 .f32) (main_arg6 : FVec F S1x1024 .f32) (main_arg7 : FVec F S8192x1024 .f32) : IVec S8192x4096 1 × IVec S8192x1024 1 × IVec S8192x256 1 × IVec S8192x2048 1 × IVec S8448x1024 1 × IVec S8192x1024 1 × IVec S1x1024 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x256 .f32 := (extf .f32 · bitsLt_bf16_f32) main_arg2
  let main_v8 : FVec F S8192x256 .f32 := Host.absf main_v7
  let main_cst_1 : FVec F S_ .f32 := constant S_ .f32 0x7F800000#32
  let main_v9 : FVec F S8192x256 .f32 := broadcastInDim S8192x256 ![] bcast_S_S8192x256 main_cst_1
  let main_v10 : IVec S8192x256 1 := cmpf .olt main_v8 main_v9
  let main_v11 : FVec F S8192x2048 .f32 := (extf .f32 · bitsLt_bf16_f32) main_arg3
  let main_v12 : FVec F S8192x2048 .f32 := Host.absf main_v11
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_v15 : FVec F S8448x1024 .f32 := (extf .f32 · bitsLt_bf16_f32) main_arg4
  let main_v16 : FVec F S8448x1024 .f32 := Host.absf main_v15
  let main_cst_3 : FVec F S_ .f32 := constant S_ .f32 0x7F800000#32
  let main_v17 : FVec F S8448x1024 .f32 := broadcastInDim S8448x1024 ![] bcast_S_S8448x1024 main_cst_3
  let main_v18 : IVec S8448x1024 1 := cmpf .olt main_v16 main_v17
  fn_part1 (F := F) main_arg5 main_arg6 main_v3 main_v6 main_v10 main_v14 main_v18
-- ==== Pre_finite3.lean ====
abbrev S8192x1024 : Shape := ⟨2, ![8192, 1024]⟩
abbrev S8192x3072 : Shape := ⟨2, ![8192, 3072]⟩
abbrev S1x1024 : Shape := ⟨2, ![1, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S8192x3072 : S_.BroadcastsInDim S8192x3072 (![] : Fin 0 → Fin S8192x3072.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn_part1 {F : FTy → Type} [FloatOps F] (main_arg6 : FVec F S1024x1024 .bf16) (main_arg7 : FVec F S1024x1024 .bf16) (main_v2 : IVec S8192x1024 1) (main_v6 : IVec S8192x1024 1) (main_v9 : IVec S8192x3072 1) (main_v12 : IVec S8192x1024 1) (main_v15 : IVec S8192x1024 1) (main_v16 : FVec F S1x1024 .f32) (main_v17 : FVec F S1x1024 .f32) : IVec S8192x1024 1 × IVec S8192x1024 1 × IVec S8192x3072 1 × IVec S8192x1024 1 × IVec S8192x1024 1 × IVec S1x1024 1 × IVec S1024x1024 1 × IVec S1024x1024 1 :=
  let main_v18 : IVec S1x1024 1 := cmpf .olt main_v16 main_v17
  let main_v19 : FVec F S1024x1024 .f32 := (extf .f32 · bitsLt_bf16_f32) main_arg6
  let main_v20 : FVec F S1024x1024 .f32 := Host.absf main_v19
  let main_cst_5 : FVec F S_ .f32 := constant S_ .f32 0x7F800000#32
  let main_v21 : FVec F S1024x1024 .f32 := broadcastInDim S1024x1024 ![] bcast_S_S1024x1024 main_cst_5
  let main_v22 : IVec S1024x1024 1 := cmpf .olt main_v20 main_v21
  let main_v23 : FVec F S1024x1024 .f32 := (extf .f32 · bitsLt_bf16_f32) main_arg7
  let main_v24 : FVec F S1024x1024 .f32 := Host.absf main_v23
  let main_cst_6 : FVec F S_ .f32 := constant S_ .f32 0x7F800000#32
  let main_v25 : FVec F S1024x1024 .f32 := broadcastInDim S1024x1024 ![] bcast_S_S1024x1024 main_cst_6
  let main_v26 : IVec S1024x1024 1 := cmpf .olt main_v24 main_v25
  (main_v2, main_v6, main_v9, main_v12, main_v15, main_v18, main_v22, main_v26)

def fn {F : FTy → Type} [FloatOps F] (main_arg0 : FVec F S8192x1024 .f32) (main_arg1 : FVec F S8192x1024 .bf16) (main_arg2 : FVec F S8192x3072 .f32) (main_arg3 : FVec F S8192x1024 .f32) (main_arg4 : FVec F S8192x1024 .f32) (main_arg5 : FVec F S1x1024 .f32) (main_arg6 : FVec F S1024x1024 .bf16) (main_arg7 : FVec F S1024x1024 .bf16) : IVec S8192x1024 1 × IVec S8192x1024 1 × IVec S8192x3072 1 × IVec S8192x1024 1 × IVec S8192x1024 1 × IVec S1x1024 1 × IVec S1024x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := (extf .f32 · bitsLt_bf16_f32) main_arg1
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x3072 .f32 := Host.absf main_arg2
  let main_cst_1 : FVec F S_ .f32 := constant S_ .f32 0x7F800000#32
  let main_v8 : FVec F S8192x3072 .f32 := broadcastInDim S8192x3072 ![] bcast_S_S8192x3072 main_cst_1
  let main_v9 : IVec S8192x3072 1 := cmpf .olt main_v7 main_v8
  let main_v10 : FVec F S8192x1024 .f32 := Host.absf main_arg3
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S8192x1024 .f32 := Host.absf main_arg4
  let main_cst_3 : FVec F S_ .f32 := constant S_ .f32 0x7F800000#32
  let main_v14 : FVec F S8192x1024 .f32 := broadcastInDim S8192x1024 ![] bcast_S_S8192x1024 main_cst_3
  let main_v15 : IVec S8192x1024 1 := cmpf .olt main_v13 main_v14
  let main_v16 : FVec F S1x1024 .f32 := Host.absf main_arg5
  let main_cst_4 : FVec F S_ .f32 := constant S_ .f32 0x7F800000#32
  let main_v17 : FVec F S1x1024 .f32 := broadcastInDim S1x1024 ![] bcast_S_S1x1024 main_cst_4
  fn_part1 (F := F) main_arg6 main_arg7 main_v2 main_v6 main_v9 main_v12 main_v15 main_v16 main_v17
-- ==== Kernel.lean ====
abbrev S8192x1024 : Shape := ⟨2, ![8192, 1024]⟩
abbrev S8192x4096 : Shape := ⟨2, ![8192, 4096]⟩
abbrev S3x1024 : Shape := ⟨2, ![3, 1024]⟩
abbrev S1024x1024 : Shape := ⟨2, ![1024, 1024]⟩
abbrev S_ : Shape := ⟨0, ![]⟩
abbrev S8x1024 : Shape := ⟨2, ![8, 1024]⟩
abbrev S8448x1024 : Shape := ⟨2, ![8448, 1024]⟩
abbrev S512x1024 : Shape := ⟨2, ![512, 1024]⟩
abbrev S16x1024 : Shape := ⟨2, ![16, 1024]⟩
abbrev S512x4096 : Shape := ⟨2, ![512, 4096]⟩
abbrev S4096x1024 : Shape := ⟨2, ![4096, 1024]⟩
abbrev S256x1024 : Shape := ⟨2, ![256, 1024]⟩
abbrev S2 : Shape := ⟨1, ![2]⟩
abbrev S2x1024 : Shape := ⟨2, ![2, 1024]⟩
abbrev S1x1024 : Shape := ⟨2, ![1, 1024]⟩
abbrev S1024 : Shape := ⟨1, ![1024]⟩
abbrev S1 : Shape := ⟨1, ![1]⟩

abbrev nBuf : Space → Nat
  | .hbm => 13
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .bf16⟩
  | .hbm, ⟨3, _⟩ => ⟨S3x1024, .f32⟩
  | .hbm, ⟨4, _⟩ => ⟨S1024x1024, .bf16⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S8192x4096, .bf16⟩
  | .hbm, ⟨9, _⟩ => ⟨S1024x1024, .f32⟩
  | .hbm, ⟨10, _⟩ => ⟨S8x1024, .f32⟩
  | .hbm, ⟨11, _⟩ => ⟨S8448x1024, .f32⟩
  | .hbm, ⟨12, _⟩ => ⟨S8448x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S8x1024, .f32⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x4096, .bf16⟩
  | .local _ .vmem, ⟨19, _⟩ => ⟨S512x4096, .bf16⟩
  | .local _ .vmem, ⟨20, _⟩ => ⟨S1024x1024, .f32⟩
  | .local _ .vmem, ⟨21, _⟩ => ⟨S8x1024, .f32⟩
  | .local _ .vmem, ⟨22, _⟩ => ⟨S4096x1024, .f32⟩
  | .local _ .vmem, ⟨23, _⟩ => ⟨S256x1024, .bf16⟩
  | .local _ .vmem, ⟨24, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S8192x4096 : Shape := ⟨2, ![8192, 4096]⟩
abbrev S3x1024 : Shape := ⟨2, ![3, 1024]⟩
abbrev S1024x1024 : Shape := ⟨2, ![1024, 1024]⟩
abbrev S4x2048x1024 : Shape := ⟨3, ![4, 2048, 1024]⟩
abbrev S4x2048x4096 : Shape := ⟨3, ![4, 2048, 4096]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S4096x1024 : Shape := ⟨2, ![4096, 1024]⟩
abbrev S1024x4096 : Shape := ⟨2, ![1024, 4096]⟩
abbrev S8448x1024 : Shape := ⟨2, ![8448, 1024]⟩
abbrev S8x1024 : Shape := ⟨2, ![8, 1024]⟩

abbrev nBuf : Space → Nat
  | .hbm => 129
  | .vmem => 0
  | .smem => 0
  | _ => 0

abbrev hbmTy0_0 (i : Nat) : BufTy := match i % 128 with
  | 0 => ⟨S8192x1024, .bf16⟩
  | 1 => ⟨S8192x4096, .bf16⟩
  | 2 => ⟨S8192x1024, .bf16⟩
  | 3 => ⟨S3x1024, .f32⟩
  | 4 => ⟨S1024x1024, .bf16⟩
  | 5 => ⟨S8192x1024, .f32⟩
  | 6 => ⟨S4x2048x1024, .f32⟩
  | 7 => ⟨S8192x4096, .f32⟩
  | 8 => ⟨S4x2048x4096, .f32⟩
  | 9 => ⟨S1024x1024, .f32⟩
  | 10 => ⟨S4x2048x1024, .f32⟩
  | 11 => ⟨S4x2048x1024, .f32⟩
  | 12 => ⟨S4x2048x1024, .f32⟩
  | 13 => ⟨S4x2048x1024, .f32⟩
  | 14 => ⟨S4x2048x1024, .f32⟩
  | 15 => ⟨S4x2048x1024, .f32⟩
  | 16 => ⟨S_, .f32⟩
  | 17 => ⟨S4x2048x1024, .f32⟩
  | 18 => ⟨S4x2048x1024, .f32⟩
  | 19 => ⟨S_, .f32⟩
  | 20 => ⟨S4x2048x1024, .f32⟩
  | 21 => ⟨S4x2048x1024, .f32⟩
  | 22 => ⟨S_, .f32⟩
  | 23 => ⟨S4x2048x1024, .f32⟩
  | 24 => ⟨S4x2048x1024, .f32⟩
  | 25 => ⟨S4x2048x1024, .f32⟩
  | 26 => ⟨S4x2048x1024, .f32⟩
  | 27 => ⟨S4x2048x1024, .f32⟩
  | 28 => ⟨S_, .f32⟩
  | 29 => ⟨S4x2x1024, .f32⟩
  | 30 => ⟨S4x2050x1024, .f32⟩
  | 31 => ⟨S_, .f32⟩
  | 32 => ⟨S4x2x1024, .f32⟩
  | 33 => ⟨S1x1024, .f32⟩
  | 34 => ⟨S1024, .f32⟩
  | 35 => ⟨S4x2048x1024, .f32⟩
  | 36 => ⟨S1x1x1024, .f32⟩
  | 37 => ⟨S4x2048x1024, .f32⟩
  | 38 => ⟨S4x2048x1024, .f32⟩
  | 39 => ⟨S1x1024, .f32⟩
  | 40 => ⟨S1024, .f32⟩
  | 41 => ⟨S4x2048x1024, .f32⟩
  | 42 => ⟨S1x1x1024, .f32⟩
  | 43 => ⟨S4x2048x1024, .f32⟩
  | 44 => ⟨S4x2048x1024, .f32⟩
  | 45 => ⟨S4x2048x1024, .f32⟩
  | 46 => ⟨S1x1024, .f32⟩
  | 47 => ⟨S1024, .f32⟩
  | 48 => ⟨S4x2048x1024, .f32⟩
  | 49 => ⟨S1x1x1024, .f32⟩
  | 50 => ⟨S4x2048x1024, .f32⟩
  | 51 => ⟨S4x2048x1024, .f32⟩
  | 52 => ⟨S4x2048x1024, .f32⟩
  | 53 => ⟨S4x2048x1024, .f32⟩
  | 54 => ⟨S4x2048x1024, .f32⟩
  | 55 => ⟨S4x2048x1024, .f32⟩
  | 56 => ⟨S1024x1024, .f32⟩
  | 57 => ⟨S1024x1024, .f32⟩
  | 58 => ⟨S4x2048x1024, .f32⟩
  | 59 => ⟨S4x2048x1024, .f32⟩
  | 60 => ⟨S4x2048x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S4x2048x1024, .f32⟩
  | 66 => ⟨S_, .f32⟩
  | 67 => ⟨S1024, .f32⟩
  | 68 => ⟨S1x1x1024, .f32⟩
  | 69 => ⟨S_, .f32⟩
  | 70 => ⟨S1024, .f32⟩
  | 71 => ⟨S_, .f32⟩
  | 72 => ⟨S4x2050x1024, .f32⟩
  | 73 => ⟨S1x1024, .f32⟩
  | 74 => ⟨S_, .f32⟩
  | 75 => ⟨S3x1024, .f32⟩
  | 76 => ⟨S4x2048x1024, .f32⟩
  | 77 => ⟨S4x2048x1024, .f32⟩
  | 78 => ⟨S4x2048x1024, .f32⟩
  | 79 => ⟨S_, .f32⟩
  | 80 => ⟨S1024, .f32⟩
  | 81 => ⟨S1x1x1024, .f32⟩
  | 82 => ⟨S_, .f32⟩
  | 83 => ⟨S1024, .f32⟩
  | 84 => ⟨S_, .f32⟩
  | 85 => ⟨S4x2050x1024, .f32⟩
  | 86 => ⟨S4x2050x1024, .f32⟩
  | 87 => ⟨S1x1024, .f32⟩
  | 88 => ⟨S_, .f32⟩
  | 89 => ⟨S3x1024, .f32⟩
  | 90 => ⟨S3x1024, .f32⟩
  | 91 => ⟨S4x2048x1024, .f32⟩
  | 92 => ⟨S4x2048x1024, .f32⟩
  | 93 => ⟨S4x2048x1024, .f32⟩
  | 94 => ⟨S_, .f32⟩
  | 95 => ⟨S1024, .f32⟩
  | 96 => ⟨S1x1x1024, .f32⟩
  | 97 => ⟨S_, .f32⟩
  | 98 => ⟨S1024, .f32⟩
  | 99 => ⟨S_, .f32⟩
  | 100 => ⟨S4x2050x1024, .f32⟩
  | 101 => ⟨S4x2050x1024, .f32⟩
  | 102 => ⟨S1x1024, .f32⟩
  | 103 => ⟨S_, .f32⟩
  | 104 => ⟨S3x1024, .f32⟩
  | 105 => ⟨S3x1024, .f32⟩
  | 106 => ⟨S4x2x1024, .f32⟩
  | 107 => ⟨S4x2048x1024, .f32⟩
  | 108 => ⟨S4x2048x1024, .f32⟩
  | 109 => ⟨S4x2048x1024, .f32⟩
  | 110 => ⟨S4x2048x1024, .f32⟩
  | 111 => ⟨S4x2048x1024, .f32⟩
  | 112 => ⟨S4x2048x1024, .f32⟩
  | 113 => ⟨S4x2048x1024, .f32⟩
  | 114 => ⟨S4x2048x4096, .f32⟩
  | 115 => ⟨S8192x1024, .f32⟩
  | 116 => ⟨S4x2048x1024, .f32⟩
  | 117 => ⟨S4096x1024, .f32⟩
  | 118 => ⟨S1024x4096, .f32⟩
  | 119 => ⟨S4096x1024, .f32⟩
  | 120 => ⟨S_, .i32⟩
  | 121 => ⟨S_, .f32⟩
  | 122 => ⟨S8448x1024, .f32⟩
  | 123 => ⟨S8192x4096, .f32⟩
  | 124 => ⟨S8192x4096, .bf16⟩
  | 125 => ⟨S_, .i32⟩
  | 126 => ⟨S_, .f32⟩
  | 127 => ⟨S8x1024, .f32⟩
  | _ => ⟨S8192x1024, .bf16⟩

abbrev hbmTy0_1 (i : Nat) : BufTy := match i % 128 with
  | 0 => ⟨S8448x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v9_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v9_1 : Ref sig .tc := ⟨.hbm, 25, rfl⟩
abbrev main_v9_0 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_1 : Ref sig .tc := ⟨.hbm, 66, rfl⟩
abbrev main_v47 : Ref sig .tc := ⟨.hbm, 67, rfl⟩
abbrev main_v48 : Ref sig .tc := ⟨.hbm, 68, rfl⟩
abbrev main_cst_2 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_cst_6 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_8 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_9 : Ref sig .tc := ⟨.hbm, 94, rfl⟩
abbrev main_v67 : Ref sig .tc := ⟨.hbm, 95, rfl⟩
abbrev main_v68 : Ref sig .tc := ⟨.hbm, 96, rfl⟩
abbrev main_cst_10 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c : Ref sig .tc := ⟨.hbm, 120, rfl⟩
abbrev main_call2_v0 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_13 : Ref sig .tc := ⟨.hbm, 125, rfl⟩
abbrev main_call3_v0 : Ref sig .tc := ⟨.hbm, 126, rfl⟩
abbrev main_v89 : Ref sig .tc := ⟨.hbm, 127, rfl⟩
abbrev main_v90 : Ref sig .tc := ⟨.hbm, 128, rfl⟩

abbrev nD : Nat := 1
abbrev τ : Topo := Topo.v7x

variable {F : FTy → Type} [FloatOps F]
-- ==== Kernel2.lean ====
abbrev S8192x4096 : Shape := ⟨2, ![8192, 4096]⟩
abbrev S8192x1024 : Shape := ⟨2, ![8192, 1024]⟩
abbrev S8192x256 : Shape := ⟨2, ![8192, 256]⟩
abbrev S8192x2048 : Shape := ⟨2, ![8192, 2048]⟩
abbrev S8448x1024 : Shape := ⟨2, ![8448, 1024]⟩
abbrev S1x1024 : Shape := ⟨2, ![1, 1024]⟩
abbrev S8x1024 : Shape := ⟨2, ![8, 1024]⟩
abbrev S512x4096 : Shape := ⟨2, ![512, 4096]⟩
abbrev S512x1024 : Shape := ⟨2, ![512, 1024]⟩
abbrev S512x256 : Shape := ⟨2, ![512, 256]⟩
abbrev S512x2048 : Shape := ⟨2, ![512, 2048]⟩
abbrev S4096x1024 : Shape := ⟨2, ![4096, 1024]⟩
abbrev S256x1024 : Shape := ⟨2, ![256, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x256, .bf16⟩
  | .hbm, ⟨3, _⟩ => ⟨S8192x2048, .bf16⟩
  | .hbm, ⟨4, _⟩ => ⟨S8448x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x256, .bf16⟩
  | .local _ .vmem, ⟨5, _⟩ => ⟨S512x256, .bf16⟩
  | .local _ .vmem, ⟨6, _⟩ => ⟨S512x2048, .bf16⟩
  | .local _ .vmem, ⟨7, _⟩ => ⟨S512x2048, .bf16⟩
  | .local _ .vmem, ⟨8, _⟩ => ⟨S8448x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8448x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x4096 : Shape := ⟨2, ![8192, 4096]⟩
abbrev S8192x1024 : Shape := ⟨2, ![8192, 1024]⟩
abbrev S8192x256 : Shape := ⟨2, ![8192, 256]⟩
abbrev S8192x2048 : Shape := ⟨2, ![8192, 2048]⟩
abbrev S8448x1024 : Shape := ⟨2, ![8448, 1024]⟩
abbrev S1x1024 : Shape := ⟨2, ![1, 1024]⟩
abbrev S1024x8448 : Shape := ⟨2, ![1024, 8448]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S1024x256 : Shape := ⟨2, ![1024, 256]⟩
abbrev S1024x2048 : Shape := ⟨2, ![1024, 2048]⟩
abbrev S1024 : Shape := ⟨1, ![1024]⟩
abbrev S8x1024 : Shape := ⟨2, ![8, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x256, .bf16⟩
  | .hbm, ⟨3, _⟩ => ⟨S8192x2048, .bf16⟩
  | .hbm, ⟨4, _⟩ => ⟨S8448x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8448x1024, .f32⟩
  | .hbm, ⟨9, _⟩ => ⟨S1024x8448, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S1024x4096, .f32⟩
  | .hbm, ⟨30, _⟩ => ⟨S8192x4096, .f32⟩
  | .hbm, ⟨31, _⟩ => ⟨S1024x256, .f32⟩
  | .hbm, ⟨32, _⟩ => ⟨S8192x256, .f32⟩
  | .hbm, ⟨33, _⟩ => ⟨S1024x2048, .f32⟩
  | .hbm, ⟨34, _⟩ => ⟨S8192x2048, .f32⟩
  | .hbm, ⟨35, _⟩ => ⟨S8192x4096, .f32⟩
  | .hbm, ⟨36, _⟩ => ⟨S8192x256, .f32⟩
  | .hbm, ⟨37, _⟩ => ⟨S8192x2048, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .i32⟩
  | .hbm, ⟨69, _⟩ => ⟨S_, .f32⟩
  | .hbm, ⟨70, _⟩ => ⟨S8x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c : Ref sig .tc := ⟨.hbm, 68, rfl⟩
abbrev main_call0_v0 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel3.lean ====
abbrev S8192x1024 : Shape := ⟨2, ![8192, 1024]⟩
abbrev S8192x3072 : Shape := ⟨2, ![8192, 3072]⟩
abbrev S1x1024 : Shape := ⟨2, ![1, 1024]⟩
abbrev S1024x1024 : Shape := ⟨2, ![1024, 1024]⟩
abbrev S8x128 : Shape := ⟨2, ![8, 128]⟩
abbrev S8192x2048 : Shape := ⟨2, ![8192, 2048]⟩
abbrev S8x1024 : Shape := ⟨2, ![8, 1024]⟩
abbrev S512x1024 : Shape := ⟨2, ![512, 1024]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 16
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x3072, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S8x128, .f32⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x2048, .bf16⟩
  | .hbm, ⟨13, _⟩ => ⟨S1024x1024, .f32⟩
  | .hbm, ⟨14, _⟩ => ⟨S1024x1024, .f32⟩
  | .hbm, ⟨15, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S8x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x2048, .bf16⟩
  | .local _ .vmem, ⟨23, _⟩ => ⟨S512x2048, .bf16⟩
  | .local _ .vmem, ⟨24, _⟩ => ⟨S1024x1024, .f32⟩
  | .local _ .vmem, ⟨25, _⟩ => ⟨S1024x1024, .f32⟩
  | .local _ .vmem, ⟨26, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference3Ideal.lean ====
abbrev S8192x1024 : Shape := ⟨2, ![8192, 1024]⟩
abbrev S8192x3072 : Shape := ⟨2, ![8192, 3072]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩
abbrev S8192x2048 : Shape := ⟨2, ![8192, 2048]⟩
abbrev S8x1024 : Shape := ⟨2, ![8, 1024]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x3072, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S8192, .f32⟩
  | .hbm, ⟨80, _⟩ => ⟨S_, .f32⟩
  | .hbm, ⟨81, _⟩ => ⟨S8192, .f32⟩
  | .hbm, ⟨82, _⟩ => ⟨S8192, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S1024x1024, .f32⟩
  | .hbm, ⟨109, _⟩ => ⟨S1024x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S1024x1024, .f32⟩
  | .hbm, ⟨118, _⟩ => ⟨S1024x1024, .f32⟩
  | .hbm, ⟨119, _⟩ => ⟨S8192x1024, .f32⟩
  | .hbm, ⟨120, _⟩ => ⟨S8x128, .f32⟩
  | .hbm, ⟨121, _⟩ => ⟨S8192x1024, .bf16⟩
  | .hbm, ⟨122, _⟩ => ⟨S8192x2048, .f32⟩
  | .hbm, ⟨123, _⟩ => ⟨S8192x2048, .bf16⟩
  | .hbm, ⟨124, _⟩ => ⟨S_, .i32⟩
  | .hbm, ⟨125, _⟩ => ⟨S_, .f32⟩
  | .hbm, ⟨126, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_cst_14 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_cst_16 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_18 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_19 : Ref sig .tc := ⟨.hbm, 98, rfl⟩
abbrev main_v70 : Ref sig .tc := ⟨.hbm, 99, rfl⟩
abbrev main_v71 : Ref sig .tc := ⟨.hbm, 100, rfl⟩
abbrev main_cst_20 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c : Ref sig .tc := ⟨.hbm, 124, rfl⟩
abbrev main_call0_v0 : Ref sig .tc := ⟨.hbm, 125, rfl⟩
abbrev main_v94 : Ref sig .tc := ⟨.hbm, 126, rfl⟩

abbrev nD : Nat := 1
abbrev τ : Topo := Topo.v7x

variable {F : FTy → Type} [FloatOps F]
-- ==== Kernel4.lean ====
abbrev S8192x1024 : Shape := ⟨2, ![8192, 1024]⟩
abbrev S8448x1024 : Shape := ⟨2, ![8448, 1024]⟩
abbrev S3x1024 : Shape := ⟨2, ![3, 1024]⟩
abbrev S1024x1024 : Shape := ⟨2, ![1024, 1024]⟩
abbrev S_ : Shape := ⟨0, ![]⟩
abbrev S8x1024 : Shape := ⟨2, ![8, 1024]⟩
abbrev S8192x4096 : Shape := ⟨2, ![8192, 4096]⟩
abbrev S512x1024 : Shape := ⟨2, ![512, 1024]⟩
abbrev S512x4096 : Shape := ⟨2, ![512, 4096]⟩
abbrev S1x1024 : Shape := ⟨2, ![1, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8448x1024, .bf16⟩
  | .hbm, ⟨2, _⟩ => ⟨S3x1024, .f32⟩
  | .hbm, ⟨3, _⟩ => ⟨S1024x1024, .bf16⟩
  | .hbm, ⟨4, _⟩ => ⟨S_, .i32⟩
  | .hbm, ⟨5, _⟩ => ⟨S_, .f32⟩
  | .hbm, ⟨6, _⟩ => ⟨S8x1024, .f32⟩
  | .hbm, ⟨7, _⟩ => ⟨S8192x4096, .bf16⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S8448x1024, .bf16⟩
  | .local _ .vmem, ⟨3, _⟩ => ⟨S8x1024, .f32⟩
  | .local _ .vmem, ⟨4, _⟩ => ⟨S1024x1024, .bf16⟩
  | .local _ .vmem, ⟨5, _⟩ => ⟨S512x4096, .bf16⟩
  | .local _ .vmem, ⟨6, _⟩ => ⟨S512x4096, .bf16⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8448x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x1024 : Shape := ⟨2, ![8192, 1024]⟩
abbrev S8448x1024 : Shape := ⟨2, ![8448, 1024]⟩
abbrev S3x1024 : Shape := ⟨2, ![3, 1024]⟩
abbrev S1024x1024 : Shape := ⟨2, ![1024, 1024]⟩
abbrev S4x2048x1024 : Shape := ⟨3, ![4, 2048, 1024]⟩
abbrev S1024x8448 : Shape := ⟨2, ![1024, 8448]⟩
abbrev S1024x4096 : Shape := ⟨2, ![1024, 4096]⟩
abbrev S4x2048x4096 : Shape := ⟨3, ![4, 2048, 4096]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S8192x4096 : Shape := ⟨2, ![8192, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8448x1024, .bf16⟩
  | .hbm, ⟨2, _⟩ => ⟨S3x1024, .f32⟩
  | .hbm, ⟨3, _⟩ => ⟨S1024x1024, .bf16⟩
  | .hbm, ⟨4, _⟩ => ⟨S8192x1024, .f32⟩
  | .hbm, ⟨5, _⟩ => ⟨S4x2048x1024, .f32⟩
  | .hbm, ⟨6, _⟩ => ⟨S8448x1024, .f32⟩
  | .hbm, ⟨7, _⟩ => ⟨S1024x8448, .f32⟩
  | .hbm, ⟨8, _⟩ => ⟨S1024x4096, .f32⟩
  | .hbm, ⟨9, _⟩ => ⟨S4x2048x4096, .f32⟩
  | .hbm, ⟨10, _⟩ => ⟨S1024x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2x1024, .f32⟩
  | .hbm, ⟨27, _⟩ => ⟨S4x2050x1024, .f32⟩
  | .hbm, ⟨28, _⟩ => ⟨S1x1024, .f32⟩
  | .hbm, ⟨29, _⟩ => ⟨S1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S1x1024, .f32⟩
  | .hbm, ⟨35, _⟩ => ⟨S1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S1x1024, .f32⟩
  | .hbm, ⟨42, _⟩ => ⟨S1024, .f32⟩
  | .hbm, ⟨43, _⟩ => ⟨S4x2048x1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S8192x4096, .f32⟩
  | .hbm, ⟨52, _⟩ => ⟨S8192x4096, .bf16⟩
  | .hbm, ⟨53, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S8448x1024 : Shape := ⟨2, ![8448, 1024]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S8192x256 : Shape := ⟨2, ![8192, 256]⟩
abbrev S8192x3072 : Shape := ⟨2, ![8192, 3072]⟩
abbrev S512x1024 : Shape := ⟨2, ![512, 1024]⟩
abbrev S512x128 : Shape := ⟨2, ![512, 128]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8448x1024, .bf16⟩
  | .hbm, ⟨3, _⟩ => ⟨S2048x32, .f32⟩
  | .hbm, ⟨4, _⟩ => ⟨S2048x32, .f32⟩
  | .hbm, ⟨5, _⟩ => ⟨S1x2048x1x32, .f32⟩
  | .hbm, ⟨6, _⟩ => ⟨S1x2048x4x32, .f32⟩
  | .hbm, ⟨7, _⟩ => ⟨S2048x128, .f32⟩
  | .hbm, ⟨8, _⟩ => ⟨S2048x32, .f32⟩
  | .hbm, ⟨9, _⟩ => ⟨S2048x64, .f32⟩
  | .hbm, ⟨10, _⟩ => ⟨S1x2048x1x64, .f32⟩
  | .hbm, ⟨11, _⟩ => ⟨S1x2048x2x64, .f32⟩
  | .hbm, ⟨12, _⟩ => ⟨S2048x128, .f32⟩
  | .hbm, ⟨13, _⟩ => ⟨S8192x1024, .bf16⟩
  | .hbm, ⟨14, _⟩ => ⟨S8192x1024, .bf16⟩
  | .hbm, ⟨15, _⟩ => ⟨S8192x256, .bf16⟩
  | .hbm, ⟨16, _⟩ => ⟨S8192x3072, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8448x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x256, .bf16⟩
  | .local _ .vmem, ⟨13, _⟩ => ⟨S512x256, .bf16⟩
  | .local _ .vmem, ⟨14, _⟩ => ⟨S512x3072, .f32⟩
  | .local _ .vmem, ⟨15, _⟩ => ⟨S512x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8448x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8192x1024 : Shape := ⟨2, ![8192, 1024]⟩
abbrev S1x1024 : Shape := ⟨2, ![1, 1024]⟩
abbrev S8448x1024 : Shape := ⟨2, ![8448, 1024]⟩
abbrev S2048x32 : Shape := ⟨2, ![2048, 32]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x8448 : Shape := ⟨2, ![1024, 8448]⟩
abbrev S4x2048x8448 : Shape := ⟨3, ![4, 2048, 8448]⟩
abbrev S4x2048x4352 : Shape := ⟨3, ![4, 2048, 4352]⟩
abbrev S4x2048x128 : Shape := ⟨3, ![4, 2048, 128]⟩
abbrev S4x2048x3072 : Shape := ⟨3, ![4, 2048, 3072]⟩
abbrev S4x2048x16x64 : Shape := ⟨4, ![4, 2048, 16, 64]⟩
abbrev S2048x1x32 : Shape := ⟨3, ![2048, 1, 32]⟩
abbrev S4x2048x16x32 : Shape := ⟨4, ![4, 2048, 16, 32]⟩
abbrev S1x2048x1x32 : Shape := ⟨4, ![1, 2048, 1, 32]⟩
abbrev S4x2048x2x64 : Shape := ⟨4, ![4, 2048, 2, 64]⟩
abbrev S4x2048x2x32 : Shape := ⟨4, ![4, 2048, 2, 32]⟩
abbrev S8192x128 : Shape := ⟨2, ![8192, 128]⟩
abbrev S8192x256 : Shape := ⟨2, ![8192, 256]⟩
abbrev S8192x3072 : Shape := ⟨2, ![8192, 3072]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8448x1024, .bf16⟩
  | .hbm, ⟨3, _⟩ => ⟨S2048x32, .f32⟩
  | .hbm, ⟨4, _⟩ => ⟨S2048x32, .f32⟩
  | .hbm, ⟨5, _⟩ => ⟨S4x2048x1024, .f32⟩
  | .hbm, ⟨6, _⟩ => ⟨S1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S8448x1024, .f32⟩
  | .hbm, ⟨24, _⟩ => ⟨S1024x8448, .f32⟩
  | .hbm, ⟨25, _⟩ => ⟨S4x2048x8448, .f32⟩
  | .hbm, ⟨26, _⟩ => ⟨S4x2048x4352, .f32⟩
  | .hbm, ⟨27, _⟩ => ⟨S4x2048x1024, .f32⟩
  | .hbm, ⟨28, _⟩ => ⟨S4x2048x128, .f32⟩
  | .hbm, ⟨29, _⟩ => ⟨S4x2048x128, .f32⟩
  | .hbm, ⟨30, _⟩ => ⟨S4x2048x3072, .f32⟩
  | .hbm, ⟨31, _⟩ => ⟨S4x2048x16x64, .f32⟩
  | .hbm, ⟨32, _⟩ => ⟨S2048x1x32, .f32⟩
  | .hbm, ⟨33, _⟩ => ⟨S2048x1x32, .f32⟩
  | .hbm, ⟨34, _⟩ => ⟨S4x2048x16x32, .f32⟩
  | .hbm, ⟨35, _⟩ => ⟨S4x2048x16x32, .f32⟩
  | .hbm, ⟨36, _⟩ => ⟨S1x2048x1x32, .f32⟩
  | .hbm, ⟨37, _⟩ => ⟨S4x2048x16x32, .f32⟩
  | .hbm, ⟨38, _⟩ => ⟨S4x2048x16x32, .f32⟩
  | .hbm, ⟨39, _⟩ => ⟨S1x2048x1x32, .f32⟩
  | .hbm, ⟨40, _⟩ => ⟨S4x2048x16x32, .f32⟩
  | .hbm, ⟨41, _⟩ => ⟨S4x2048x16x32, .f32⟩
  | .hbm, ⟨42, _⟩ => ⟨S4x2048x16x32, .f32⟩
  | .hbm, ⟨43, _⟩ => ⟨S1x2048x1x32, .f32⟩
  | .hbm, ⟨44, _⟩ => ⟨S4x2048x16x32, .f32⟩
  | .hbm, ⟨45, _⟩ => ⟨S4x2048x16x32, .f32⟩
  | .hbm, ⟨46, _⟩ => ⟨S1x2048x1x32, .f32⟩
  | .hbm, ⟨47, _⟩ => ⟨S4x2048x16x32, .f32⟩
  | .hbm, ⟨48, _⟩ => ⟨S4x2048x16x32, .f32⟩
  | .hbm, ⟨49, _⟩ => ⟨S4x2048x16x32, .f32⟩
  | .hbm, ⟨50, _⟩ => ⟨S4x2048x16x64, .f32⟩
  | .hbm, ⟨51, _⟩ => ⟨S_, .f32⟩
  | .hbm, ⟨52, _⟩ => ⟨S4x2048x16x64, .f32⟩
  | .hbm, ⟨53, _⟩ => ⟨S4x2048x16x64, .f32⟩
  | .hbm, ⟨54, _⟩ => ⟨S4x2048x2x64, .f32⟩
  | .hbm, ⟨55, _⟩ => ⟨S2048x1x32, .f32⟩
  | .hbm, ⟨56, _⟩ => ⟨S2048x1x32, .f32⟩
  | .hbm, ⟨57, _⟩ => ⟨S4x2048x2x32, .f32⟩
  | .hbm, ⟨58, _⟩ => ⟨S4x2048x2x32, .f32⟩
  | .hbm, ⟨59, _⟩ => ⟨S1x2048x1x32, .f32⟩
  | .hbm, ⟨60, _⟩ => ⟨S4x2048x2x32, .f32⟩
  | .hbm, ⟨61, _⟩ => ⟨S4x2048x2x32, .f32⟩
  | .hbm, ⟨62, _⟩ => ⟨S1x2048x1x32, .f32⟩
  | .hbm, ⟨63, _⟩ => ⟨S4x2048x2x32, .f32⟩
  | .hbm, ⟨64, _⟩ => ⟨S4x2048x2x32, .f32⟩
  | .hbm, ⟨65, _⟩ => ⟨S4x2048x2x32, .f32⟩
  | .hbm, ⟨66, _⟩ => ⟨S1x2048x1x32, .f32⟩
  | .hbm, ⟨67, _⟩ => ⟨S4x2048x2x32, .f32⟩
  | .hbm, ⟨68, _⟩ => ⟨S4x2048x2x32, .f32⟩
  | .hbm, ⟨69, _⟩ => ⟨S1x2048x1x32, .f32⟩
  | .hbm, ⟨70, _⟩ => ⟨S4x2048x2x32, .f32⟩
  | .hbm, ⟨71, _⟩ => ⟨S4x2048x2x32, .f32⟩
  | .hbm, ⟨72, _⟩ => ⟨S4x2048x2x32, .f32⟩
  | .hbm, ⟨73, _⟩ => ⟨S4x2048x2x64, .f32⟩
  | .hbm, ⟨74, _⟩ => ⟨S8192x128, .f32⟩
  | .hbm, ⟨75, _⟩ => ⟨S8192x128, .f32⟩
  | .hbm, ⟨76, _⟩ => ⟨S8192x256, .f32⟩
  | .hbm, ⟨77, _⟩ => ⟨S8192x1024, .f32⟩
  | .hbm, ⟨78, _⟩ => ⟨S8192x1024, .bf16⟩
  | .hbm, ⟨79, _⟩ => ⟨S8192x1024, .f32⟩
  | .hbm, ⟨80, _⟩ => ⟨S8192x1024, .bf16⟩
  | .hbm, ⟨81, _⟩ => ⟨S8192x256, .bf16⟩
  | .hbm, ⟨82, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩

abbrev nD : Nat := 1
abbrev τ : Topo := Topo.v7x

variable {F : FTy → Type} [FloatOps F]
-- ==== Kernel6.lean ====
abbrev S1056x1024 : Shape := ⟨2, ![1056, 1024]⟩
abbrev S3x1056x1024 : Shape := ⟨3, ![3, 1056, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1056x1024, .f32⟩
  | .hbm, ⟨1, _⟩ => ⟨S3x1056x1024, .bf16⟩
  | .hbm, ⟨2, _⟩ => ⟨S1056x1024, .f32⟩
  | .hbm, ⟨3, _⟩ => ⟨S1056x1024, .f32⟩
  | .hbm, ⟨4, _⟩ => ⟨S1056x1024, .f32⟩
  | .hbm, ⟨5, _⟩ => ⟨S1056x1024, .f32⟩
  | .hbm, ⟨6, _⟩ => ⟨S1056x1024, .f32⟩
  | .hbm, ⟨7, _⟩ => ⟨S1056x1024, .f32⟩
  | .hbm, ⟨8, _⟩ => ⟨S1056x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S1056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S1056x1024 : Shape := ⟨2, ![1056, 1024]⟩
abbrev S3x1056x1024 : Shape := ⟨3, ![3, 1056, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1056x1024, .f32⟩
  | .hbm, ⟨1, _⟩ => ⟨S3x1056x1024, .bf16⟩
  | .hbm, ⟨2, _⟩ => ⟨S1056x1024, .f32⟩
  | .hbm, ⟨3, _⟩ => ⟨S1056x1024, .f32⟩
  | .hbm, ⟨4, _⟩ => ⟨S1056x1024, .f32⟩
  | .hbm, ⟨5, _⟩ => ⟨S3x1056x1024, .f32⟩
  | .hbm, ⟨6, _⟩ => ⟨S_, .f32⟩
  | .hbm, ⟨7, _⟩ => ⟨S1056x1024, .f32⟩
  | .hbm, ⟨8, _⟩ => ⟨S1056x1024, .f32⟩
  | .hbm, ⟨9, _⟩ => ⟨S_, .f32⟩
  | .hbm, ⟨10, _⟩ => ⟨S1056x1024, .f32⟩
  | .hbm, ⟨11, _⟩ => ⟨S1056x1024, .f32⟩
  | .hbm, ⟨12, _⟩ => ⟨S_, .f32⟩
  | .hbm, ⟨13, _⟩ => ⟨S1056x1024, .f32⟩
  | .hbm, ⟨14, _⟩ => ⟨S1056x1024, .f32⟩
  | .hbm, ⟨15, _⟩ => ⟨S1056x1024, .f32⟩
  | .hbm, ⟨16, _⟩ => ⟨S_, .f32⟩
  | .hbm, ⟨17, _⟩ => ⟨S1056x1024, .f32⟩
  | .hbm, ⟨18, _⟩ => ⟨S1056x1024, .f32⟩
  | .hbm, ⟨19, _⟩ => ⟨S1056x1024, .f32⟩
  | .hbm, ⟨20, _⟩ => ⟨S_, .f32⟩
  | .hbm, ⟨21, _⟩ => ⟨S1056x1024, .f32⟩
  | .hbm, ⟨22, _⟩ => ⟨S1056x1024, .f32⟩
  | .hbm, ⟨23, _⟩ => ⟨S1056x1024, .f32⟩
  | .hbm, ⟨24, _⟩ => ⟨S_, .f32⟩
  | .hbm, ⟨25, _⟩ => ⟨S1056x1024, .f32⟩
  | .hbm, ⟨26, _⟩ => ⟨S1056x1024, .f32⟩
  | .hbm, ⟨27, _⟩ => ⟨S_, .f32⟩
  | .hbm, ⟨28, _⟩ => ⟨S1056x1024, .f32⟩
  | .hbm, ⟨29, _⟩ => ⟨S1056x1024, .f32⟩
  | .hbm, ⟨30, _⟩ => ⟨S1056x1024, .f32⟩
  | .hbm, ⟨31, _⟩ => ⟨S_, .f32⟩
  | .hbm, ⟨32, _⟩ => ⟨S1056x1024, .f32⟩
  | .hbm, ⟨33, _⟩ => ⟨S1056x1024, .f32⟩
  | .hbm, ⟨34, _⟩ => ⟨S1056x1024, .f32⟩
  | .hbm, ⟨35, _⟩ => ⟨S_, .f32⟩
  | .hbm, ⟨36, _⟩ => ⟨S1056x1024, .f32⟩
  | .hbm, ⟨37, _⟩ => ⟨S1056x1024, .f32⟩
  | .hbm, ⟨38, _⟩ => ⟨S1056x1024, .f32⟩
  | .hbm, ⟨39, _⟩ => ⟨S_, .f32⟩
  | .hbm, ⟨40, _⟩ => ⟨S1056x1024, .f32⟩
  | .hbm, ⟨41, _⟩ => ⟨S1056x1024, .f32⟩
  | _, _ => ⟨S1056x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel7.lean ====
abbrev S128x1024 : Shape := ⟨2, ![128, 1024]⟩
abbrev S3x128x1024 : Shape := ⟨3, ![3, 128, 1024]⟩
abbrev S32x1024 : Shape := ⟨2, ![32, 1024]⟩
abbrev S3x32x1024 : Shape := ⟨3, ![3, 32, 1024]⟩
abbrev S1x32x1024 : Shape := ⟨3, ![1, 32, 1024]⟩

abbrev nBuf : Space → Nat
  | .hbm => 27
  | .vmem => 54
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S3x128x1024, .bf16⟩
  | .hbm, ⟨4, _⟩ => ⟨S3x128x1024, .bf16⟩
  | .hbm, ⟨5, _⟩ => ⟨S3x128x1024, .bf16⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S3x32x1024, .bf16⟩
  | .local _ .vmem, ⟨7, _⟩ => ⟨S3x32x1024, .bf16⟩
  | .local _ .vmem, ⟨8, _⟩ => ⟨S3x32x1024, .bf16⟩
  | .local _ .vmem, ⟨9, _⟩ => ⟨S3x32x1024, .bf16⟩
  | .local _ .vmem, ⟨10, _⟩ => ⟨S3x32x1024, .bf16⟩
  | .local _ .vmem, ⟨11, _⟩ => ⟨S3x32x1024, .bf16⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | .local _ .vmem, ⟨21, _⟩ => ⟨S32x1024, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S32x1024, .f32⟩
  | .local _ .vmem, ⟨30, _⟩ => ⟨S32x1024, .f32⟩
  | .local _ .vmem, ⟨31, _⟩ => ⟨S32x1024, .f32⟩
  | .local _ .vmem, ⟨32, _⟩ => ⟨S32x1024, .f32⟩
  | .local _ .vmem, ⟨33, _⟩ => ⟨S32x1024, .f32⟩
  | .local _ .vmem, ⟨34, _⟩ => ⟨S32x1024, .f32⟩
  | .local _ .vmem, ⟨35, _⟩ => ⟨S32x1024, .f32⟩
  | .local _ .vmem, ⟨36, _⟩ => ⟨S32x1024, .f32⟩
  | .local _ .vmem, ⟨37, _⟩ => ⟨S32x1024, .f32⟩
  | .local _ .vmem, ⟨38, _⟩ => ⟨S32x1024, .f32⟩
  | .local _ .vmem, ⟨39, _⟩ => ⟨S32x1024, .f32⟩
  | .local _ .vmem, ⟨40, _⟩ => ⟨S32x1024, .f32⟩
  | .local _ .vmem, ⟨41, _⟩ => ⟨S32x1024, .f32⟩
  | .local _ .vmem, ⟨42, _⟩ => ⟨S32x1024, .f32⟩
  | .local _ .vmem, ⟨43, _⟩ => ⟨S32x1024, .f32⟩
  | .local _ .vmem, ⟨44, _⟩ => ⟨S32x1024, .f32⟩
  | .local _ .vmem, ⟨45, _⟩ => ⟨S32x1024, .f32⟩
  | .local _ .vmem, ⟨46, _⟩ => ⟨S32x1024, .f32⟩
  | .local _ .vmem, ⟨47, _⟩ => ⟨S32x1024, .f32⟩
  | .local _ .vmem, ⟨48, _⟩ => ⟨S32x1024, .f32⟩
  | .local _ .vmem, ⟨49, _⟩ => ⟨S32x1024, .f32⟩
  | .local _ .vmem, ⟨50, _⟩ => ⟨S32x1024, .f32⟩
  | .local _ .vmem, ⟨51, _⟩ => ⟨S32x1024, .f32⟩
  | .local _ .vmem, ⟨52, _⟩ => ⟨S32x1024, .f32⟩
  | .local _ .vmem, ⟨53, _⟩ => ⟨S32x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev main_v0_11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S32x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S32x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S32x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S32x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S32x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Reference7Ideal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 126
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S3x128x1024, .bf16⟩
  | .hbm, ⟨4, _⟩ => ⟨S3x128x1024, .bf16⟩
  | .hbm, ⟨5, _⟩ => ⟨S3x128x1024, .bf16⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S3x128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S3x128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S3x128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S_, .f32⟩
  | .hbm, ⟨50, _⟩ => ⟨S128x1024, .f32⟩
  | .hbm, ⟨51, _⟩ => ⟨S128x1024, .f32⟩
  | .hbm, ⟨52, _⟩ => ⟨S128x1024, .f32⟩
  | .hbm, ⟨53, _⟩ => ⟨S_, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S_, .f32⟩
  | .hbm, ⟨58, _⟩ => ⟨S128x1024, .f32⟩
  | .hbm, ⟨59, _⟩ => ⟨S128x1024, .f32⟩
  | .hbm, ⟨60, _⟩ => ⟨S_, .f32⟩
  | .hbm, ⟨61, _⟩ => ⟨S128x1024, .f32⟩
  | .hbm, ⟨62, _⟩ => ⟨S128x1024, .f32⟩
  | .hbm, ⟨63, _⟩ => ⟨S_, .f32⟩
  | .hbm, ⟨64, _⟩ => ⟨S128x1024, .f32⟩
  | .hbm, ⟨65, _⟩ => ⟨S128x1024, .f32⟩
  | .hbm, ⟨66, _⟩ => ⟨S128x1024, .f32⟩
  | .hbm, ⟨67, _⟩ => ⟨S_, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S_, .f32⟩
  | .hbm, ⟨72, _⟩ => ⟨S128x1024, .f32⟩
  | .hbm, ⟨73, _⟩ => ⟨S128x1024, .f32⟩
  | .hbm, ⟨74, _⟩ => ⟨S128x1024, .f32⟩
  | .hbm, ⟨75, _⟩ => ⟨S_, .f32⟩
  | .hbm, ⟨76, _⟩ => ⟨S128x1024, .f32⟩
  | .hbm, ⟨77, _⟩ => ⟨S128x1024, .f32⟩
  | .hbm, ⟨78, _⟩ => ⟨S_, .f32⟩
  | .hbm, ⟨79, _⟩ => ⟨S128x1024, .f32⟩
  | .hbm, ⟨80, _⟩ => ⟨S128x1024, .f32⟩
  | .hbm, ⟨81, _⟩ => ⟨S128x1024, .f32⟩
  | .hbm, ⟨82, _⟩ => ⟨S_, .f32⟩
  | .hbm, ⟨83, _⟩ => ⟨S128x1024, .f32⟩
  | .hbm, ⟨84, _⟩ => ⟨S128x1024, .f32⟩
  | .hbm, ⟨85, _⟩ => ⟨S128x1024, .f32⟩
  | .hbm, ⟨86, _⟩ => ⟨S_, .f32⟩
  | .hbm, ⟨87, _⟩ => ⟨S128x1024, .f32⟩
  | .hbm, ⟨88, _⟩ => ⟨S128x1024, .f32⟩
  | .hbm, ⟨89, _⟩ => ⟨S128x1024, .f32⟩
  | .hbm, ⟨90, _⟩ => ⟨S_, .f32⟩
  | .hbm, ⟨91, _⟩ => ⟨S128x1024, .f32⟩
  | .hbm, ⟨92, _⟩ => ⟨S128x1024, .f32⟩
  | .hbm, ⟨93, _⟩ => ⟨S_, .f32⟩
  | .hbm, ⟨94, _⟩ => ⟨S128x1024, .f32⟩
  | .hbm, ⟨95, _⟩ => ⟨S128x1024, .f32⟩
  | .hbm, ⟨96, _⟩ => ⟨S_, .f32⟩
  | .hbm, ⟨97, _⟩ => ⟨S128x1024, .f32⟩
  | .hbm, ⟨98, _⟩ => ⟨S128x1024, .f32⟩
  | .hbm, ⟨99, _⟩ => ⟨S128x1024, .f32⟩
  | .hbm, ⟨100, _⟩ => ⟨S_, .f32⟩
  | .hbm, ⟨101, _⟩ => ⟨S128x1024, .f32⟩
  | .hbm, ⟨102, _⟩ => ⟨S128x1024, .f32⟩
  | .hbm, ⟨103, _⟩ => ⟨S128x1024, .f32⟩
  | .hbm, ⟨104, _⟩ => ⟨S_, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S_, .f32⟩
  | .hbm, ⟨109, _⟩ => ⟨S128x1024, .f32⟩
  | .hbm, ⟨110, _⟩ => ⟨S128x1024, .f32⟩
  | .hbm, ⟨111, _⟩ => ⟨S_, .f32⟩
  | .hbm, ⟨112, _⟩ => ⟨S128x1024, .f32⟩
  | .hbm, ⟨113, _⟩ => ⟨S128x1024, .f32⟩
  | .hbm, ⟨114, _⟩ => ⟨S128x1024, .f32⟩
  | .hbm, ⟨115, _⟩ => ⟨S_, .f32⟩
  | .hbm, ⟨116, _⟩ => ⟨S128x1024, .f32⟩
  | .hbm, ⟨117, _⟩ => ⟨S128x1024, .f32⟩
  | .hbm, ⟨118, _⟩ => ⟨S128x1024, .f32⟩
  | .hbm, ⟨119, _⟩ => ⟨S_, .f32⟩
  | .hbm, ⟨120, _⟩ => ⟨S128x1024, .f32⟩
  | .hbm, ⟨121, _⟩ => ⟨S128x1024, .f32⟩
  | .hbm, ⟨122, _⟩ => ⟨S128x1024, .f32⟩
  | .hbm, ⟨123, _⟩ => ⟨S_, .f32⟩
  | .hbm, ⟨124, _⟩ => ⟨S128x1024, .f32⟩
  | .hbm, ⟨125, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_cst_7 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_9 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_10 : Ref sig .tc := ⟨.hbm, 57, rfl⟩
abbrev main_v31 : Ref sig .tc := ⟨.hbm, 58, rfl⟩
abbrev main_v32 : Ref sig .tc := ⟨.hbm, 59, rfl⟩
abbrev main_cst_11 : Ref sig .tc := ⟨.hbm, 60, rfl⟩
abbrev main_v33 : Ref sig .tc := ⟨.hbm, 61, rfl⟩
abbrev main_v34 : Ref sig .tc := ⟨.hbm, 62, rfl⟩
abbrev main_cst_12 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_13 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_14 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_15 : Ref sig .tc := ⟨.hbm, 75, rfl⟩
abbrev main_v44 : Ref sig .tc := ⟨.hbm, 76, rfl⟩
abbrev main_v45 : Ref sig .tc := ⟨.hbm, 77, rfl⟩
abbrev main_cst_16 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_17 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_18 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_19 : Ref sig .tc := ⟨.hbm, 90, rfl⟩
abbrev main_v55 : Ref sig .tc := ⟨.hbm, 91, rfl⟩
abbrev main_v56 : Ref sig .tc := ⟨.hbm, 92, rfl⟩
abbrev main_cst_20 : Ref sig .tc := ⟨.hbm, 93, rfl⟩
abbrev main_v57 : Ref sig .tc := ⟨.hbm, 94, rfl⟩
abbrev main_v58 : Ref sig .tc := ⟨.hbm, 95, rfl⟩
abbrev main_cst_21 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_22 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_23 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_24 : Ref sig .tc := ⟨.hbm, 108, rfl⟩
abbrev main_v68 : Ref sig .tc := ⟨.hbm, 109, rfl⟩
abbrev main_v69 : Ref sig .tc := ⟨.hbm, 110, rfl⟩
abbrev main_cst_25 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_26 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_27 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_28 : Ref sig .tc := ⟨.hbm, 123, rfl⟩
abbrev main_v79 : Ref sig .tc := ⟨.hbm, 124, rfl⟩
abbrev main_v80 : Ref sig .tc := ⟨.hbm, 125, rfl⟩

abbrev nD : Nat := 1
abbrev τ : Topo := Topo.v7x

variable {F : FTy → Type} [FloatOps F]
-- ==== Proof.Conds.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first grid step: the accumulators are cleared. -/
abbrev condFirst (i : grid0.Coords) : Prop :=
  Scalar.cmpi .ne (Scalar.extui (Scalar.cmpi .eq (BitVec.ofNat 32 (i 0).val) 0#32) : BitVec 32) 0#32 = 1#1
/-- The last grid step: the accumulated weight gradient is sent out. -/
abbrev condLast (i : grid0.Coords) : Prop :=
  Scalar.cmpi .ne (Scalar.extui (Scalar.cmpi .eq (BitVec.ofNat 32 (i 0).val) 15#32) : BitVec 32) 0#32 = 1#1

end Cert.KernelIdeal.Hand

end
-- ==== Proof.Tile.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import Idealize.ShloMosaic.Lib.VecWindow
public import Idealize.ShloMosaic.Lib.Pipeline.Value
public import proofs.«01_k».proof.Proof.Conds

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What one grid point reads: the tile's 512 rows of the incoming gradient and of the four columns of the saved
array, the sixteen rows before the tile, the taps, the output projection and the tile's rows of the layer's input. -/
structure Ins (F : FTy → Type) [FloatOps F] where
  dya : Vec F S512x1024 .bf16
  xc : Vec F S512x1024 .bf16
  bg : Vec F S512x1024 .bf16
  cg : Vec F S512x1024 .bf16
  zc : Vec F S512x1024 .bf16
  xcp : Vec F S16x1024 .bf16
  cgp : Vec F S16x1024 .bf16
  w : Vec F S8x1024 .f32
  wpc : Vec F S1024x1024 .bf16
  h : Vec F S512x1024 .bf16

/-- The upper half of a tile (rows 256 to 511), its lower half (rows 0 to 255), the last two rows before the upper
half and the last two rows of the sixteen before the tile; a row of the taps. -/
def hi (x : Vec F S512x1024 .bf16) : Vec F S256x1024 .bf16 :=
  View.ld (Val := Elt F) (e' := .bf16) x (Rect.unit (s := S512x1024) ![256, 0] S256x1024.size inb_S512x1024_S256x1024_256_0)
def lo (x : Vec F S512x1024 .bf16) : Vec F S256x1024 .bf16 :=
  View.ld (Val := Elt F) (e' := .bf16) x (Rect.unit (s := S512x1024) ![0, 0] S256x1024.size inb_S512x1024_S256x1024_0_0)
def tail2 (x : Vec F S512x1024 .bf16) : Vec F S2x1024 .bf16 :=
  View.ld (Val := Elt F) (e' := .bf16) x (Rect.unit (s := S512x1024) ![254, 0] S2x1024.size inb_S512x1024_S2x1024_254_0)
def prev2 (x : Vec F S16x1024 .bf16) : Vec F S2x1024 .bf16 :=
  View.ld (Val := Elt F) (e' := .bf16) x (Rect.unit (s := S16x1024) ![14, 0] S2x1024.size inb_S16x1024_S2x1024_14_0)
def tap0 (x : Vec F S8x1024 .f32) : Vec F S1x1024 .f32 :=
  View.ld (Val := Elt F) (e' := .f32) x (Rect.unit (s := S8x1024) ![0, 0] S1x1024.size inb_S8x1024_S1x1024_0_0)
def tap1 (x : Vec F S8x1024 .f32) : Vec F S1x1024 .f32 :=
  View.ld (Val := Elt F) (e' := .f32) x (Rect.unit (s := S8x1024) ![1, 0] S1x1024.size inb_S8x1024_S1x1024_1_0)
def tap2 (x : Vec F S8x1024 .f32) : Vec F S1x1024 .f32 :=
  View.ld (Val := Elt F) (e' := .f32) x (Rect.unit (s := S8x1024) ![2, 0] S1x1024.size inb_S8x1024_S1x1024_2_0)
def rows3 (x : Vec F S8x1024 .f32) : Vec F S3x1024 .f32 :=
  View.ld (Val := Elt F) (e' := .f32) x (Rect.unit (s := S8x1024) ![0, 0] S3x1024.size inb_S8x1024_S3x1024_0_0)
def acc0 (x : Vec F S4096x1024 .f32) : Vec F S1024x1024 .f32 :=
  View.ld (Val := Elt F) (e' := .f32) x (Rect.unit (s := S4096x1024) ![0, 0] S1024x1024.size inb_S4096x1024_S1024x1024_0_0)
def acc1 (x : Vec F S4096x1024 .f32) : Vec F S1024x1024 .f32 :=
  View.ld (Val := Elt F) (e' := .f32) x (Rect.unit (s := S4096x1024) ![1024, 0] S1024x1024.size inb_S4096x1024_S1024x1024_1024_0)
def acc2 (x : Vec F S4096x1024 .f32) : Vec F S1024x1024 .f32 :=
  View.ld (Val := Elt F) (e' := .f32) x (Rect.unit (s := S4096x1024) ![2048, 0] S1024x1024.size inb_S4096x1024_S1024x1024_2048_0)
def acc3 (x : Vec F S4096x1024 .f32) : Vec F S1024x1024 .f32 :=
  View.ld (Val := Elt F) (e' := .f32) x (Rect.unit (s := S4096x1024) ![3072, 0] S1024x1024.size inb_S4096x1024_S1024x1024_3072_0)
def col0 (x : Vec F S512x4096 .bf16) : Vec F S512x1024 .bf16 :=
  fun j => x ((Rect.unit (s := S512x4096) ![0, 0] S512x1024.size inb_S512x4096_S512x1024_0_0).toLoadRect.idx j)
def col1 (x : Vec F S512x4096 .bf16) : Vec F S512x1024 .bf16 :=
  fun j => x ((Rect.unit (s := S512x4096) ![0, 1024] S512x1024.size inb_S512x4096_S512x1024_0_1024).toLoadRect.idx j)
def col2 (x : Vec F S512x4096 .bf16) : Vec F S512x1024 .bf16 :=
  fun j => x ((Rect.unit (s := S512x4096) ![0, 2048] S512x1024.size inb_S512x4096_S512x1024_0_2048).toLoadRect.idx j)
def col3 (x : Vec F S512x4096 .bf16) : Vec F S512x1024 .bf16 :=
  fun j => x ((Rect.unit (s := S512x4096) ![0, 3072] S512x1024.size inb_S512x4096_S512x1024_0_3072).toLoadRect.idx j)

theorem col0_fun (x : Vec F S512x4096 .bf16) : col0 x = fun j => x ((Rect.unit (s := S512x4096) ![0, 0] S512x1024.size inb_S512x4096_S512x1024_0_0).toLoadRect.idx j) := rfl
theorem col1_fun (x : Vec F S512x4096 .bf16) : col1 x = fun j => x ((Rect.unit (s := S512x4096) ![0, 1024] S512x1024.size inb_S512x4096_S512x1024_0_1024).toLoadRect.idx j) := rfl
theorem col2_fun (x : Vec F S512x4096 .bf16) : col2 x = fun j => x ((Rect.unit (s := S512x4096) ![0, 2048] S512x1024.size inb_S512x4096_S512x1024_0_2048).toLoadRect.idx j) := rfl
theorem col3_fun (x : Vec F S512x4096 .bf16) : col3 x = fun j => x ((Rect.unit (s := S512x4096) ![0, 3072] S512x1024.size inb_S512x4096_S512x1024_0_3072).toLoadRect.idx j) := rfl

namespace Ins

variable (b : Ins F) (i : grid0.Coords) (L : Vec F S8x1024 .f32)

/-! The upper half: the gated input and its two shifts, the convolution's first two taps, the gradient at the
convolution's output, and the four columns of the gradient. -/
def uH : FVec F S256x1024 .f32 := k0_pay33 (hi b.xc) (hi b.cg)
def um1H : FVec F S256x1024 .f32 := k0_pay34 (k0_pay26 (tail2 b.cg)) (tail2 b.xc) (hi b.xc) (hi b.cg)
def um2H : FVec F S256x1024 .f32 := k0_pay35 (k0_pay26 (tail2 b.cg)) (tail2 b.xc) (hi b.xc) (hi b.cg)
def preH : FVec F S256x1024 .f32 :=
  k0_pay36 (k0_pay26 (tail2 b.cg)) (tail2 b.xc) (hi b.xc) (hi b.cg) (tap0 b.w) (tap1 b.w)
def bgH : FVec F S256x1024 .f32 := k0_pay29 (hi b.bg)
def zcH : FVec F S256x1024 .f32 := k0_pay31 (hi b.zc)
def dycH : FVec F S256x1024 .f32 := k0_pay46 b.bgH b.zcH (hi b.dya) b.wpc
def laterH : FVec F S8x1024 .f32 := k0_pay24 i L
def uaH : FVec F S256x1024 .bf16 := k0_pay41 b.bgH b.zcH b.uH b.preH (tap2 b.w)
def dzcH : FVec F S256x1024 .bf16 := k0_pay43 b.bgH b.zcH b.uH b.preH (tap2 b.w) (hi b.dya) b.wpc
def dbgH : FVec F S256x1024 .bf16 := k0_pay45 b.zcH b.uH b.preH (tap2 b.w) (hi b.dya) b.wpc
def dxcH : FVec F S256x1024 .bf16 :=
  k0_pay51 (laterH i L) (k0_pay30 (hi b.cg)) b.dycH (tap2 b.w) (tap1 b.w) (tap0 b.w)
def dcgH : FVec F S256x1024 .bf16 :=
  k0_pay52 (laterH i L) (k0_pay28 (hi b.xc)) b.dycH (tap2 b.w) (tap1 b.w) (tap0 b.w)
def dwcH : FVec F S3x1024 .f32 :=
  k0_pay49 b.uH b.dycH (k0_pay47 b.bgH b.zcH b.um2H (hi b.dya) b.wpc) (k0_pay48 b.bgH b.zcH b.um1H (hi b.dya) b.wpc)

/-! The lower half, the same from the rows before the tile and from the upper half's first rows. -/
def uL : FVec F S256x1024 .f32 := k0_pay61 (lo b.xc) (lo b.cg)
def um1L : FVec F S256x1024 .f32 := k0_pay62 (k0_pay23 i) (prev2 b.cgp) (prev2 b.xcp) (lo b.xc) (lo b.cg)
def um2L : FVec F S256x1024 .f32 := k0_pay63 (k0_pay23 i) (prev2 b.cgp) (prev2 b.xcp) (lo b.xc) (lo b.cg)
def bgL : FVec F S256x1024 .f32 := k0_pay57 (lo b.bg)
def zcL : FVec F S256x1024 .f32 := k0_pay59 (lo b.zc)
def dcoL : FVec F S256x1024 .f32 := k0_pay71 b.zcL (lo b.dya) b.wpc
def dycL : FVec F S256x1024 .f32 := k0_pay73 b.bgL b.dcoL
def uaL : FVec F S256x1024 .bf16 :=
  k0_pay68 b.bgL b.zcL b.uL (b.um1L i) (b.um2L i) (tap0 b.w) (tap1 b.w) (tap2 b.w)
def dzcL : FVec F S256x1024 .bf16 :=
  k0_pay70 b.bgL b.zcL b.uL (b.um1L i) (b.um2L i) (tap0 b.w) (tap1 b.w) (tap2 b.w) (lo b.dya) b.wpc
def dbgL : FVec F S256x1024 .bf16 :=
  k0_pay72 b.zcL b.uL (b.um1L i) (b.um2L i) (tap0 b.w) (tap1 b.w) (tap2 b.w) (lo b.dya) b.wpc
def duL : FVec F S256x1024 .f32 := k0_pay75 (k0_pay53 b.dycH) b.bgL b.dcoL (tap2 b.w) (tap1 b.w) (tap0 b.w)
def dxcL : FVec F S256x1024 .bf16 := k0_pay76 (k0_pay58 (lo b.cg)) b.duL
def dcgL : FVec F S256x1024 .bf16 := k0_pay77 (k0_pay56 (lo b.xc)) b.duL
def dwcL : FVec F S3x1024 .f32 := k0_pay74 b.bgL b.uL (b.um1L i) (b.um2L i) b.dcoL

/-- The tile of the gradient the point leaves. -/
def da4 : Vec F S512x4096 .bf16 :=
  (View.canon (Val := Elt F) (s := S512x4096) (e := .bf16)
    [⟨Rect.unit ![0, 2048] S256x1024.size inb_S512x4096_S256x1024_0_2048, b.dcgL⟩,
     ⟨Rect.unit ![0, 0] S256x1024.size inb_S512x4096_S256x1024_0_0, b.dxcL⟩,
     ⟨Rect.unit ![0, 1024] S256x1024.size inb_S512x4096_S256x1024_0_1024, b.dbgL i⟩,
     ⟨Rect.unit ![0, 3072] S256x1024.size inb_S512x4096_S256x1024_0_3072, b.dzcL i⟩,
     ⟨Rect.unit ![256, 2048] S256x1024.size inb_S512x4096_S256x1024_256_2048, b.dcgH i L⟩,
     ⟨Rect.unit ![256, 0] S256x1024.size inb_S512x4096_S256x1024_256_0, b.dxcH i L⟩,
     ⟨Rect.unit ![256, 1024] S256x1024.size inb_S512x4096_S256x1024_256_1024, b.dbgH⟩,
     ⟨Rect.unit ![256, 3072] S256x1024.size inb_S512x4096_S256x1024_256_3072, b.dzcH⟩])
/-- The gradient of the output projection with the point's added. -/
def dwpc (D : Vec F S1024x1024 .f32) : Vec F S1024x1024 .f32 := k0_pay79 b.uaH (b.uaL i) D b.dya
/-- The gradient of the taps with the point's added to its first three rows. -/
def dwc (C : Vec F S8x1024 .f32) : Vec F S8x1024 .f32 :=
  VecWindow.put C ![0, 0] S3x1024.size (k0_pay80 (k0_pay54 k0_pay25 b.dwcH) (b.dwcL i) (rows3 C))
/-- The accumulated gradient of the input projection with the point's added, one block of rows a column. -/
def acc (A : Vec F S4096x1024 .f32) : Vec F S4096x1024 .f32 :=
  View.canon (Val := Elt F) (s := S4096x1024) (e := .f32)
    [⟨Rect.unit ![3072, 0] S1024x1024.size inb_S4096x1024_S1024x1024_3072_0, k0_pay85 (acc3 A) (col3 (b.da4 i L)) b.h⟩,
     ⟨Rect.unit ![2048, 0] S1024x1024.size inb_S4096x1024_S1024x1024_2048_0, k0_pay84 (acc2 A) (col2 (b.da4 i L)) b.h⟩,
     ⟨Rect.unit ![1024, 0] S1024x1024.size inb_S4096x1024_S1024x1024_1024_0, k0_pay83 (acc1 A) (col1 (b.da4 i L)) b.h⟩,
     ⟨Rect.unit ![0, 0] S1024x1024.size inb_S4096x1024_S1024x1024_0_0, k0_pay82 (k0_pay81 (acc0 A) (col0 (b.da4 i L)) b.h)⟩]
/-- The rows the next point's upper half needs. -/
def later : Vec F S8x1024 .f32 := k0_pay78 b.dycL

end Ins

theorem offs0 : (![0, 0] : Fin 2 → Nat) = fun _ => 0 := funext fun a => by fin_cases a <;> rfl

end Cert.KernelIdeal.Hand

end
-- ==== Proof.Spec.lean ====
module

public import Idealize.ShloMosaic.Lib.Pointwise
public import Idealize.ShloMosaic.Lib.Pipeline.ValueKit

@[expose] public section

noncomputable section

namespace Cert.Proof

open Idealize.ShloMosaic

/-! ## The gradients as functions of a token and a channel

A token is a natural number (`2048 · sequence + position`); what a program reads is one total function for each array.
The functions follow the order in which the kernel adds and multiplies. -/

/-- What the gradients are computed from: the incoming gradient, the four column blocks of the saved projection, the
hidden state, the three taps of the convolution and the output projection. -/
structure Arr where
  dy : ℕ → Fin 1024 → EReal
  x : ℕ → Fin 1024 → EReal
  B : ℕ → Fin 1024 → EReal
  C : ℕ → Fin 1024 → EReal
  z : ℕ → Fin 1024 → EReal
  h : ℕ → Fin 1024 → EReal
  w : Fin 3 → Fin 1024 → EReal
  wp : Fin 1024 → Fin 1024 → EReal

namespace Arr

variable (a : Arr) (T : ℕ) (d : Fin 1024)

/-- The gated input of the convolution, and the same one and two tokens earlier in the sequence. -/
def u : EReal := a.C T d * a.x T d
def m1 : EReal := if T % 2048 = 0 then 0 else a.u (T - 1) d
def m2 : EReal := if T % 2048 < 2 then 0 else a.u (T - 2) d
/-- The convolution: the two earlier taps, then all three. -/
def pre : EReal := a.w 0 d * a.m2 T d + a.w 1 d * a.m1 T d
def yc : EReal := a.pre T d + a.w 2 d * a.u T d
/-- The logistic function of the gate, and the gate's activation. -/
def sg : EReal := Ideal.div 1 (1 + Ideal.exp (0 - a.z T d))
def sz : EReal := a.z T d * a.sg T d
def co : EReal := a.B T d * a.yc T d
/-- The operand of the output projection and its gradient. -/
def ua : EReal := a.sz T d * a.co T d
def dua : EReal := ∑ e, a.dy T e * a.wp d e
def ct : EReal := a.dua T d * a.co T d
def dz : EReal := a.ct T d * (a.sg T d * (1 + a.z T d * (1 - a.sg T d)))
def dco : EReal := a.dua T d * a.sz T d
def dB : EReal := a.dco T d * a.yc T d
/-- The gradient of the convolution's output, and the same one and two tokens later in the sequence. -/
def dyc : EReal := a.dco T d * a.B T d
def p1 : EReal := if T % 2048 = 2047 then 0 else a.dyc (T + 1) d
def p2 : EReal := if 2046 ≤ T % 2048 then 0 else a.dyc (T + 2) d
def du : EReal := a.w 2 d * a.dyc T d + a.w 1 d * a.p1 T d + a.w 0 d * a.p2 T d
def dx : EReal := a.du T d * a.C T d
def dC : EReal := a.du T d * a.x T d
/-- The gradient of the saved projection, column block `k`. -/
def da (k : Fin 4) : EReal := ![a.dx T d, a.dB T d, a.dC T d, a.dz T d] k
/-- What one token adds to the gradient of tap `k`. -/
def dw (k : Fin 3) : EReal := ![a.dyc T d * a.m2 T d, a.dyc T d * a.m1 T d, a.dyc T d * a.u T d] k

/-! The five results: the gradient of the saved projection, of the output projection, of the taps (in eight rows), and
the transposed gradient of the input projection. -/
def gP (T c : ℕ) : EReal := a.da T ⟨c % 1024, by omega⟩ ⟨c / 1024 % 4, by omega⟩
def gW (p e : Fin 1024) : EReal := ∑ T : Fin 8192, a.ua T.val p * a.dy T.val e
def gC (k : ℕ) (d : Fin 1024) : EReal := if h : k < 3 then ∑ T : Fin 8192, a.dw T.val d ⟨k, h⟩ else 0
def gU (r : ℕ) (e : Fin 1024) : EReal := ∑ T : Fin 8192, a.gP T.val r * a.h T.val e

/-- The same from arrays over 8192 tokens; outside them nothing. -/
def total {α : Type} (f : Fin 8192 → α → EReal) (T : ℕ) (d : α) : EReal := if h : T < 8192 then f ⟨T, h⟩ d else 0
theorem total_of_lt {α : Type} (f : Fin 8192 → α → EReal) (T : ℕ) (h : T < 8192) (d : α) : total f T d = f ⟨T, h⟩ d := dif_pos h

def of (dy : Fin 8192 → Fin 1024 → EReal) (p : Fin 8192 → Fin 4096 → EReal) (h : Fin 8192 → Fin 1024 → EReal)
    (w : Fin 3 → Fin 1024 → EReal) (wp : Fin 1024 → Fin 1024 → EReal) : Arr where
  dy := total dy
  x := total fun T d => p T ⟨d.val, by omega⟩
  B := total fun T d => p T ⟨1024 + d.val, by omega⟩
  C := total fun T d => p T ⟨2048 + d.val, by omega⟩
  z := total fun T d => p T ⟨3072 + d.val, by omega⟩
  h := total h
  w := w
  wp := wp

end Arr

/-- The derivative of `z ↦ z · σ(z)` in the two forms. -/
theorem silu_grad (z c s : ℝ) :
    (c : EReal) * s + (z : EReal) * c * (s * (1 - s)) = c * (s * (1 + z * (1 - s))) := by
  norm_cast
  congr 1
  ring

end Cert.Proof
-- ==== Proof.Halves.lean ====
module

public import proofs.«01_k».proof.Proof.Tile
public import proofs.«01_k».proof.Proof.Spec
public import Idealize.ShloMosaic.Lib.WordCmp
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

/-- A row chosen by comparing the row number. -/
theorem select_row {α : Type} (r n : ℕ) (hr : r < 2 ^ 32) (hn : n < 2 ^ 32) (x y : α) :
    Scalar.select (IntOp.cmpi .eq (BitVec.ofNat 32 r) (BitVec.ofNat 32 n)) x y = if r = n then x else y := by
  rw [WordCmp.cmpi_eq_ofNat hr hn, WordCmp.select_decide]

/-- The blocks of a point are the 512 tokens from `T` on. -/
structure Fits (b : Ins Ideal) (i : grid0.Coords) (a : Cert.Proof.Arr) (T : ℕ) : Prop where
  start : T % 512 = 0
  dy : ∀ (r : Fin 512) (d : Fin 1024), b.dya (ix2 r d) = a.dy (T + r.val) d
  x : ∀ (r : Fin 512) (d : Fin 1024), b.xc (ix2 r d) = a.x (T + r.val) d
  B : ∀ (r : Fin 512) (d : Fin 1024), b.bg (ix2 r d) = a.B (T + r.val) d
  C : ∀ (r : Fin 512) (d : Fin 1024), b.cg (ix2 r d) = a.C (T + r.val) d
  z : ∀ (r : Fin 512) (d : Fin 1024), b.zc (ix2 r d) = a.z (T + r.val) d
  h : ∀ (r : Fin 512) (d : Fin 1024), b.h (ix2 r d) = a.h (T + r.val) d
  w0 : ∀ d : Fin 1024, b.w (ix2 0 d) = a.w 0 d
  w1 : ∀ d : Fin 1024, b.w (ix2 1 d) = a.w 1 d
  w2 : ∀ d : Fin 1024, b.w (ix2 2 d) = a.w 2 d
  wp : ∀ d e : Fin 1024, b.wpc (ix2 d e) = a.wp d e
  x2 : T % 2048 ≠ 0 → ∀ d : Fin 1024, b.xcp (ix2 14 d) = a.x (T - 2) d
  x1 : T % 2048 ≠ 0 → ∀ d : Fin 1024, b.xcp (ix2 15 d) = a.x (T - 1) d
  C2 : T % 2048 ≠ 0 → ∀ d : Fin 1024, b.cgp (ix2 14 d) = a.C (T - 2) d
  C1 : T % 2048 ≠ 0 → ∀ d : Fin 1024, b.cgp (ix2 15 d) = a.C (T - 1) d
  keep : k0_pay23 (F := Ideal) i = if T % 2048 = 0 then (0 : EReal) else 1

/-- The rows the upper half is given: the gradient of the convolution's output at the two tokens after the tile. -/
structure Later (i : grid0.Coords) (L : FVec Ideal S8x1024 .f32) (a : Cert.Proof.Arr) (T : ℕ) : Prop where
  l0 : ∀ d : Fin 1024, k0_pay24 (F := Ideal) i L (ix2 0 d) = if (T + 512) % 2048 = 0 then (0 : EReal) else a.dyc (T + 512) d
  l1 : ∀ d : Fin 1024, k0_pay24 (F := Ideal) i L (ix2 1 d) = if (T + 512) % 2048 = 0 then (0 : EReal) else a.dyc (T + 513) d

namespace Fits

variable {b : Ins Ideal} {i : grid0.Coords} {L : FVec Ideal S8x1024 .f32} {a : Cert.Proof.Arr} {T : ℕ}
  (f : Fits b i a T) (g : Later i L a T) (r : Fin 256) (d : Fin 1024)
include f

open Cert.Proof

/-! ## The upper half -/

theorem uH_at : b.uH (ix2 r d) = a.u (T + (256 + r.val)) d := by
  pointwise [Ins.uH, k0_pay33, k0_pay32, k0_pay30, k0_pay28, hi]
  rw [f.C, f.x]; rfl

theorem um1H_at : b.um1H (ix2 r d) = a.m1 (T + (256 + r.val)) d := by
  have hT := f.start
  have hm : ¬ (T + (256 + r.val)) % 2048 = 0 := by omega
  pointwise [Ins.um1H, k0_pay34, k0_pay33, k0_pay32, k0_pay30, k0_pay28, k0_pay27, k0_pay26, hi, tail2]
  rw [select_row _ _ (by omega) (by omega), Arr.m1, if_neg hm, Arr.u]
  by_cases h : r.val = 0
  · rw [if_pos h, f.C, f.x]
    have e : T + (256 + r.val) - 1 = T + (255 : Fin 512).val := by rw [show (255 : Fin 512).val = 255 from rfl]; omega
    rw [e]
  · rw [if_neg h, f.C, f.x]
    have e : T + (256 + r.val) - 1 = T + (256 + (r.val + 256 - 1) % 256) := by omega
    rw [e]

theorem um2H_at : b.um2H (ix2 r d) = a.m2 (T + (256 + r.val)) d := by
  have hT := f.start
  have hm : ¬ (T + (256 + r.val)) % 2048 < 2 := by omega
  pointwise [Ins.um2H, k0_pay35, k0_pay33, k0_pay32, k0_pay30, k0_pay28, k0_pay27, k0_pay26, hi, tail2]
  rw [select_row _ _ (by omega) (by omega), select_row _ _ (by omega) (by omega), Arr.m2, if_neg hm, Arr.u]
  by_cases h : r.val = 0
  · rw [if_pos h, f.C, f.x]
    have e : T + (256 + r.val) - 2 = T + (254 : Fin 512).val := by rw [show (254 : Fin 512).val = 254 from rfl]; omega
    rw [e]
  · rw [if_neg h]
    by_cases h' : r.val = 1
    · rw [if_pos h', f.C, f.x]
      have e : T + (256 + r.val) - 2 = T + (255 : Fin 512).val := by rw [show (255 : Fin 512).val = 255 from rfl]; omega
      rw [e]
    · rw [if_neg h', f.C, f.x]
      have e : T + (256 + r.val) - 2 = T + (256 + (r.val + 256 - 2) % 256) := by omega
      rw [e]

theorem preH_at : b.preH (ix2 r d) = a.pre (T + (256 + r.val)) d := by
  have e : b.preH (ix2 r d) = b.w (ix2 0 d) * b.um2H (ix2 r d) + b.w (ix2 1 d) * b.um1H (ix2 r d) := by
    pointwise [Ins.preH, Ins.um1H, Ins.um2H, k0_pay36, tap0, tap1]
  rw [e, f.w0, f.w1, f.um1H_at, f.um2H_at]; rfl

theorem duaH_at : (∑ e, b.dya (ix2 ⟨256 + r.val, by omega⟩ e) * b.wpc (ix2 d e)) = a.dua (T + (256 + r.val)) d :=
  Fin.sum_fin_congr fun e => by rw [f.dy, f.wp]

theorem dycH_at : b.dycH (ix2 r d) = a.dyc (T + (256 + r.val)) d := by
  pointwise [Ins.dycH, k0_pay46, k0_pay44, k0_pay42, k0_pay39, k0_pay38, Ins.bgH, Ins.zcH, k0_pay29, k0_pay31, hi]
  rw [f.duaH_at, f.z, f.B]; rfl

theorem uaH_at : b.uaH (ix2 r d) = a.ua (T + (256 + r.val)) d := by
  pointwise [Ins.uaH, k0_pay41, k0_pay40, k0_pay39, k0_pay38, k0_pay37, Ins.bgH, Ins.zcH, k0_pay29, k0_pay31, hi, tap2]
  rw [f.z, f.B, f.preH_at, f.w2, f.uH_at]; rfl

theorem dzcH_at : b.dzcH (ix2 r d) = a.dz (T + (256 + r.val)) d := by
  pointwise [Ins.dzcH, k0_pay43, k0_pay42, k0_pay40, k0_pay38, k0_pay37, Ins.bgH, Ins.zcH, k0_pay29, k0_pay31, hi, tap2]
  rw [f.duaH_at, f.z, f.B, f.preH_at, f.w2, f.uH_at]; rfl

theorem dbgH_at : b.dbgH (ix2 r d) = a.dB (T + (256 + r.val)) d := by
  pointwise [Ins.dbgH, k0_pay45, k0_pay44, k0_pay42, k0_pay39, k0_pay38, k0_pay37, Ins.zcH, k0_pay31, hi, tap2]
  rw [f.duaH_at, f.z, f.preH_at, f.w2, f.uH_at]; rfl

include g in
theorem duH_at :
    b.w (ix2 2 d) * b.dycH (ix2 r d)
      + b.w (ix2 1 d) * Scalar.select (IntOp.cmpi .eq (BitVec.ofNat 32 r.val) 255#32) (k0_pay24 (F := Ideal) i L (ix2 0 d))
          (b.dycH (ix2 ⟨(r.val + 256 - 255) % 256, by omega⟩ d))
      + b.w (ix2 0 d) * Scalar.select (IntOp.cmpi .eq (BitVec.ofNat 32 r.val) 254#32) (k0_pay24 (F := Ideal) i L (ix2 0 d))
          (Scalar.select (IntOp.cmpi .eq (BitVec.ofNat 32 r.val) 255#32) (k0_pay24 (F := Ideal) i L (ix2 1 d))
            (b.dycH (ix2 ⟨(r.val + 256 - 254) % 256, by omega⟩ d)))
      = a.du (T + (256 + r.val)) d := by
  have hT := f.start
  have e1 : Scalar.select (IntOp.cmpi .eq (BitVec.ofNat 32 r.val) 255#32) (k0_pay24 (F := Ideal) i L (ix2 0 d))
      (b.dycH (ix2 ⟨(r.val + 256 - 255) % 256, by omega⟩ d)) = a.p1 (T + (256 + r.val)) d := by
    rw [select_row _ _ (by omega) (by omega), Arr.p1]
    by_cases h : r.val = 255
    · rw [if_pos h, g.l0]
      by_cases hT' : (T + 512) % 2048 = 0
      · rw [if_pos hT', if_pos (by omega)]
      · rw [if_neg hT', if_neg (by omega)]
        congr 1; omega
    · rw [if_neg h, if_neg (by omega), f.dycH_at]
      congr 1; dsimp only; omega
  have e2 : Scalar.select (IntOp.cmpi .eq (BitVec.ofNat 32 r.val) 254#32) (k0_pay24 (F := Ideal) i L (ix2 0 d))
      (Scalar.select (IntOp.cmpi .eq (BitVec.ofNat 32 r.val) 255#32) (k0_pay24 (F := Ideal) i L (ix2 1 d))
        (b.dycH (ix2 ⟨(r.val + 256 - 254) % 256, by omega⟩ d))) = a.p2 (T + (256 + r.val)) d := by
    rw [select_row _ _ (by omega) (by omega), select_row _ _ (by omega) (by omega), Arr.p2]
    by_cases h : r.val = 254
    · rw [if_pos h, g.l0]
      by_cases hT' : (T + 512) % 2048 = 0
      · rw [if_pos hT', if_pos (by omega)]
      · rw [if_neg hT', if_neg (by omega)]
        congr 1; omega
    · rw [if_neg h]
      by_cases h' : r.val = 255
      · rw [if_pos h', g.l1]
        by_cases hT' : (T + 512) % 2048 = 0
        · rw [if_pos hT', if_pos (by omega)]
        · rw [if_neg hT', if_neg (by omega)]
          congr 1; omega
      · rw [if_neg h', if_neg (by omega), f.dycH_at]
        congr 1; dsimp only; omega
  rw [e1, e2, f.w0, f.w1, f.w2, f.dycH_at]; rfl

include g in
theorem dxcH_at : b.dxcH i L (ix2 r d) = a.dx (T + (256 + r.val)) d := by
  pointwise [Ins.dxcH, Ins.laterH, k0_pay51, k0_pay50, k0_pay30, hi, tap0, tap1, tap2]
  rw [f.duH_at g, f.C]; rfl

include g in
theorem dcgH_at : b.dcgH i L (ix2 r d) = a.dC (T + (256 + r.val)) d := by
  pointwise [Ins.dcgH, Ins.laterH, k0_pay52, k0_pay50, k0_pay28, hi, tap0, tap1, tap2]
  rw [f.duH_at g, f.x]; rfl

theorem dwcH_at (k : Fin 3) : b.dwcH (ix2 k d) = ∑ r : Fin 256, a.dw (T + (256 + r.val)) d k := by
  have e0 : b.dwcH (ix2 0 d) = ∑ r : Fin 256, b.dycH (ix2 r d) * b.um2H (ix2 r d) := by
    pointwise [Ins.dwcH, Ins.dycH, k0_pay49, k0_pay48, k0_pay47]
  have e1 : b.dwcH (ix2 1 d) = ∑ r : Fin 256, b.dycH (ix2 r d) * b.um1H (ix2 r d) := by
    pointwise [Ins.dwcH, Ins.dycH, k0_pay49, k0_pay48, k0_pay47]
  have e2 : b.dwcH (ix2 2 d) = ∑ r : Fin 256, b.dycH (ix2 r d) * b.uH (ix2 r d) := by
    pointwise [Ins.dwcH, k0_pay49, k0_pay48, k0_pay47]
  fin_cases k
  · exact e0.trans (Fin.sum_fin_congr fun r => by rw [f.dycH_at, f.um2H_at]; rfl)
  · exact e1.trans (Fin.sum_fin_congr fun r => by rw [f.dycH_at, f.um1H_at]; rfl)
  · exact e2.trans (Fin.sum_fin_congr fun r => by rw [f.dycH_at, f.uH_at]; rfl)

/-! ## The lower half -/

theorem uL_at : b.uL (ix2 r d) = a.u (T + r.val) d := by
  pointwise [Ins.uL, k0_pay61, k0_pay56, k0_pay58, lo]
  rw [f.C, f.x]; rfl

theorem prev_at (y : Fin 1024 → EReal) (x : EReal) (h : T % 2048 ≠ 0 → x = y d) :
    x * k0_pay23 (F := Ideal) i = if T % 2048 = 0 then (0 : EReal) else y d := by
  rw [f.keep]
  by_cases h0 : T % 2048 = 0
  · rw [if_pos h0, if_pos h0, mul_zero]
  · rw [if_neg h0, if_neg h0, mul_one, h h0]

theorem um1L_at : b.um1L i (ix2 r d) = a.m1 (T + r.val) d := by
  have hT := f.start
  pointwise [Ins.um1L, k0_pay62, k0_pay60, k0_pay55, k0_pay61, k0_pay56, k0_pay58, lo, prev2]
  rw [select_row _ _ (by omega) (by omega), f.prev_at d (a.u (T - 1)) _ fun h => by rw [f.C1 h, f.x1 h]; rfl]
  rw [Arr.m1]
  by_cases h : r.val = 0
  · rw [if_pos h]
    have e : T + r.val = T := by omega
    rw [e]
  · rw [if_neg h, if_neg (by omega), f.C, f.x]
    have e : T + r.val - 1 = T + (r.val + 256 - 1) % 256 := by omega
    rw [e]; rfl

theorem um2L_at : b.um2L i (ix2 r d) = a.m2 (T + r.val) d := by
  have hT := f.start
  pointwise [Ins.um2L, k0_pay63, k0_pay60, k0_pay55, k0_pay61, k0_pay56, k0_pay58, lo, prev2]
  rw [select_row _ _ (by omega) (by omega), select_row _ _ (by omega) (by omega),
    f.prev_at d (a.u (T - 2)) (b.cgp (ix2 14 d) * b.xcp (ix2 14 d)) fun h => by rw [f.C2 h, f.x2 h]; rfl,
    f.prev_at d (a.u (T - 1)) (b.cgp (ix2 15 d) * b.xcp (ix2 15 d)) fun h => by rw [f.C1 h, f.x1 h]; rfl]
  rw [Arr.m2]
  by_cases h : r.val = 0
  · rw [if_pos h]
    have e : T + r.val = T := by omega
    rw [e]
    by_cases h0 : T % 2048 = 0
    · rw [if_pos h0, if_pos (by omega)]
    · rw [if_neg h0, if_neg (by omega)]
  · rw [if_neg h]
    by_cases h' : r.val = 1
    · rw [if_pos h']
      by_cases h0 : T % 2048 = 0
      · rw [if_pos h0, if_pos (by omega)]
      · rw [if_neg h0, if_neg (by omega)]
        have e : T + r.val - 2 = T - 1 := by omega
        rw [e]
    · rw [if_neg h', if_neg (by omega), f.C, f.x]
      have e : T + r.val - 2 = T + (r.val + 256 - 2) % 256 := by omega
      rw [e]; rfl

theorem duaL_at : (∑ e, b.dya (ix2 ⟨r.val, by omega⟩ e) * b.wpc (ix2 d e)) = a.dua (T + r.val) d :=
  Fin.sum_fin_congr fun e => by rw [f.dy, f.wp]

theorem dycL_at : b.dycL (ix2 r d) = a.dyc (T + r.val) d := by
  pointwise [Ins.dycL, Ins.dcoL, k0_pay73, k0_pay71, k0_pay69, k0_pay66, k0_pay65, Ins.bgL, Ins.zcL, k0_pay57, k0_pay59, lo]
  rw [f.duaL_at, f.z, f.B]; rfl

theorem uaL_at : b.uaL i (ix2 r d) = a.ua (T + r.val) d := by
  pointwise [Ins.uaL, k0_pay68, k0_pay67, k0_pay64, k0_pay66, k0_pay65, Ins.bgL, Ins.zcL, k0_pay57, k0_pay59, lo, tap0, tap1, tap2]
  rw [f.z, f.B, f.w0, f.w1, f.w2, f.um1L_at, f.um2L_at, f.uL_at]; rfl

theorem dzcL_at : b.dzcL i (ix2 r d) = a.dz (T + r.val) d := by
  pointwise [Ins.dzcL, k0_pay70, k0_pay69, k0_pay67, k0_pay64, k0_pay65, Ins.bgL, Ins.zcL, k0_pay57, k0_pay59, lo, tap0, tap1, tap2]
  rw [f.duaL_at, f.z, f.B, f.w0, f.w1, f.w2, f.um1L_at, f.um2L_at, f.uL_at]; rfl

theorem dbgL_at : b.dbgL i (ix2 r d) = a.dB (T + r.val) d := by
  pointwise [Ins.dbgL, k0_pay72, k0_pay71, k0_pay69, k0_pay64, k0_pay66, k0_pay65, Ins.zcL, k0_pay59, lo, tap0, tap1, tap2]
  rw [f.duaL_at, f.z, f.w0, f.w1, f.w2, f.um1L_at, f.um2L_at, f.uL_at]; rfl

theorem duL_at : b.duL (ix2 r d) = a.du (T + r.val) d := by
  have hT := f.start
  have e : b.duL (ix2 r d) = b.w (ix2 2 d) * b.dycL (ix2 r d)
      + b.w (ix2 1 d) * Scalar.select (IntOp.cmpi .eq (BitVec.ofNat 32 r.val) 255#32) (b.dycH (ix2 0 d))
          (b.dycL (ix2 ⟨(r.val + 256 - 255) % 256, by omega⟩ d))
      + b.w (ix2 0 d) * Scalar.select (IntOp.cmpi .eq (BitVec.ofNat 32 r.val) 254#32) (b.dycH (ix2 0 d))
          (Scalar.select (IntOp.cmpi .eq (BitVec.ofNat 32 r.val) 255#32) (b.dycH (ix2 1 d))
            (b.dycL (ix2 ⟨(r.val + 256 - 254) % 256, by omega⟩ d))) := by
    pointwise [Ins.duL, Ins.dycL, k0_pay75, k0_pay53, tap0, tap1, tap2]
  have e1 : Scalar.select (IntOp.cmpi .eq (BitVec.ofNat 32 r.val) 255#32) (b.dycH (ix2 0 d))
      (b.dycL (ix2 ⟨(r.val + 256 - 255) % 256, by omega⟩ d)) = a.p1 (T + r.val) d := by
    rw [select_row _ _ (by omega) (by omega), Arr.p1, if_neg (show ¬ (T + r.val) % 2048 = 2047 by omega)]
    by_cases h : r.val = 255
    · rw [if_pos h, f.dycH_at]
      congr 1; rw [show (0 : Fin 256).val = 0 from rfl]; omega
    · rw [if_neg h, f.dycL_at]
      congr 1; dsimp only; omega
  have e2 : Scalar.select (IntOp.cmpi .eq (BitVec.ofNat 32 r.val) 254#32) (b.dycH (ix2 0 d))
      (Scalar.select (IntOp.cmpi .eq (BitVec.ofNat 32 r.val) 255#32) (b.dycH (ix2 1 d))
        (b.dycL (ix2 ⟨(r.val + 256 - 254) % 256, by omega⟩ d))) = a.p2 (T + r.val) d := by
    rw [select_row _ _ (by omega) (by omega), select_row _ _ (by omega) (by omega), Arr.p2, if_neg (show ¬ 2046 ≤ (T + r.val) % 2048 by omega)]
    by_cases h : r.val = 254
    · rw [if_pos h, f.dycH_at]
      congr 1; rw [show (0 : Fin 256).val = 0 from rfl]; omega
    · rw [if_neg h]
      by_cases h' : r.val = 255
      · rw [if_pos h', f.dycH_at]
        congr 1; rw [show (1 : Fin 256).val = 1 from rfl]; omega
      · rw [if_neg h', f.dycL_at]
        congr 1; dsimp only; omega
  rw [e, e1, e2, f.w0, f.w1, f.w2, f.dycL_at]; rfl

theorem dxcL_at : b.dxcL (ix2 r d) = a.dx (T + r.val) d := by
  pointwise [Ins.dxcL, k0_pay76, k0_pay58, lo]
  rw [f.duL_at, f.C]; rfl

theorem dcgL_at : b.dcgL (ix2 r d) = a.dC (T + r.val) d := by
  pointwise [Ins.dcgL, k0_pay77, k0_pay56, lo]
  rw [f.duL_at, f.x]; rfl

theorem dwcL_at (k : Fin 3) : b.dwcL i (ix2 k d) = ∑ r : Fin 256, a.dw (T + r.val) d k := by
  have e0 : b.dwcL i (ix2 0 d) = ∑ r : Fin 256, b.dycL (ix2 r d) * b.um2L i (ix2 r d) := by
    pointwise [Ins.dwcL, Ins.dycL, k0_pay74]
  have e1 : b.dwcL i (ix2 1 d) = ∑ r : Fin 256, b.dycL (ix2 r d) * b.um1L i (ix2 r d) := by
    pointwise [Ins.dwcL, Ins.dycL, k0_pay74]
  have e2 : b.dwcL i (ix2 2 d) = ∑ r : Fin 256, b.dycL (ix2 r d) * b.uL (ix2 r d) := by
    pointwise [Ins.dwcL, Ins.dycL, k0_pay74]
  fin_cases k
  · exact e0.trans (Fin.sum_fin_congr fun r => by rw [f.dycL_at, f.um2L_at]; rfl)
  · exact e1.trans (Fin.sum_fin_congr fun r => by rw [f.dycL_at, f.um1L_at]; rfl)
  · exact e2.trans (Fin.sum_fin_congr fun r => by rw [f.dycL_at, f.uL_at]; rfl)

/-- The first two rows the next point is given. -/
theorem later_at (k : Fin 8) : b.later (ix2 k d) = a.dyc (T + k.val) d := by
  pointwise [Ins.later, k0_pay78]
  exact f.dycL_at _ d

end Fits

end Cert.KernelIdeal.Hand

end
-- ==== Proof.TileAux.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import proofs.«01_k».proof.Proof.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! Loads of a buffer partly stored over: a block the last store leaves alone, and a buffer stored whole. -/
theorem canon_skip {o o' : Nat} (inb : ∀ a, (![o, 0] : Fin 2 → Nat) a + (![1024, 1024] : Fin 2 → Nat) a ≤ S4096x1024.size a)
    (inb' : ∀ a, (![o', 0] : Fin 2 → Nat) a + (![1024, 1024] : Fin 2 → Nat) a ≤ S4096x1024.size a)
    (w : (Rect.unit (s := S4096x1024) ![o, 0] ![1024, 1024] inb).shape.Idx → Elt F .f32) (L : List (View.Piece (Elt F) S4096x1024 .f32))
    (h : o + 1024 ≤ o') :
    (fun j => View.canon (Val := Elt F) (s := S4096x1024) (e := .f32) (⟨Rect.unit (s := S4096x1024) ![o, 0] ![1024, 1024] inb, w⟩ :: L)
      ((Rect.unit (s := S4096x1024) ![o', 0] ![1024, 1024] inb').toLoadRect.idx j))
      = fun j => View.canon (Val := Elt F) (s := S4096x1024) (e := .f32) L
          ((Rect.unit (s := S4096x1024) ![o', 0] ![1024, 1024] inb').toLoadRect.idx j) := by
  funext j
  refine View.canon_cons_of_not_mem _ _ ?_
  intro hm; obtain ⟨x, hx⟩ := LoadRect.exists_idx_of_mem (Rect.toLoadRect _) hm
  have h0 : o + 1 * (x (0 : Fin 2)).val = o' + 1 * (j (0 : Fin 2)).val := congrArg (fun z : S4096x1024.Idx => (z (0 : Fin 2)).val) hx
  have hb : (x (0 : Fin 2)).val < 1024 := (x (0 : Fin 2)).isLt
  omega

theorem ld_whole20 (x : Vec F S1024x1024 .f32) :
    (fun j => x ((Rect.unit (s := S1024x1024) ![0, 0] ![1024, 1024] inb_S1024x1024_S1024x1024_0_0).toLoadRect.idx j)) = x :=
  View.ld_unit_zero (S := S1024x1024) offs0 _ _

theorem emb_unitLocal {S : Shape} {off size : Fin S.rank → Nat} (inb : ∀ a, off a + size a ≤ S.size a) (y : S.Idx)
    (h : ∀ a, off a ≤ (y a).val ∧ (y a).val < off a + size a) :
    (Rect.unit off size inb).emb (Rect.unitLocal (s := S) (off := off) (size := size) y h) = y := by
  funext a; apply Fin.ext
  have e : ((Rect.unit off size inb).emb (Rect.unitLocal (s := S) (off := off) (size := size) y h) a).val
      = off a + 1 * (Rect.unitLocal (s := S) (off := off) (size := size) y h a).val := rfl
  rw [e, Rect.unitLocal_val]; have := h a; omega

theorem canon_put {S : Shape} {e : EltTy} {off size : Fin S.rank → Nat} (inb : ∀ a, off a + size a ≤ S.size a)
    (w : (Rect.unit off size inb).shape.Idx → Elt F e) (L : List (View.Piece (Elt F) S e)) :
    View.canon (Val := Elt F) (⟨Rect.unit off size inb, w⟩ :: L) = VecWindow.put (View.canon (Val := Elt F) L) off size w := by
  funext y
  by_cases h : ∀ a, off a ≤ (y a).val ∧ (y a).val < off a + size a
  · have hy : y = (Rect.unit off size inb).emb (Rect.unitLocal (s := S) (off := off) (size := size) y h) :=
      (emb_unitLocal inb y h).symm
    rw [VecWindow.put, dif_pos h]
    conv_lhs => rw [hy]
    exact View.canon_cons_emb _ w L _
  · rw [VecWindow.put, dif_neg h]
    refine View.canon_cons_of_not_mem _ _ ?_
    intro hm; obtain ⟨x, rfl⟩ := LoadRect.exists_idx_of_mem (Rect.toLoadRect _) hm
    refine h fun a => ?_
    have hl : (x a).val < size a := (x a).isLt
    show off a ≤ off a + 1 * (x a).val ∧ off a + 1 * (x a).val < off a + size a
    omega

theorem canon_blocks (q : View.Piece (Elt F) S4096x1024 .f32)
    (w3 : (Rect.unit (s := S4096x1024) ![3072, 0] ![1024, 1024] inb_S4096x1024_S1024x1024_3072_0).shape.Idx → Elt F .f32)
    (w2 : (Rect.unit (s := S4096x1024) ![2048, 0] ![1024, 1024] inb_S4096x1024_S1024x1024_2048_0).shape.Idx → Elt F .f32)
    (w1 : (Rect.unit (s := S4096x1024) ![1024, 0] ![1024, 1024] inb_S4096x1024_S1024x1024_1024_0).shape.Idx → Elt F .f32)
    (w0 : (Rect.unit (s := S4096x1024) ![0, 0] ![1024, 1024] inb_S4096x1024_S1024x1024_0_0).shape.Idx → Elt F .f32) :
    View.canon (Val := Elt F) (s := S4096x1024) (e := .f32) [⟨Rect.unit (s := S4096x1024) ![3072, 0] ![1024, 1024] inb_S4096x1024_S1024x1024_3072_0, w3⟩,
      ⟨Rect.unit (s := S4096x1024) ![2048, 0] ![1024, 1024] inb_S4096x1024_S1024x1024_2048_0, w2⟩,
      ⟨Rect.unit (s := S4096x1024) ![1024, 0] ![1024, 1024] inb_S4096x1024_S1024x1024_1024_0, w1⟩,
      ⟨Rect.unit (s := S4096x1024) ![0, 0] ![1024, 1024] inb_S4096x1024_S1024x1024_0_0, w0⟩, q]
    = View.canon (Val := Elt F) (s := S4096x1024) (e := .f32) [⟨Rect.unit (s := S4096x1024) ![3072, 0] ![1024, 1024] inb_S4096x1024_S1024x1024_3072_0, w3⟩,
      ⟨Rect.unit (s := S4096x1024) ![2048, 0] ![1024, 1024] inb_S4096x1024_S1024x1024_2048_0, w2⟩,
      ⟨Rect.unit (s := S4096x1024) ![1024, 0] ![1024, 1024] inb_S4096x1024_S1024x1024_1024_0, w1⟩,
      ⟨Rect.unit (s := S4096x1024) ![0, 0] ![1024, 1024] inb_S4096x1024_S1024x1024_0_0, w0⟩] := by
  simp only [canon_put]
  funext y
  have h0 : (y 0).val < 4096 := (y 0).isLt
  have h1 : (y 1).val < 1024 := (y 1).isLt
  have key : ∀ o : Nat, o ≤ (y 0).val → (y 0).val < o + 1024 → ∀ a : Fin 2,
      (![o, 0] : Fin 2 → Nat) a ≤ (y a).val ∧ (y a).val < (![o, 0] : Fin 2 → Nat) a + (![1024, 1024] : Fin 2 → Nat) a := by
    intro o hl hu a
    fin_cases a
    · exact ⟨hl, hu⟩
    · exact ⟨Nat.zero_le _, by show (y 1).val < 0 + 1024; omega⟩
  simp only [VecWindow.put]
  split_ifs with g3 g2 g1 g0
  · rfl
  · rfl
  · rfl
  · rfl
  · exfalso
    by_cases a3 : 3072 ≤ (y 0).val
    · exact g3 (key 3072 a3 (by omega))
    by_cases a2 : 2048 ≤ (y 0).val
    · exact g2 (key 2048 a2 (by omega))
    by_cases a1 : 1024 ≤ (y 0).val
    · exact g1 (key 1024 a1 (by omega))
    exact g0 (key 0 (by omega) (by omega))

end Cert.KernelIdeal.Hand

end
-- ==== Proof.TileValue.lean ====
module

public import proofs.«01_k».proof.Proof.Halves
public import proofs.«01_k».proof.Proof.TileAux

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Proof

/-- A sum over the 512 rows of a tile is the lower half's and the upper half's. -/
theorem sum_halves (G : ℕ → EReal) : (∑ r : Fin 512, G r.val) = (∑ r : Fin 256, G r.val) + ∑ r : Fin 256, G (256 + r.val) := by
  rw [Fin.sum_univ_add (a := 256) (b := 256) (fun r => G r.val)]
  rfl

/-- A column of the four column blocks determines its block and its place there. -/
theorem col_eq (k : Fin 4) (d : Fin 1024) (k' : Fin 4) (e : Fin 1024) (h : 1024 * k.val + d.val = 1024 * k'.val + e.val) :
    k = k' ∧ d = e := ⟨Fin.ext (by omega), Fin.ext (by omega)⟩

namespace Fits

variable {b : Ins Ideal} {i : grid0.Coords} {L : FVec Ideal S8x1024 .f32} {a : Cert.Proof.Arr} {T : ℕ}
  (f : Fits b i a T) (g : Later i L a T)
include f

include g in
/-- The tile of the gradient of the saved projection. -/
theorem da4_at (y : S512x4096.Idx) (n : ℕ) (d : Fin 1024) (k : Fin 4) (hn : n = T + (y 0).val) (hc : (y 1).val = 1024 * k.val + d.val) :
    b.da4 i L y = a.da n d k := by
  subst hn
  unfold Ins.da4
  canon_tiles x v
  case piece0 =>
    obtain ⟨r, e, rfl⟩ : ∃ (r : Fin 256) (e : Fin 1024), x = ix2 r e := ⟨x 0, x 1, eq_ix2 x⟩
    obtain ⟨rfl, rfl⟩ := col_eq k d 2 e (hc.symm.trans v1)
    rw [v0, f.dcgL_at]; rfl
  case piece1 =>
    obtain ⟨r, e, rfl⟩ : ∃ (r : Fin 256) (e : Fin 1024), x = ix2 r e := ⟨x 0, x 1, eq_ix2 x⟩
    obtain ⟨rfl, rfl⟩ := col_eq k d 0 e (hc.symm.trans (v1.trans (Nat.zero_add _).symm))
    rw [v0, f.dxcL_at]; rfl
  case piece2 =>
    obtain ⟨r, e, rfl⟩ : ∃ (r : Fin 256) (e : Fin 1024), x = ix2 r e := ⟨x 0, x 1, eq_ix2 x⟩
    obtain ⟨rfl, rfl⟩ := col_eq k d 1 e (hc.symm.trans v1)
    rw [v0, f.dbgL_at]; rfl
  case piece3 =>
    obtain ⟨r, e, rfl⟩ : ∃ (r : Fin 256) (e : Fin 1024), x = ix2 r e := ⟨x 0, x 1, eq_ix2 x⟩
    obtain ⟨rfl, rfl⟩ := col_eq k d 3 e (hc.symm.trans v1)
    rw [v0, f.dzcL_at]; rfl
  case piece4 =>
    obtain ⟨r, e, rfl⟩ : ∃ (r : Fin 256) (e : Fin 1024), x = ix2 r e := ⟨x 0, x 1, eq_ix2 x⟩
    obtain ⟨rfl, rfl⟩ := col_eq k d 2 e (hc.symm.trans v1)
    rw [v0, f.dcgH_at g]; rfl
  case piece5 =>
    obtain ⟨r, e, rfl⟩ : ∃ (r : Fin 256) (e : Fin 1024), x = ix2 r e := ⟨x 0, x 1, eq_ix2 x⟩
    obtain ⟨rfl, rfl⟩ := col_eq k d 0 e (hc.symm.trans (v1.trans (Nat.zero_add _).symm))
    rw [v0, f.dxcH_at g]; rfl
  case piece6 =>
    obtain ⟨r, e, rfl⟩ : ∃ (r : Fin 256) (e : Fin 1024), x = ix2 r e := ⟨x 0, x 1, eq_ix2 x⟩
    obtain ⟨rfl, rfl⟩ := col_eq k d 1 e (hc.symm.trans v1)
    rw [v0, f.dbgH_at]; rfl
  case piece7 =>
    obtain ⟨r, e, rfl⟩ : ∃ (r : Fin 256) (e : Fin 1024), x = ix2 r e := ⟨x 0, x 1, eq_ix2 x⟩
    obtain ⟨rfl, rfl⟩ := col_eq k d 3 e (hc.symm.trans v1)
    rw [v0, f.dzcH_at]; rfl

/-- The gradient of the output projection. -/
theorem dwpc_at (D : FVec Ideal S1024x1024 .f32) (p e : Fin 1024) :
    b.dwpc i D (ix2 p e) = D (ix2 p e) + ∑ r : Fin 512, a.ua (T + r.val) p * a.dy (T + r.val) e := by
  rw [sum_halves fun r => a.ua (T + r) p * a.dy (T + r) e]
  pointwise [Ins.dwpc, k0_pay79]
  exact congrArg _ (congrArg₂ (· + ·) (Fin.sum_fin_congr fun x => by rw [f.uaL_at, f.dy])
    (Fin.sum_fin_congr fun x => by rw [f.uaH_at, f.dy]))

/-- The gradient of the taps. -/
theorem dwc_at (C : FVec Ideal S8x1024 .f32) (k : Fin 3) (d : Fin 1024) :
    b.dwc i C (ix2 ⟨k.val, by omega⟩ d) = C (ix2 ⟨k.val, by omega⟩ d) + ∑ r : Fin 512, a.dw (T + r.val) d k := by
  rw [sum_halves fun r => a.dw (T + r) d k, ← f.dwcL_at, ← f.dwcH_at]
  unfold Ins.dwc
  rw [VecWindow.put, dif_pos (show ∀ a : Fin 2, (![0, 0] : Fin 2 → ℕ) a ≤ ((ix2 (⟨k.val, by omega⟩ : Fin 8) d : S8x1024.Idx) a).val
    ∧ ((ix2 (⟨k.val, by omega⟩ : Fin 8) d : S8x1024.Idx) a).val < (![0, 0] : Fin 2 → ℕ) a + S3x1024.size a from fun a => by
      fin_cases a
      · exact ⟨Nat.zero_le _, by show k.val < 0 + 3; omega⟩
      · exact ⟨Nat.zero_le _, by show d.val < 0 + 1024; omega⟩)]
  have e : (Rect.unitLocal (s := S8x1024) (off := ![0, 0]) (size := S3x1024.size) (ix2 (⟨k.val, by omega⟩ : Fin 8) d) (fun a => by
      fin_cases a
      · exact ⟨Nat.zero_le _, by show k.val < 0 + 3; omega⟩
      · exact ⟨Nat.zero_le _, by show d.val < 0 + 1024; omega⟩) : S3x1024.Idx) = ix2 k d := by
    funext a; fin_cases a <;> rfl
  refine (congrArg (k0_pay80 (k0_pay54 k0_pay25 b.dwcH) (b.dwcL i) (rows3 C)) e).trans ?_
  pointwise [k0_pay80, k0_pay54, k0_pay25, rows3]
  rw [add_comm (b.dwcH _)]
omit f in
theorem dwc_rest (C : FVec Ideal S8x1024 .f32) (k : Fin 8) (hk : 3 ≤ k.val) (d : Fin 1024) :
    b.dwc i C (ix2 k d) = C (ix2 k d) := by
  unfold Ins.dwc
  rw [VecWindow.put, dif_neg]
  intro h
  have h0 : k.val < 0 + 3 := (h 0).2
  omega

include g in
/-- The gradient of the input projection. -/
theorem acc_at (A : FVec Ideal S4096x1024 .f32) (y : S4096x1024.Idx) (d : Fin 1024) (k : Fin 4) (hc : (y 0).val = 1024 * k.val + d.val) :
    b.acc i L A y = A y + ∑ r : Fin 512, a.da (T + r.val) d k * a.h (T + r.val) (y 1) := by
  unfold Ins.acc
  canon_tiles x v
  case piece0 =>
    obtain ⟨p, e, rfl⟩ : ∃ (r : Fin 1024) (e : Fin 1024), x = ix2 r e := ⟨x 0, x 1, eq_ix2 x⟩
    obtain ⟨rfl, rfl⟩ := col_eq k d 3 p (hc.symm.trans v0)
    obtain rfl : y = ix2 ⟨3072 + d.val, by have := d.isLt; clear * - this; omega⟩ e := (eq_ix2 y).trans (congrArg₂ ix2 (Fin.ext v0) (Fin.ext v1))
    pointwise [k0_pay85, acc3, col3]
    exact congrArg _ (Fin.sum_fin_congr fun r => by rw [f.da4_at g _ (T + r.val) d 3 rfl v0, f.h])
  case piece1 =>
    obtain ⟨p, e, rfl⟩ : ∃ (r : Fin 1024) (e : Fin 1024), x = ix2 r e := ⟨x 0, x 1, eq_ix2 x⟩
    obtain ⟨rfl, rfl⟩ := col_eq k d 2 p (hc.symm.trans v0)
    obtain rfl : y = ix2 ⟨2048 + d.val, by have := d.isLt; clear * - this; omega⟩ e := (eq_ix2 y).trans (congrArg₂ ix2 (Fin.ext v0) (Fin.ext v1))
    pointwise [k0_pay84, acc2, col2]
    exact congrArg _ (Fin.sum_fin_congr fun r => by rw [f.da4_at g _ (T + r.val) d 2 rfl v0, f.h])
  case piece2 =>
    obtain ⟨p, e, rfl⟩ : ∃ (r : Fin 1024) (e : Fin 1024), x = ix2 r e := ⟨x 0, x 1, eq_ix2 x⟩
    obtain ⟨rfl, rfl⟩ := col_eq k d 1 p (hc.symm.trans v0)
    obtain rfl : y = ix2 ⟨1024 + d.val, by have := d.isLt; clear * - this; omega⟩ e := (eq_ix2 y).trans (congrArg₂ ix2 (Fin.ext v0) (Fin.ext v1))
    pointwise [k0_pay83, acc1, col1]
    exact congrArg _ (Fin.sum_fin_congr fun r => by rw [f.da4_at g _ (T + r.val) d 1 rfl v0, f.h])
  case piece3 =>
    obtain ⟨p, e, rfl⟩ : ∃ (r : Fin 1024) (e : Fin 1024), x = ix2 r e := ⟨x 0, x 1, eq_ix2 x⟩
    obtain ⟨rfl, rfl⟩ := col_eq k d 0 p (hc.symm.trans (v0.trans (Nat.zero_add _).symm))
    obtain rfl : y = ix2 ⟨d.val, by have := d.isLt; clear * - this; omega⟩ e := (eq_ix2 y).trans (congrArg₂ ix2 (Fin.ext v0) (Fin.ext v1))
    pointwise [k0_pay82, k0_pay81, acc0, col0]
    exact congrArg _ (Fin.sum_fin_congr fun r => by rw [f.da4_at g _ (T + r.val) d 0 rfl (v0.trans (Nat.zero_add _).symm), f.h])

end Fits

end Cert.KernelIdeal.Hand

end
-- ==== Proof.BodyMid.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import proofs.«01_k».proof.Proof.Conds

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def runMid (c : Dev nD) (i : grid0.Coords) (hc1 : ¬condFirst i) (hc2 : ¬condLast i)
    (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S8x1024 .f32) (harg8 : arg8.IsWhole) (arg9 : Memref sig .tc .vmem S1024x1024 .bf16) (harg9 : arg9.IsWhole) (arg10 : Memref sig .tc .vmem S512x1024 .bf16) (harg10 : arg10.IsWhole) (arg11 : Memref sig .tc .vmem S512x4096 .bf16) (harg11 : arg11.IsWhole) (arg12 : Memref sig .tc .vmem S1024x1024 .f32) (harg12 : arg12.IsWhole) (arg13 : Memref sig .tc .vmem S8x1024 .f32) (harg13 : arg13.IsWhole)
    (arg14 : Memref sig .tc .hbm S8448x1024 .f32) (harg14 : arg14.IsWhole) (arg15 : Memref sig .tc .hbm S8448x1024 .bf16) (harg15 : arg15.IsWhole)
    (arg16 : Memref sig .tc .vmem S4096x1024 .f32) (harg16 : arg16.IsWhole) (arg17 : Memref sig .tc .vmem S256x1024 .bf16) (harg17 : arg17.IsWhole) (arg18 : Memref sig .tc .vmem S8x1024 .f32) (harg18 : arg18.IsWhole) (arg19 : DmaSems sig S2)
    (x1 : Vec F S512x1024 .bf16) (x2 : Vec F S512x1024 .bf16) (x3 : Vec F S512x1024 .bf16) (x4 : Vec F S512x1024 .bf16) (x5 : Vec F S512x1024 .bf16) (x6 : Vec F S16x1024 .bf16) (x7 : Vec F S16x1024 .bf16) (x8 : Vec F S8x1024 .f32) (x9 : Vec F S1024x1024 .bf16) (x10 : Vec F S512x1024 .bf16) (D : Vec F S1024x1024 .f32) (C : Vec F S8x1024 .f32) (A : Vec F S4096x1024 .f32) (L : Vec F S8x1024 .f32) :
    { Y : Vec F S512x4096 .bf16 × Vec F S1024x1024 .f32 × Vec F S8x1024 .f32 × Vec F S4096x1024 .f32 × Vec F S8x1024 .f32 //
      ∀ (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg11 fullShare d)
            ∗ owns (c : Thread nD τ) arg12 fullShare D
            ∗ owns (c : Thread nD τ) arg13 fullShare C
            ∗ owns (c : Thread nD τ) arg16 fullShare A
            ∗ owns (c : Thread nD τ) arg18 fullShare L
            ∗ (iprop(owns (c : Thread nD τ) arg1 fullShare x1
                ∗ owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare Y.1
                ∗ owns (c : Thread nD τ) arg12 fullShare Y.2.1
                ∗ owns (c : Thread nD τ) arg13 fullShare Y.2.2.1
                ∗ owns (c : Thread nD τ) arg16 fullShare Y.2.2.2.1
                ∗ owns (c : Thread nD τ) arg18 fullShare Y.2.2.2.2) -∗ K ⟨⟩))
          ⊢ wp frame (wpE (defs₀ (F := F)) Variants.none c none) Set.univ
              (cc0_bwd_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) K } := by
  refine ⟨⟨?y11, ?y12, ?y13, ?y16, ?y18⟩, fun K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f16, %hf16, H16⟩, ⟨%f18, %hf18, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg16.eq_unread hf16; obtain rfl := harg18.eq_unread hf18
    simp only [cc0_bwd_conv_eq_skeleton]; unfold cc0_bwd_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    sl_exec!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H16]
    · iexists _; isplitr; swap; · iexact H16
      ipureintro; rfl
    iexists _; isplitr; swap; · iexact H18
    ipureintro; rfl

end Cert.KernelIdeal.Hand

end
-- ==== Proof.TileMid.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import proofs.«01_k».proof.Proof.Tile
public import proofs.«01_k».proof.Proof.BodyMid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000 in
theorem runMid_eq (c : Dev nD) (i : grid0.Coords) (hc1 : ¬condFirst i) (hc2 : ¬condLast i)
    (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S8x1024 .f32) (harg8 : arg8.IsWhole) (arg9 : Memref sig .tc .vmem S1024x1024 .bf16) (harg9 : arg9.IsWhole) (arg10 : Memref sig .tc .vmem S512x1024 .bf16) (harg10 : arg10.IsWhole) (arg11 : Memref sig .tc .vmem S512x4096 .bf16) (harg11 : arg11.IsWhole) (arg12 : Memref sig .tc .vmem S1024x1024 .f32) (harg12 : arg12.IsWhole) (arg13 : Memref sig .tc .vmem S8x1024 .f32) (harg13 : arg13.IsWhole)
    (arg14 : Memref sig .tc .hbm S8448x1024 .f32) (harg14 : arg14.IsWhole) (arg15 : Memref sig .tc .hbm S8448x1024 .bf16) (harg15 : arg15.IsWhole)
    (arg16 : Memref sig .tc .vmem S4096x1024 .f32) (harg16 : arg16.IsWhole) (arg17 : Memref sig .tc .vmem S256x1024 .bf16) (harg17 : arg17.IsWhole) (arg18 : Memref sig .tc .vmem S8x1024 .f32) (harg18 : arg18.IsWhole) (arg19 : DmaSems sig S2)
    (b : Ins F) (D : Vec F S1024x1024 .f32) (C : Vec F S8x1024 .f32) (A : Vec F S4096x1024 .f32) (L : Vec F S8x1024 .f32) :
    (runMid c i hc1 hc2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 b.dya b.xc b.bg b.cg b.zc b.xcp b.cgp b.w b.wpc b.h D C A L).1
      = (b.da4 i L, b.dwpc i D, b.dwc i C, b.acc i L A, b.later) := by
  unfold runMid; dsimp only
  refine Prod.ext ?_ (Prod.ext ?_ (Prod.ext ?_ (Prod.ext ?_ ?_))) <;> dsimp only <;> sl_unfold_words <;>
    simp only [View.read_writes_junk_eq_canon, View.readAt_eq_ld, Memref.IsWhole.read_unread, View.readCov_eq_canon',
      View.canon_cons_unit_zero (S := S1024x1024) offs0, View.canon_cons_unit_zero (S := S8x1024) offs0,
      View.ld_unit_zero (S := S1024x1024) offs0, View.ld_unit_zero (S := S512x1024) offs0, View.ld_unit_zero (S := S8x1024) offs0]
  · simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · rw [View.read_writes_cons_put _ _ _ _ _ rfl, View.writes_nil, Memref.IsWhole.read_unread]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]

end Cert.KernelIdeal.Hand

end
-- ==== Proof.BodyFirst.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import proofs.«01_k».proof.Proof.Conds

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
noncomputable def runFirst (c : Dev nD) (i : grid0.Coords) (hc1 : condFirst i) (hc2 : ¬condLast i)
    (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S8x1024 .f32) (harg8 : arg8.IsWhole) (arg9 : Memref sig .tc .vmem S1024x1024 .bf16) (harg9 : arg9.IsWhole) (arg10 : Memref sig .tc .vmem S512x1024 .bf16) (harg10 : arg10.IsWhole) (arg11 : Memref sig .tc .vmem S512x4096 .bf16) (harg11 : arg11.IsWhole) (arg12 : Memref sig .tc .vmem S1024x1024 .f32) (harg12 : arg12.IsWhole) (arg13 : Memref sig .tc .vmem S8x1024 .f32) (harg13 : arg13.IsWhole)
    (arg14 : Memref sig .tc .hbm S8448x1024 .f32) (harg14 : arg14.IsWhole) (arg15 : Memref sig .tc .hbm S8448x1024 .bf16) (harg15 : arg15.IsWhole)
    (arg16 : Memref sig .tc .vmem S4096x1024 .f32) (harg16 : arg16.IsWhole) (arg17 : Memref sig .tc .vmem S256x1024 .bf16) (harg17 : arg17.IsWhole) (arg18 : Memref sig .tc .vmem S8x1024 .f32) (harg18 : arg18.IsWhole) (arg19 : DmaSems sig S2)
    (x1 : Vec F S512x1024 .bf16) (x2 : Vec F S512x1024 .bf16) (x3 : Vec F S512x1024 .bf16) (x4 : Vec F S512x1024 .bf16) (x5 : Vec F S512x1024 .bf16) (x6 : Vec F S16x1024 .bf16) (x7 : Vec F S16x1024 .bf16) (x8 : Vec F S8x1024 .f32) (x9 : Vec F S1024x1024 .bf16) (x10 : Vec F S512x1024 .bf16) (L : Vec F S8x1024 .f32) :
    { Y : Vec F S512x4096 .bf16 × Vec F S1024x1024 .f32 × Vec F S8x1024 .f32 × Vec F S4096x1024 .f32 × Vec F S8x1024 .f32 //
      ∀ (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg16 fullShare d)
            ∗ owns (c : Thread nD τ) arg18 fullShare L
            ∗ (iprop(owns (c : Thread nD τ) arg1 fullShare x1
                ∗ owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare Y.1
                ∗ owns (c : Thread nD τ) arg12 fullShare Y.2.1
                ∗ owns (c : Thread nD τ) arg13 fullShare Y.2.2.1
                ∗ owns (c : Thread nD τ) arg16 fullShare Y.2.2.2.1
                ∗ owns (c : Thread nD τ) arg18 fullShare Y.2.2.2.2) -∗ K ⟨⟩))
          ⊢ wp frame (wpE (defs₀ (F := F)) Variants.none c none) Set.univ
              (cc0_bwd_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) K } := by
  refine ⟨⟨?y11, ?y12, ?y13, ?y16, ?y18⟩, fun K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d16, %f16, -, H16⟩, ⟨%f18, %hf18, H18⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg18.eq_unread hf18
    simp only [cc0_bwd_conv_eq_skeleton]; unfold cc0_bwd_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    sl_exec!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H16]
    · iexists _; isplitr; swap; · iexact H16
      ipureintro; rfl
    iexists _; isplitr; swap; · iexact H18
    ipureintro; rfl

end Cert.KernelIdeal.Hand

end
-- ==== Proof.TileFirst.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import proofs.«01_k».proof.Proof.TileAux
public import proofs.«01_k».proof.Proof.BodyFirst

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 400000 in
theorem runFirst_eq (c : Dev nD) (i : grid0.Coords) (hc1 : condFirst i) (hc2 : ¬condLast i)
    (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S8x1024 .f32) (harg8 : arg8.IsWhole) (arg9 : Memref sig .tc .vmem S1024x1024 .bf16) (harg9 : arg9.IsWhole) (arg10 : Memref sig .tc .vmem S512x1024 .bf16) (harg10 : arg10.IsWhole) (arg11 : Memref sig .tc .vmem S512x4096 .bf16) (harg11 : arg11.IsWhole) (arg12 : Memref sig .tc .vmem S1024x1024 .f32) (harg12 : arg12.IsWhole) (arg13 : Memref sig .tc .vmem S8x1024 .f32) (harg13 : arg13.IsWhole)
    (arg14 : Memref sig .tc .hbm S8448x1024 .f32) (harg14 : arg14.IsWhole) (arg15 : Memref sig .tc .hbm S8448x1024 .bf16) (harg15 : arg15.IsWhole)
    (arg16 : Memref sig .tc .vmem S4096x1024 .f32) (harg16 : arg16.IsWhole) (arg17 : Memref sig .tc .vmem S256x1024 .bf16) (harg17 : arg17.IsWhole) (arg18 : Memref sig .tc .vmem S8x1024 .f32) (harg18 : arg18.IsWhole) (arg19 : DmaSems sig S2)
    (b : Ins F) (L : Vec F S8x1024 .f32) :
    (runFirst c i hc1 hc2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 b.dya b.xc b.bg b.cg b.zc b.xcp b.cgp b.w b.wpc b.h L).1
      = (b.da4 i L, b.dwpc i k0_pay20, b.dwc i k0_pay21, b.acc i L k0_pay22, b.later) := by
  unfold runFirst; dsimp only
  refine Prod.ext ?_ (Prod.ext ?_ (Prod.ext ?_ (Prod.ext ?_ ?_))) <;> dsimp only <;> sl_unfold_words <;>
    simp only [View.read_writes_junk_eq_canon, View.readAt_eq_ld, Memref.IsWhole.read_unread, View.readCov_eq_canon',
      View.canon_cons_unit_zero (S := S1024x1024) offs0, View.canon_cons_unit_zero (S := S8x1024) offs0,
      View.canon_cons_unit_zero (S := S4096x1024) offs0, ld_whole20,
      View.ld_unit_zero (S := S1024x1024) offs0, View.ld_unit_zero (S := S512x1024) offs0, View.ld_unit_zero (S := S8x1024) offs0]
  · simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · rw [canon_put, View.canon_cons_unit_zero (S := S8x1024) offs0]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · rw [canon_blocks]
    simp only [canon_skip (F := F) inb_S4096x1024_S1024x1024_0_0 inb_S4096x1024_S1024x1024_1024_0 _ _ (by decide),
      canon_skip (F := F) inb_S4096x1024_S1024x1024_0_0 inb_S4096x1024_S1024x1024_2048_0 _ _ (by decide),
      canon_skip (F := F) inb_S4096x1024_S1024x1024_0_0 inb_S4096x1024_S1024x1024_3072_0 _ _ (by decide),
      canon_skip (F := F) inb_S4096x1024_S1024x1024_1024_0 inb_S4096x1024_S1024x1024_2048_0 _ _ (by decide),
      canon_skip (F := F) inb_S4096x1024_S1024x1024_1024_0 inb_S4096x1024_S1024x1024_3072_0 _ _ (by decide),
      canon_skip (F := F) inb_S4096x1024_S1024x1024_2048_0 inb_S4096x1024_S1024x1024_3072_0 _ _ (by decide),
      View.canon_cons_unit_zero (S := S4096x1024) offs0]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]

end Cert.KernelIdeal.Hand

end
-- ==== Proof.BodyLast.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import proofs.«01_k».proof.Proof.Conds

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
set_option sl_exec.lendShare "H16" in
noncomputable def runLast (c : Dev nD) (i : grid0.Coords) (hc1 : ¬condFirst i) (hc2 : condLast i) (WW : Waits sig Unit)
    (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S8x1024 .f32) (harg8 : arg8.IsWhole) (arg9 : Memref sig .tc .vmem S1024x1024 .bf16) (harg9 : arg9.IsWhole) (arg10 : Memref sig .tc .vmem S512x1024 .bf16) (harg10 : arg10.IsWhole) (arg11 : Memref sig .tc .vmem S512x4096 .bf16) (harg11 : arg11.IsWhole) (arg12 : Memref sig .tc .vmem S1024x1024 .f32) (harg12 : arg12.IsWhole) (arg13 : Memref sig .tc .vmem S8x1024 .f32) (harg13 : arg13.IsWhole)
    (arg14 : Memref sig .tc .hbm S8448x1024 .f32) (harg14 : arg14.IsWhole) (arg15 : Memref sig .tc .hbm S8448x1024 .bf16) (harg15 : arg15.IsWhole)
    (arg16 : Memref sig .tc .vmem S4096x1024 .f32) (harg16 : arg16.IsWhole) (arg17 : Memref sig .tc .vmem S256x1024 .bf16) (harg17 : arg17.IsWhole) (arg18 : Memref sig .tc .vmem S8x1024 .f32) (harg18 : arg18.IsWhole)
    (x1 : Vec F S512x1024 .bf16) (x2 : Vec F S512x1024 .bf16) (x3 : Vec F S512x1024 .bf16) (x4 : Vec F S512x1024 .bf16) (x5 : Vec F S512x1024 .bf16) (x6 : Vec F S16x1024 .bf16) (x7 : Vec F S16x1024 .bf16) (x8 : Vec F S8x1024 .f32) (x9 : Vec F S1024x1024 .bf16) (x10 : Vec F S512x1024 .bf16) (D : Vec F S1024x1024 .f32) (C : Vec F S8x1024 .f32) (U : Vec F S8448x1024 .f32) (W : Vec F S8448x1024 .bf16) (A : Vec F S4096x1024 .f32) (S : Vec F S256x1024 .bf16) (L : Vec F S8x1024 .f32) :
    { Y : Vec F S512x4096 .bf16 × Vec F S1024x1024 .f32 × Vec F S8x1024 .f32 × Vec F S8448x1024 .f32 × Vec F S8448x1024 .bf16 × Vec F S4096x1024 .f32 × Vec F S256x1024 .bf16 × Vec F S8x1024 .f32 //
      ∀ (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ (∃ d, owns (c : Thread nD τ) arg11 fullShare d)
            ∗ owns (c : Thread nD τ) arg12 fullShare D
            ∗ owns (c : Thread nD τ) arg13 fullShare C
            ∗ owns (c : Thread nD τ) arg14 fullShare U
            ∗ owns (c : Thread nD τ) arg15 fullShare W
            ∗ owns (c : Thread nD τ) arg16 fullShare A
            ∗ owns (c : Thread nD τ) arg17 fullShare S
            ∗ owns (c : Thread nD τ) arg18 fullShare L
            ∗ semVal ((c : Thread nD τ), SemLoc.dma 22) 0
            ∗ semVal ((c : Thread nD τ), SemLoc.dma 23) 0
            ∗ owes (c : Thread nD τ) 0 WW
            ∗ (iprop(owns (c : Thread nD τ) arg1 fullShare x1
                ∗ owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare Y.1
                ∗ owns (c : Thread nD τ) arg12 fullShare Y.2.1
                ∗ owns (c : Thread nD τ) arg13 fullShare Y.2.2.1
                ∗ owns (c : Thread nD τ) arg14 fullShare Y.2.2.2.1
                ∗ owns (c : Thread nD τ) arg15 fullShare Y.2.2.2.2.1
                ∗ owns (c : Thread nD τ) arg16 fullShare Y.2.2.2.2.2.1
                ∗ owns (c : Thread nD τ) arg17 fullShare Y.2.2.2.2.2.2.1
                ∗ owns (c : Thread nD τ) arg18 fullShare Y.2.2.2.2.2.2.2
                ∗ semVal ((c : Thread nD τ), SemLoc.dma 22) 0
                ∗ semVal ((c : Thread nD τ), SemLoc.dma 23) 0
                ∗ (∃ WW', owes (c : Thread nD τ) 0 WW')) -∗ K ⟨⟩))
          ⊢ wp frame (wpE (defs₀ (F := F)) Variants.none c none) Set.univ
              (cc0_bwd_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 cc0_scratch3) K } := by
  refine ⟨⟨?y11, ?y12, ?y13, ?y14, ?y15, ?y16, ?y17, ?y18⟩, fun K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hs0, Hs1, HW, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18
    simp only [cc0_bwd_conv_eq_skeleton]; unfold cc0_bwd_conv_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    sl_exec!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [Hs0]; · iexact Hs0
    isplitl [Hs1]; · iexact Hs1
    iexists _; iexact HW

end Cert.KernelIdeal.Hand

end
-- ==== Proof.TileLast.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import proofs.«01_k».proof.Proof.TileAux
public import proofs.«01_k».proof.Proof.BodyLast

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The stages: 256 rows of the accumulated gradient each. -/
def stage0 (x : Vec F S4096x1024 .f32) : Vec F S256x1024 .f32 :=
  fun j => x ((Rect.unit (s := S4096x1024) ![0, 0] S256x1024.size inb_S4096x1024_S256x1024_0_0).toLoadRect.idx j)
theorem stage0_fun (x : Vec F S4096x1024 .f32) : stage0 x = fun j => x ((Rect.unit (s := S4096x1024) ![0, 0] S256x1024.size inb_S4096x1024_S256x1024_0_0).toLoadRect.idx j) := rfl
def stage1 (x : Vec F S4096x1024 .f32) : Vec F S256x1024 .f32 :=
  fun j => x ((Rect.unit (s := S4096x1024) ![256, 0] S256x1024.size inb_S4096x1024_S256x1024_256_0).toLoadRect.idx j)
theorem stage1_fun (x : Vec F S4096x1024 .f32) : stage1 x = fun j => x ((Rect.unit (s := S4096x1024) ![256, 0] S256x1024.size inb_S4096x1024_S256x1024_256_0).toLoadRect.idx j) := rfl
def stage2 (x : Vec F S4096x1024 .f32) : Vec F S256x1024 .f32 :=
  fun j => x ((Rect.unit (s := S4096x1024) ![512, 0] S256x1024.size inb_S4096x1024_S256x1024_512_0).toLoadRect.idx j)
theorem stage2_fun (x : Vec F S4096x1024 .f32) : stage2 x = fun j => x ((Rect.unit (s := S4096x1024) ![512, 0] S256x1024.size inb_S4096x1024_S256x1024_512_0).toLoadRect.idx j) := rfl
def stage3 (x : Vec F S4096x1024 .f32) : Vec F S256x1024 .f32 :=
  fun j => x ((Rect.unit (s := S4096x1024) ![768, 0] S256x1024.size inb_S4096x1024_S256x1024_768_0).toLoadRect.idx j)
theorem stage3_fun (x : Vec F S4096x1024 .f32) : stage3 x = fun j => x ((Rect.unit (s := S4096x1024) ![768, 0] S256x1024.size inb_S4096x1024_S256x1024_768_0).toLoadRect.idx j) := rfl
def stage4 (x : Vec F S4096x1024 .f32) : Vec F S256x1024 .f32 :=
  fun j => x ((Rect.unit (s := S4096x1024) ![1024, 0] S256x1024.size inb_S4096x1024_S256x1024_1024_0).toLoadRect.idx j)
theorem stage4_fun (x : Vec F S4096x1024 .f32) : stage4 x = fun j => x ((Rect.unit (s := S4096x1024) ![1024, 0] S256x1024.size inb_S4096x1024_S256x1024_1024_0).toLoadRect.idx j) := rfl
def stage5 (x : Vec F S4096x1024 .f32) : Vec F S256x1024 .f32 :=
  fun j => x ((Rect.unit (s := S4096x1024) ![1280, 0] S256x1024.size inb_S4096x1024_S256x1024_1280_0).toLoadRect.idx j)
theorem stage5_fun (x : Vec F S4096x1024 .f32) : stage5 x = fun j => x ((Rect.unit (s := S4096x1024) ![1280, 0] S256x1024.size inb_S4096x1024_S256x1024_1280_0).toLoadRect.idx j) := rfl
def stage6 (x : Vec F S4096x1024 .f32) : Vec F S256x1024 .f32 :=
  fun j => x ((Rect.unit (s := S4096x1024) ![1536, 0] S256x1024.size inb_S4096x1024_S256x1024_1536_0).toLoadRect.idx j)
theorem stage6_fun (x : Vec F S4096x1024 .f32) : stage6 x = fun j => x ((Rect.unit (s := S4096x1024) ![1536, 0] S256x1024.size inb_S4096x1024_S256x1024_1536_0).toLoadRect.idx j) := rfl
def stage7 (x : Vec F S4096x1024 .f32) : Vec F S256x1024 .f32 :=
  fun j => x ((Rect.unit (s := S4096x1024) ![1792, 0] S256x1024.size inb_S4096x1024_S256x1024_1792_0).toLoadRect.idx j)
theorem stage7_fun (x : Vec F S4096x1024 .f32) : stage7 x = fun j => x ((Rect.unit (s := S4096x1024) ![1792, 0] S256x1024.size inb_S4096x1024_S256x1024_1792_0).toLoadRect.idx j) := rfl
def stage8 (x : Vec F S4096x1024 .f32) : Vec F S256x1024 .f32 :=
  fun j => x ((Rect.unit (s := S4096x1024) ![2048, 0] S256x1024.size inb_S4096x1024_S256x1024_2048_0).toLoadRect.idx j)
theorem stage8_fun (x : Vec F S4096x1024 .f32) : stage8 x = fun j => x ((Rect.unit (s := S4096x1024) ![2048, 0] S256x1024.size inb_S4096x1024_S256x1024_2048_0).toLoadRect.idx j) := rfl
def stage9 (x : Vec F S4096x1024 .f32) : Vec F S256x1024 .f32 :=
  fun j => x ((Rect.unit (s := S4096x1024) ![2304, 0] S256x1024.size inb_S4096x1024_S256x1024_2304_0).toLoadRect.idx j)
theorem stage9_fun (x : Vec F S4096x1024 .f32) : stage9 x = fun j => x ((Rect.unit (s := S4096x1024) ![2304, 0] S256x1024.size inb_S4096x1024_S256x1024_2304_0).toLoadRect.idx j) := rfl
def stage10 (x : Vec F S4096x1024 .f32) : Vec F S256x1024 .f32 :=
  fun j => x ((Rect.unit (s := S4096x1024) ![2560, 0] S256x1024.size inb_S4096x1024_S256x1024_2560_0).toLoadRect.idx j)
theorem stage10_fun (x : Vec F S4096x1024 .f32) : stage10 x = fun j => x ((Rect.unit (s := S4096x1024) ![2560, 0] S256x1024.size inb_S4096x1024_S256x1024_2560_0).toLoadRect.idx j) := rfl
def stage11 (x : Vec F S4096x1024 .f32) : Vec F S256x1024 .f32 :=
  fun j => x ((Rect.unit (s := S4096x1024) ![2816, 0] S256x1024.size inb_S4096x1024_S256x1024_2816_0).toLoadRect.idx j)
theorem stage11_fun (x : Vec F S4096x1024 .f32) : stage11 x = fun j => x ((Rect.unit (s := S4096x1024) ![2816, 0] S256x1024.size inb_S4096x1024_S256x1024_2816_0).toLoadRect.idx j) := rfl
def stage12 (x : Vec F S4096x1024 .f32) : Vec F S256x1024 .f32 :=
  fun j => x ((Rect.unit (s := S4096x1024) ![3072, 0] S256x1024.size inb_S4096x1024_S256x1024_3072_0).toLoadRect.idx j)
theorem stage12_fun (x : Vec F S4096x1024 .f32) : stage12 x = fun j => x ((Rect.unit (s := S4096x1024) ![3072, 0] S256x1024.size inb_S4096x1024_S256x1024_3072_0).toLoadRect.idx j) := rfl
def stage13 (x : Vec F S4096x1024 .f32) : Vec F S256x1024 .f32 :=
  fun j => x ((Rect.unit (s := S4096x1024) ![3328, 0] S256x1024.size inb_S4096x1024_S256x1024_3328_0).toLoadRect.idx j)
theorem stage13_fun (x : Vec F S4096x1024 .f32) : stage13 x = fun j => x ((Rect.unit (s := S4096x1024) ![3328, 0] S256x1024.size inb_S4096x1024_S256x1024_3328_0).toLoadRect.idx j) := rfl
def stage14 (x : Vec F S4096x1024 .f32) : Vec F S256x1024 .f32 :=
  fun j => x ((Rect.unit (s := S4096x1024) ![3584, 0] S256x1024.size inb_S4096x1024_S256x1024_3584_0).toLoadRect.idx j)
theorem stage14_fun (x : Vec F S4096x1024 .f32) : stage14 x = fun j => x ((Rect.unit (s := S4096x1024) ![3584, 0] S256x1024.size inb_S4096x1024_S256x1024_3584_0).toLoadRect.idx j) := rfl
def stage15 (x : Vec F S4096x1024 .f32) : Vec F S256x1024 .f32 :=
  fun j => x ((Rect.unit (s := S4096x1024) ![3840, 0] S256x1024.size inb_S4096x1024_S256x1024_3840_0).toLoadRect.idx j)
theorem stage15_fun (x : Vec F S4096x1024 .f32) : stage15 x = fun j => x ((Rect.unit (s := S4096x1024) ![3840, 0] S256x1024.size inb_S4096x1024_S256x1024_3840_0).toLoadRect.idx j) := rfl
/-- The rounded copy: the first 4096 rows of `W` replaced by the rounded rows of `x`. -/
def rounded (x : Vec F S4096x1024 .f32) (W : Vec F S8448x1024 .bf16) : Vec F S8448x1024 .bf16 :=
  (VecWindow.put (VecWindow.put (VecWindow.put (VecWindow.put (VecWindow.put (VecWindow.put (VecWindow.put (VecWindow.put (VecWindow.put (VecWindow.put (VecWindow.put (VecWindow.put (VecWindow.put (VecWindow.put (VecWindow.put (VecWindow.put W ![0, 0] S256x1024.size (k0_pay2 (stage0 x))) ![256, 0] S256x1024.size (k0_pay3 (stage1 x))) ![512, 0] S256x1024.size (k0_pay5 (k0_pay4 (stage2 x)))) ![768, 0] S256x1024.size (k0_pay6 (stage3 x))) ![1024, 0] S256x1024.size (k0_pay7 (stage4 x))) ![1280, 0] S256x1024.size (k0_pay8 (stage5 x))) ![1536, 0] S256x1024.size (k0_pay9 (stage6 x))) ![1792, 0] S256x1024.size (k0_pay11 (k0_pay10 (stage7 x)))) ![2048, 0] S256x1024.size (k0_pay12 (stage8 x))) ![2304, 0] S256x1024.size (k0_pay13 (stage9 x))) ![2560, 0] S256x1024.size (k0_pay14 (stage10 x))) ![2816, 0] S256x1024.size (k0_pay15 (stage11 x))) ![3072, 0] S256x1024.size (k0_pay17 (k0_pay16 (stage12 x)))) ![3328, 0] S256x1024.size (k0_pay18 (stage13 x))) ![3584, 0] S256x1024.size (k0_pay19 (stage14 x))) ![3840, 0] S256x1024.size (k0_pay1 (stage15 x)))

theorem read_put {κ : Kind} {sp : Space} {s : Shape} {e : EltTy} (v : View sig κ sp s e) (f : v.ty.Contents (Elt F)) {off size : Fin s.rank → Nat}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

theorem read_full17 {κ : Kind} {sp : Space} (v : View sig κ sp S256x1024 .bf16) (f : v.ty.Contents (Elt F))
    (w : (Rect.unit (s := S256x1024) ![0, 0] ![256, 1024] inb_S256x1024_S256x1024_0_0).shape.Idx → Elt F .bf16) (L : List (View.Piece (Elt F) S256x1024 .bf16)) :
    v.read (Elt F) (v.writes (Elt F) f (⟨Rect.unit (s := S256x1024) ![0, 0] ![256, 1024] inb_S256x1024_S256x1024_0_0, w⟩ :: L)) = w :=
  View.read_writes_full v f (off := ![0, 0]) inb_S256x1024_S256x1024_0_0 w L

theorem read_blocks {κ : Kind} {sp : Space} (v : View sig κ sp S4096x1024 .f32) (f : v.ty.Contents (Elt F))
    (w3 : (Rect.unit (s := S4096x1024) ![3072, 0] ![1024, 1024] inb_S4096x1024_S1024x1024_3072_0).shape.Idx → Elt F .f32)
    (w2 : (Rect.unit (s := S4096x1024) ![2048, 0] ![1024, 1024] inb_S4096x1024_S1024x1024_2048_0).shape.Idx → Elt F .f32)
    (w1 : (Rect.unit (s := S4096x1024) ![1024, 0] ![1024, 1024] inb_S4096x1024_S1024x1024_1024_0).shape.Idx → Elt F .f32)
    (w0 : (Rect.unit (s := S4096x1024) ![0, 0] ![1024, 1024] inb_S4096x1024_S1024x1024_0_0).shape.Idx → Elt F .f32) :
    v.read (Elt F) (v.writes (Elt F) f [⟨Rect.unit (s := S4096x1024) ![3072, 0] ![1024, 1024] inb_S4096x1024_S1024x1024_3072_0, w3⟩,
      ⟨Rect.unit (s := S4096x1024) ![2048, 0] ![1024, 1024] inb_S4096x1024_S1024x1024_2048_0, w2⟩,
      ⟨Rect.unit (s := S4096x1024) ![1024, 0] ![1024, 1024] inb_S4096x1024_S1024x1024_1024_0, w1⟩,
      ⟨Rect.unit (s := S4096x1024) ![0, 0] ![1024, 1024] inb_S4096x1024_S1024x1024_0_0, w0⟩])
    = View.canon (Val := Elt F) (s := S4096x1024) (e := .f32) [⟨Rect.unit (s := S4096x1024) ![3072, 0] ![1024, 1024] inb_S4096x1024_S1024x1024_3072_0, w3⟩,
      ⟨Rect.unit (s := S4096x1024) ![2048, 0] ![1024, 1024] inb_S4096x1024_S1024x1024_2048_0, w2⟩,
      ⟨Rect.unit (s := S4096x1024) ![1024, 0] ![1024, 1024] inb_S4096x1024_S1024x1024_1024_0, w1⟩,
      ⟨Rect.unit (s := S4096x1024) ![0, 0] ![1024, 1024] inb_S4096x1024_S1024x1024_0_0, w0⟩] := by
  rw [← canon_blocks ⟨Rect.unit (s := S4096x1024) ![0, 0] ![4096, 1024] inb_S4096x1024_S4096x1024_0_0, v.read (Elt F) f⟩]
  simp only [canon_put, read_put, View.writes_nil]
  rw [← canon_put (inb := inb_S4096x1024_S4096x1024_0_0), View.canon_cons_unit_zero (S := S4096x1024) offs0]

set_option maxHeartbeats 1000000 in
theorem runLast_eq (c : Dev nD) (i : grid0.Coords) (hc1 : ¬condFirst i) (hc2 : condLast i) (WW : Waits sig Unit)
    (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S16x1024 .bf16) (harg7 : arg7.IsWhole) (arg8 : Memref sig .tc .vmem S8x1024 .f32) (harg8 : arg8.IsWhole) (arg9 : Memref sig .tc .vmem S1024x1024 .bf16) (harg9 : arg9.IsWhole) (arg10 : Memref sig .tc .vmem S512x1024 .bf16) (harg10 : arg10.IsWhole) (arg11 : Memref sig .tc .vmem S512x4096 .bf16) (harg11 : arg11.IsWhole) (arg12 : Memref sig .tc .vmem S1024x1024 .f32) (harg12 : arg12.IsWhole) (arg13 : Memref sig .tc .vmem S8x1024 .f32) (harg13 : arg13.IsWhole)
    (arg14 : Memref sig .tc .hbm S8448x1024 .f32) (harg14 : arg14.IsWhole) (arg15 : Memref sig .tc .hbm S8448x1024 .bf16) (harg15 : arg15.IsWhole)
    (arg16 : Memref sig .tc .vmem S4096x1024 .f32) (harg16 : arg16.IsWhole) (arg17 : Memref sig .tc .vmem S256x1024 .bf16) (harg17 : arg17.IsWhole) (arg18 : Memref sig .tc .vmem S8x1024 .f32) (harg18 : arg18.IsWhole)
    (b : Ins F) (D : Vec F S1024x1024 .f32) (C : Vec F S8x1024 .f32) (U : Vec F S8448x1024 .f32) (W : Vec F S8448x1024 .bf16) (A : Vec F S4096x1024 .f32) (S : Vec F S256x1024 .bf16) (L : Vec F S8x1024 .f32) :
    (runLast c i hc1 hc2 WW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 b.dya b.xc b.bg b.cg b.zc b.xcp b.cgp b.w b.wpc b.h D C U W A S L).1
      = (b.da4 i L, b.dwpc i D, b.dwc i C, VecWindow.put U ![0, 0] S4096x1024.size (b.acc i L A), rounded (b.acc i L A) W, b.acc i L A,
          k0_pay1 (stage15 (b.acc i L A)), b.later) := by
  unfold runLast; dsimp only
  refine Prod.ext ?_ (Prod.ext ?_ (Prod.ext ?_ (Prod.ext ?_ (Prod.ext ?_ (Prod.ext ?_ (Prod.ext ?_ ?_)))))) <;> dsimp only <;> sl_unfold_words
  · simp only [View.read_writes_junk_eq_canon, View.readAt_eq_ld, Memref.IsWhole.read_unread, View.readCov_eq_canon',
      View.canon_cons_unit_zero (S := S1024x1024) offs0, View.canon_cons_unit_zero (S := S8x1024) offs0,
      View.ld_unit_zero (S := S1024x1024) offs0, View.ld_unit_zero (S := S512x1024) offs0, View.ld_unit_zero (S := S8x1024) offs0]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · simp only [View.read_writes_junk_eq_canon, View.readAt_eq_ld, Memref.IsWhole.read_unread, View.readCov_eq_canon',
      View.canon_cons_unit_zero (S := S1024x1024) offs0, View.canon_cons_unit_zero (S := S8x1024) offs0,
      View.ld_unit_zero (S := S1024x1024) offs0, View.ld_unit_zero (S := S512x1024) offs0, View.ld_unit_zero (S := S8x1024) offs0]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · rw [View.read_writes_cons_put _ _ _ _ _ rfl, View.writes_nil, Memref.IsWhole.read_unread]
    simp only [View.read_writes_junk_eq_canon, View.readAt_eq_ld, Memref.IsWhole.read_unread, View.readCov_eq_canon',
      View.canon_cons_unit_zero (S := S1024x1024) offs0, View.canon_cons_unit_zero (S := S8x1024) offs0,
      View.ld_unit_zero (S := S1024x1024) offs0, View.ld_unit_zero (S := S512x1024) offs0, View.ld_unit_zero (S := S8x1024) offs0]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · rw [read_put, View.writes_nil, Memref.IsWhole.read_unread]
    rw [show ∀ z : Vec F S4096x1024 .f32, ReadAs.same.apply z = z from fun z => rfl]
    rw [read_blocks]
    simp only [View.read_writes_junk_eq_canon, View.readAt_eq_ld, Memref.IsWhole.read_unread, View.readCov_eq_canon',
      View.canon_cons_unit_zero (S := S1024x1024) offs0, View.canon_cons_unit_zero (S := S8x1024) offs0,
      View.ld_unit_zero (S := S1024x1024) offs0, View.ld_unit_zero (S := S512x1024) offs0, View.ld_unit_zero (S := S8x1024) offs0]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · simp only [read_full17]
    simp only [read_put, View.writes_nil, Memref.IsWhole.read_unread]
    simp only [rounded, stage0_fun, stage1_fun, stage2_fun, stage3_fun, stage4_fun, stage5_fun, stage6_fun, stage7_fun, stage8_fun, stage9_fun, stage10_fun, stage11_fun, stage12_fun, stage13_fun, stage14_fun, stage15_fun]
    simp only [View.read_writes_junk_eq_canon, View.readAt_eq_ld, Memref.IsWhole.read_unread, View.readCov_eq_canon',
      View.canon_cons_unit_zero (S := S1024x1024) offs0, View.canon_cons_unit_zero (S := S8x1024) offs0,
      View.ld_unit_zero (S := S1024x1024) offs0, View.ld_unit_zero (S := S512x1024) offs0, View.ld_unit_zero (S := S8x1024) offs0]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · rw [read_blocks]
    simp only [View.read_writes_junk_eq_canon, View.readAt_eq_ld, Memref.IsWhole.read_unread, View.readCov_eq_canon',
      View.canon_cons_unit_zero (S := S1024x1024) offs0, View.canon_cons_unit_zero (S := S8x1024) offs0,
      View.ld_unit_zero (S := S1024x1024) offs0, View.ld_unit_zero (S := S512x1024) offs0, View.ld_unit_zero (S := S8x1024) offs0]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · rw [read_full17]
    simp only [stage15_fun]
    simp only [View.read_writes_junk_eq_canon, View.readAt_eq_ld, Memref.IsWhole.read_unread, View.readCov_eq_canon',
      View.canon_cons_unit_zero (S := S1024x1024) offs0, View.canon_cons_unit_zero (S := S8x1024) offs0,
      View.ld_unit_zero (S := S1024x1024) offs0, View.ld_unit_zero (S := S512x1024) offs0, View.ld_unit_zero (S := S8x1024) offs0]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]
  · simp only [View.read_writes_junk_eq_canon, View.readAt_eq_ld, Memref.IsWhole.read_unread, View.readCov_eq_canon',
      View.canon_cons_unit_zero (S := S1024x1024) offs0, View.canon_cons_unit_zero (S := S8x1024) offs0,
      View.ld_unit_zero (S := S1024x1024) offs0, View.ld_unit_zero (S := S512x1024) offs0, View.ld_unit_zero (S := S8x1024) offs0]
    simp only [Ins.da4, Ins.acc, Ins.later, Ins.dwpc, Ins.dwc, Ins.uH, Ins.um1H, Ins.um2H, Ins.preH, Ins.bgH, Ins.zcH, Ins.dycH, Ins.laterH, Ins.uaH, Ins.dzcH, Ins.dbgH, Ins.dxcH, Ins.dcgH, Ins.dwcH, Ins.uL, Ins.um1L, Ins.um2L, Ins.bgL, Ins.zcL, Ins.dcoL, Ins.dycL, Ins.uaL, Ins.dzcL, Ins.dbgL, Ins.duL, Ins.dxcL, Ins.dcgL, Ins.dwcL, hi, lo, tail2, prev2, tap0, tap1, tap2, rows3, acc0, acc1, acc2, acc3, col0_fun, col1_fun, col2_fun, col3_fun]

end Cert.KernelIdeal.Hand

end
-- ==== Proof.State.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import proofs.«01_k».proof.Proof.Gen.KernelIdeal.Frame
public import proofs.«01_k».proof.Proof.TileMid
public import proofs.«01_k».proof.Proof.TileFirst
public import proofs.«01_k».proof.Proof.TileLast

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, over the resource of a body with its own transfers -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- The two buffers the body's own copies write: the accumulated gradient and its rounded copy. -/
def R0 : Finset (Ref sig .tc) := {main_v1_3, main_v1_4}
/-- The body's two transfer counters. -/
abbrev osem0 : Fin 2 → SemLoc sig := fun j => (![SemLoc.dma 22, SemLoc.dma 23] : Fin 2 → SemLoc sig) j
theorem ownSemFacts0 : Pipeline.OwnSemFacts spec0 osem0 := by decide
theorem R0_sub : R0 ⊆ Pipeline.restRefs sig spec0 \ ∅ := by decide

abbrev scA : Memref sig .tc .vmem S4096x1024 .f32 := Memref.whole cc0_scratch0
abbrev scS : Memref sig .tc .vmem S256x1024 .bf16 := Memref.whole cc0_scratch1
abbrev scL : Memref sig .tc .vmem S8x1024 .f32 := Memref.whole cc0_scratch2
abbrev hbU : Memref sig .tc .hbm S8448x1024 .f32 := Memref.whole main_v1_3
abbrev hbW : Memref sig .tc .hbm S8448x1024 .bf16 := Memref.whole main_v1_4

/-! ## What the points read and what they leave -/

/-- What point `t` reads: each window's block. -/
def ins (c : Dev nD) (t : Fin cfg0.N) : Ins F where
  dya := iblk m c 0 t
  xc := iblk m c 1 t
  bg := iblk m c 2 t
  cg := iblk m c 3 t
  zc := iblk m c 4 t
  xcp := iblk m c 5 t
  cgp := iblk m c 6 t
  w := iblk m c 7 t
  wpc := iblk m c 8 t
  h := iblk m c 9 t

/-- What is carried from point to point: the two small gradients, the accumulated gradient of the input projection and
the rows the next upper half needs. -/
structure Acc (F : FTy → Type) [FloatOps F] where
  D : Vec F S1024x1024 .f32
  C : Vec F S8x1024 .f32
  A : Vec F S4096x1024 .f32
  L : Vec F S8x1024 .f32

def Acc.next (s : Acc F) (b : Ins F) (i : grid0.Coords) : Acc F := ⟨b.dwpc i s.D, b.dwc i s.C, b.acc i s.L s.A, b.later⟩

/-- What the point finds (the first finds cleared sums, and nothing is read of the rows it finds). -/
def accIn (c : Dev nD) : (n : Nat) → n < cfg0.N → Acc F
  | 0, _ => ⟨k0_pay20, k0_pay21, k0_pay22, k0_pay21⟩
  | n + 1, h => (accIn c n (Nat.lt_of_succ_lt h)).next (ins m c ⟨n, Nat.lt_of_succ_lt h⟩) (grid0.coords ⟨n, Nat.lt_of_succ_lt h⟩)
/-- What it leaves. -/
def accOut (c : Dev nD) (t : Fin cfg0.N) : Acc F := (accIn m c t.val t.isLt).next (ins m c t) (grid0.coords t)
theorem accIn_succ (c : Dev nD) (n : Nat) (h : n + 1 < cfg0.N) : accIn m c (n + 1) h = accOut m c ⟨n, Nat.lt_of_succ_lt h⟩ := rfl
def da4At (c : Dev nD) (t : Fin cfg0.N) : Vec F S512x4096 .bf16 := (ins m c t).da4 (grid0.coords t) (accIn m c t.val t.isLt).L

theorem N16 : cfg0.N = 16 := N_0
abbrev tLast : Fin cfg0.N := ⟨15, by rw [N16]; decide⟩
def finU (c : Dev nD) : Vec F S8448x1024 .f32 := VecWindow.put (V m c main_v1_3 : Vec F S8448x1024 .f32) ![0, 0] S4096x1024.size (accOut m c tLast).A
def finW (c : Dev nD) : Vec F S8448x1024 .bf16 := rounded (accOut m c tLast).A (V m c main_v1_4)
/-- The written buffers at the end. -/
def G (c : Dev nD) (b : Ref sig .tc) : Buf (Elt F) ((c : Thread nD τ).loc b) :=
  Function.update (Function.update (V m c) main_v1_3 (finU m c)) main_v1_4 (finW m c) b

/-! ## The invariant -/

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 22) 0 ∗ semVal ((c : Thread nD τ), SemLoc.dma 23) 0) := by
  rw [Pipeline.ownSems0_eq_of_list c osem0 [0, 1] (by decide) (by decide)]; rfl

theorem routedV_eq (c : Dev nD) : (Pipeline.routed R0 c (V m c) : sProp 𝕄)
    = iprop((((c : Thread nD τ).loc main_v1_3) ↦{fullShare} V m c main_v1_3) ∗ (((c : Thread nD τ).loc main_v1_4) ↦{fullShare} V m c main_v1_4)) := by
  unfold Pipeline.routed; rw [BI.bigSep_eq_bigSepL_of_eq [main_v1_3, main_v1_4] (by decide) (by decide)]; rfl
theorem routedG_eq (c : Dev nD) : (Pipeline.routed R0 c (G m c) : sProp 𝕄)
    = iprop((((c : Thread nD τ).loc main_v1_3) ↦{fullShare} finU m c) ∗ (((c : Thread nD τ).loc main_v1_4) ↦{fullShare} finW m c)) := by
  unfold Pipeline.routed; rw [BI.bigSep_eq_bigSepL_of_eq [main_v1_3, main_v1_4] (by decide) (by decide)]
  simp only [BI.bigSepL_cons_cons, BI.bigSepL_singleton, G, Function.update_self,
    Function.update_of_ne (show main_v1_3 ≠ main_v1_4 by decide)]
  rfl

/-- Between two points. -/
def mid (c : Dev nD) (s : Acc F) : sProp 𝕄 :=
  iprop((owns (c : Thread nD τ) scA fullShare s.A ∗ (∃ d, owns (c : Thread nD τ) scS fullShare d) ∗ owns (c : Thread nD τ) scL fullShare s.L)
    ∗ (∃ r, prngReg c r)
    ∗ (semVal ((c : Thread nD τ), SemLoc.dma 22) 0 ∗ semVal ((c : Thread nD τ), SemLoc.dma 23) 0)
    ∗ (owns (c : Thread nD τ) hbU fullShare (V m c main_v1_3) ∗ owns (c : Thread nD τ) hbW fullShare (V m c main_v1_4)))
/-- Before the first point, and after the last (there with the two buffers written). -/
def ends (c : Dev nD) (U : Vec F S8448x1024 .f32) (W : Vec F S8448x1024 .bf16) : sProp 𝕄 :=
  iprop(((∃ d, owns (c : Thread nD τ) scA fullShare d) ∗ (∃ d, owns (c : Thread nD τ) scS fullShare d) ∗ (∃ d, owns (c : Thread nD τ) scL fullShare d))
    ∗ (∃ r, prngReg c r)
    ∗ (semVal ((c : Thread nD τ), SemLoc.dma 22) 0 ∗ semVal ((c : Thread nD τ), SemLoc.dma 23) 0)
    ∗ (owns (c : Thread nD τ) hbU fullShare U ∗ owns (c : Thread nD τ) hbW fullShare W))

theorem bigSep_none (c : Dev nD) : (bigSep ∅ (fun b : Ref sig .tc => ((c : Thread nD τ).loc b) ↦{fullShare} V m c b) : sProp 𝕄) = iprop(emp) := BI.bigSep_empty

theorem enter (c : Dev nD) : (Pipeline.ΦDRG osem0 spec0 ∅ R0 (V m) (V m) c : sProp 𝕄) ⊢ ends c (V m c main_v1_3) (V m c main_v1_4) := by
  rw [Pipeline.ΦDRG_eq, scopedRest0_eq, ownSems00_eq, routedV_eq]
  unfold ends
  simp only [scA, scS, scL, hbU, hbW, owns_whole]
  iintro ⟨Hs, Hg, Hq, -, Hr⟩
  isplitl [Hs]; · iexact Hs
  isplitl [Hg]; · iexact Hg
  isplitl [Hq]; · iexact Hq
  iexact Hr
theorem leave (c : Dev nD) : ends c (finU m c) (finW m c) ⊢ (Pipeline.ΦDRG osem0 spec0 ∅ R0 (V m) (G m) c : sProp 𝕄) := by
  rw [Pipeline.ΦDRG_eq, scopedRest0_eq, ownSems00_eq, routedG_eq, BI.bigSep_empty]
  unfold ends
  simp only [scA, scS, scL, hbU, hbW, owns_whole]
  iintro ⟨Hs, Hg, Hq, Hr⟩
  isplitl [Hs]; · iexact Hs
  isplitl [Hg]; · iexact Hg
  isplitl [Hq]; · iexact Hq
  isplitr; · iempintro
  iexact Hr

/-! ## The proof data -/

def inv (c : Dev nD) (s : Fin (cfg0.N + 1)) : sProp 𝕄 :=
  if s.val = 0 then ends c (V m c main_v1_3) (V m c main_v1_4)
  else if h : s.val < cfg0.N then mid m c (accIn m c s.val h)
  else ends c (finU m c) (finW m c)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => da4At m c t
    | ⟨11, _⟩ => (accOut m c t).D
    | ⟨12, _⟩ => (accOut m c t).C
  Φ s := inv m c s
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = da4At m c t := by dsimp only [dats]
theorem after_11 (c : Dev nD) (t : Fin cfg0.N) : (dats m 0 c).after 11 t = (accOut m c t).D := by dsimp only [dats]
theorem after_12 (c : Dev nD) (t : Fin cfg0.N) : (dats m 0 c).after 12 t = (accOut m c t).C := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_11 (c : Dev nD) (n : Nat) (h : n + 1 < cfg0.N) (d) : (dats m 0 c).before 11 ⟨n + 1, h⟩ d = (accIn m c (n + 1) h).D := by
  rw [(dats m 0 c).before_out_kept 11 rfl ⟨n + 1, h⟩ (Nat.succ_ne_zero n)
    (by
      rw [← Bool.not_eq_true]; intro hf
      have h1 := (flush0_11 _).mp hf
      have h2 : n + 1 < 16 := lt_of_lt_of_eq h N16
      have h3 : (n + 1 - 1) % 16 = 15 := h1
      omega) (fun _ => rfl) (fun _ _ => rfl) d, accIn_succ, after_11]
  rfl
theorem before_12 (c : Dev nD) (n : Nat) (h : n + 1 < cfg0.N) (d) : (dats m 0 c).before 12 ⟨n + 1, h⟩ d = (accIn m c (n + 1) h).C := by
  rw [(dats m 0 c).before_out_kept 12 rfl ⟨n + 1, h⟩ (Nat.succ_ne_zero n)
    (by
      rw [← Bool.not_eq_true]; intro hf
      have h1 := (flush0_12 _).mp hf
      have h2 : n + 1 < 16 := lt_of_lt_of_eq h N16
      have h3 : (n + 1 - 1) % 16 = 15 := h1
      omega) (fun _ => rfl) (fun _ _ => rfl) d, accIn_succ, after_12]
  rfl

/-! ## The points' conditions -/

theorem condFirst_iff : ∀ t : Fin cfg0.N, condFirst (grid0.coords t) ↔ t.val = 0 :=
  (by decide +kernel : ∀ t : Fin grid0.N, condFirst (grid0.coords t) ↔ t.val = 0)
theorem condLast_iff : ∀ t : Fin cfg0.N, condLast (grid0.coords t) ↔ t.val = 15 :=
  (by decide +kernel : ∀ t : Fin grid0.N, condLast (grid0.coords t) ↔ t.val = 15)

/-- The word of the mask on the rows read from the next tile, and that of the mask on the rows read before the tile. -/
def wordLater (i : grid0.Coords) : BitVec 1 :=
  let v0 : BitVec 32 := Scalar.subi 15#32 (BitVec.ofNat 32 (i 0).val)
  let v17 : BitVec 32 := Scalar.select (Scalar.cmpi .eq 4#32 0#32) 1#32 4#32
  let v18 : BitVec 32 := Scalar.remsi v0 v17
  let v22 : BitVec 1 := Scalar.xori (Scalar.cmpi .slt v18 0#32) (Scalar.cmpi .slt v17 0#32)
  Scalar.cmpi .eq (Scalar.select (Scalar.andi v22 (Scalar.cmpi .ne v18 0#32)) (Scalar.addi v18 v17) v18) 3#32
def wordPrev (i : grid0.Coords) : BitVec 1 :=
  let v0 : BitVec 32 := Scalar.subi 15#32 (BitVec.ofNat 32 (i 0).val)
  let v17 : BitVec 32 := Scalar.select (Scalar.cmpi .eq 4#32 0#32) 1#32 4#32
  let v18 : BitVec 32 := Scalar.remsi v0 v17
  let v22 : BitVec 1 := Scalar.xori (Scalar.cmpi .slt v18 0#32) (Scalar.cmpi .slt v17 0#32)
  Scalar.cmpi .eq (Scalar.select (Scalar.andi v22 (Scalar.cmpi .ne v18 0#32)) (Scalar.addi v18 v17) v18) 0#32
theorem wordLater_iff : ∀ t : Fin cfg0.N, wordLater (grid0.coords t) = 1 ↔ t.val % 4 = 0 :=
  (by decide +kernel : ∀ t : Fin grid0.N, wordLater (grid0.coords t) = 1 ↔ t.val % 4 = 0)
theorem wordPrev_iff : ∀ t : Fin cfg0.N, wordPrev (grid0.coords t) = 1 ↔ t.val % 4 = 3 :=
  (by decide +kernel : ∀ t : Fin grid0.N, wordPrev (grid0.coords t) = 1 ↔ t.val % 4 = 3)
theorem pay24_eq (i : grid0.Coords) (L : Vec F S8x1024 .f32) :
    k0_pay24 i L = Scalar.select (wordLater i) (broadcast S8x1024 (Scalar.ofBits .f32 0x00000000#32)) L := rfl
theorem pay23_eq (i : grid0.Coords) :
    k0_pay23 (F := F) i = Scalar.select (wordPrev i) (Scalar.ofBits .f32 0x00000000#32) (Scalar.ofBits .f32 0x3F800000#32) := rfl

/-- At a point whose mask is set the rows found are not read. -/
theorem pay24_masked (t : Fin cfg0.N) (h : t.val % 4 = 0) (L L' : Vec F S8x1024 .f32) : k0_pay24 (grid0.coords t) L = k0_pay24 (grid0.coords t) L' := by
  rw [pay24_eq, pay24_eq]; unfold Scalar.select
  rw [if_pos ((wordLater_iff t).mpr h), if_pos ((wordLater_iff t).mpr h)]
theorem da4_masked (b : Ins F) (t : Fin cfg0.N) (h : t.val % 4 = 0) (L L' : Vec F S8x1024 .f32) : b.da4 (grid0.coords t) L = b.da4 (grid0.coords t) L' := by
  unfold Ins.da4 Ins.dxcH Ins.dcgH Ins.laterH; rw [pay24_masked t h L L']
theorem acc_masked (b : Ins F) (t : Fin cfg0.N) (h : t.val % 4 = 0) (L L' : Vec F S8x1024 .f32) (A : Vec F S4096x1024 .f32) :
    b.acc (grid0.coords t) L A = b.acc (grid0.coords t) L' A := by
  unfold Ins.acc; rw [da4_masked b t h L L']

end Cert.KernelIdeal.Hand

end
-- ==== Proof.Launch.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic
public import proofs.«01_k».proof.Proof.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d))
    ∗ (∃ d, owns (c : Thread nD τ) ((cfg0.win 12).stage (cfg0.slots t 12)) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t)
    ∗ owns (c : Thread nD τ) ((cfg0.win 9).stage (cfg0.slots t 9)) fullShare ((dats m 0 c).after 9 t)
    ∗ owns (c : Thread nD τ) ((cfg0.win 10).stage (cfg0.slots t 10)) fullShare ((dats m 0 c).after 10 t)
    ∗ owns (c : Thread nD τ) ((cfg0.win 11).stage (cfg0.slots t 11)) fullShare ((dats m 0 c).after 11 t)
    ∗ owns (c : Thread nD τ) ((cfg0.win 12).stage (cfg0.slots t 12)) fullShare ((dats m 0 c).after 12 t))

/-! ## The invariant before and after a point -/

theorem inv_first (c : Dev nD) (t : Fin cfg0.N) (h0 : t.val = 0) : inv m c t.castSucc = ends c (V m c main_v1_3) (V m c main_v1_4) := by
  unfold inv; rw [if_pos (show t.castSucc.val = 0 from h0)]
theorem inv_mid (c : Dev nD) (t : Fin cfg0.N) (h0 : t.val ≠ 0) : inv m c t.castSucc = mid m c (accIn m c t.val t.isLt) := by
  unfold inv; rw [if_neg (show ¬ t.castSucc.val = 0 from h0), dif_pos (show t.castSucc.val < cfg0.N from t.isLt)]; rfl
theorem inv_next (c : Dev nD) (t : Fin cfg0.N) (h1 : t.val ≠ 15) : inv m c t.succ = mid m c (accOut m c t) := by
  have ht : t.val < 16 := lt_of_lt_of_eq t.isLt N16
  have hs : t.succ.val < cfg0.N := lt_of_lt_of_eq (by rw [Fin.val_succ]; omega : t.succ.val < 16) N16.symm
  unfold inv; rw [if_neg (show ¬ t.succ.val = 0 from Nat.succ_ne_zero _), dif_pos hs]; rfl
theorem inv_last (c : Dev nD) (t : Fin cfg0.N) (h1 : t.val = 15) : inv m c t.succ = ends c (finU m c) (finW m c) := by
  have hs : ¬ t.succ.val < cfg0.N := fun h => absurd (lt_of_lt_of_eq h N16) (by rw [Fin.val_succ]; omega)
  unfold inv; rw [if_neg (show ¬ t.succ.val = 0 from Nat.succ_ne_zero _), dif_neg hs]

theorem before_out11 (c : Dev nD) (t : Fin cfg0.N) (h0 : t.val ≠ 0) (d) : (dats m 0 c).before 11 t d = (accIn m c t.val t.isLt).D := by
  obtain ⟨n, hn⟩ := t
  cases n with
  | zero => exact absurd rfl h0
  | succ n => exact before_11 m c n hn d
theorem before_out12 (c : Dev nD) (t : Fin cfg0.N) (h0 : t.val ≠ 0) (d) : (dats m 0 c).before 12 t d = (accIn m c t.val t.isLt).C := by
  obtain ⟨n, hn⟩ := t
  cases n with
  | zero => exact absurd rfl h0
  | succ n => exact before_12 m c n hn d
theorem accOut_D (c : Dev nD) (t : Fin cfg0.N) : (accOut m c t).D = (ins m c t).dwpc (grid0.coords t) (accIn m c t.val t.isLt).D := by dsimp only [accOut, Acc.next]
theorem accOut_C (c : Dev nD) (t : Fin cfg0.N) : (accOut m c t).C = (ins m c t).dwc (grid0.coords t) (accIn m c t.val t.isLt).C := by dsimp only [accOut, Acc.next]
theorem accOut_A (c : Dev nD) (t : Fin cfg0.N) : (accOut m c t).A = (ins m c t).acc (grid0.coords t) (accIn m c t.val t.isLt).L (accIn m c t.val t.isLt).A := by dsimp only [accOut, Acc.next]
theorem accOut_L (c : Dev nD) (t : Fin cfg0.N) : (accOut m c t).L = (ins m c t).later := by dsimp only [accOut, Acc.next]
theorem accIn_first (c : Dev nD) (t : Fin cfg0.N) (h0 : t.val = 0) : accIn m c t.val t.isLt = ⟨k0_pay20, k0_pay21, k0_pay22, k0_pay21⟩ := by
  obtain ⟨n, hn⟩ := t
  obtain rfl : n = 0 := h0
  rfl
theorem da4_first (c : Dev nD) (t : Fin cfg0.N) (h0 : t.val = 0) (L : Vec F S8x1024 .f32) :
    (ins m c t).da4 (grid0.coords t) L = da4At m c t := da4_masked _ t (by omega) _ _
theorem acc_first (c : Dev nD) (t : Fin cfg0.N) (h0 : t.val = 0) (L : Vec F S8x1024 .f32) :
    (ins m c t).acc (grid0.coords t) L k0_pay22 = (accOut m c t).A := by
  rw [accOut_A, accIn_first m c t h0]; dsimp only; exact acc_masked _ t (by omega) _ _ _
theorem dwpc_first (c : Dev nD) (t : Fin cfg0.N) (h0 : t.val = 0) : (ins m c t).dwpc (grid0.coords t) k0_pay20 = (accOut m c t).D := by
  rw [accOut_D, accIn_first m c t h0]
theorem dwc_first (c : Dev nD) (t : Fin cfg0.N) (h0 : t.val = 0) : (ins m c t).dwc (grid0.coords t) k0_pay21 = (accOut m c t).C := by
  rw [accOut_C, accIn_first m c t h0]
theorem finU_eq (c : Dev nD) (t : Fin cfg0.N) (h1 : t.val = 15) :
    finU m c = VecWindow.put (V m c main_v1_3 : Vec F S8448x1024 .f32) ![0, 0] S4096x1024.size ((ins m c t).acc (grid0.coords t) (accIn m c t.val t.isLt).L (accIn m c t.val t.isLt).A) := by
  obtain rfl : t = tLast := Fin.ext h1
  unfold finU; rw [accOut_A]
theorem finW_eq (c : Dev nD) (t : Fin cfg0.N) (h1 : t.val = 15) :
    finW m c = rounded ((ins m c t).acc (grid0.coords t) (accIn m c t.val t.isLt).L (accIn m c t.val t.isLt).A) (V m c main_v1_4) := by
  obtain rfl : t = tLast := Fin.ext h1
  unfold finW; rw [accOut_A]

/-! ## The body at each point -/

set_option maxHeartbeats 1000000 in
theorem sound_first (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  rw [show (dats m 0 c).Φ t.castSucc = inv m c t.castSucc from rfl, show (dats m 0 c).Φ t.succ = inv m c t.succ from rfl, inv_first m c t h0, inv_next m c t (by omega)]
  simp only [before_0, before_1, before_2, before_3, before_4, before_5, before_6, before_7, before_8, before_9, after_0, after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl]
  unfold ends mid
  iintro ⟨⟨⟨HA, HS, ⟨%L, HL⟩⟩, Hg, Hq, Hr⟩, ⟨%W', -, HW'⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runFirst c (grid0.coords t) ((condFirst_iff t).mpr h0) (fun h => absurd ((condLast_iff t).mp h) (by omega)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) hbU (Memref.isWhole_whole _) hbW (Memref.isWhole_whole _) scA (Memref.isWhole_whole _) scS (Memref.isWhole_whole _) scL (Memref.isWhole_whole _) cc0_scratch3 (ins m c t).dya (ins m c t).xc (ins m c t).bg (ins m c t).cg (ins m c t).zc (ins m c t).xcp (ins m c t).cgp (ins m c t).w (ins m c t).wpc (ins m c t).h L).2 _)
  rw [runFirst_eq]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HA]; · iexact HA
  isplitl [HL]; · iexact HL
  iintro ⟨H0, H1, H2, H3, H4, H5, H6, H7, H8, H9, H10, H11, H12, HA, HL⟩
  dsimp only
  rw [accOut_L, da4_first m c t h0 L, acc_first m c t h0 L, dwpc_first m c t h0, dwc_first m c t h0]
  isplitl [HA HS HL Hg Hq Hr]
  · isplitl [HA HS HL]
    · isplitl [HA]; · iexact HA
      isplitl [HS]; · iexact HS
      iexact HL
    isplitl [Hg]; · iexact Hg
    isplitl [Hq]; · iexact Hq
    iexact Hr
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 1000000 in
theorem sound_mid (c : Dev nD) (t : Fin cfg0.N) (h0 : t.val ≠ 0) (h1 : t.val ≠ 15) :
    bodyPre m c t ⊢ wp frame (wpE (defs₀ (F := F)) Variants.none c none) Set.univ (bodyAt0 t) (fun _ => bodyPost m c t) := by
  unfold bodyPre bodyPost bodyAt0
  rw [show (dats m 0 c).Φ t.castSucc = inv m c t.castSucc from rfl, show (dats m 0 c).Φ t.succ = inv m c t.succ from rfl, inv_mid m c t h0, inv_next m c t h1]
  simp only [before_0, before_1, before_2, before_3, before_4, before_5, before_6, before_7, before_8, before_9, after_0, after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl]
  simp only [before_out11 m c t h0, before_out12 m c t h0]
  unfold mid
  iintro ⟨⟨⟨HA, HS, HL⟩, Hg, Hq, Hr⟩, ⟨%W', -, HW'⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runMid c (grid0.coords t) (fun h => absurd ((condFirst_iff t).mp h) h0) (fun h => absurd ((condLast_iff t).mp h) h1) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) hbU (Memref.isWhole_whole _) hbW (Memref.isWhole_whole _) scA (Memref.isWhole_whole _) scS (Memref.isWhole_whole _) scL (Memref.isWhole_whole _) cc0_scratch3 (ins m c t).dya (ins m c t).xc (ins m c t).bg (ins m c t).cg (ins m c t).zc (ins m c t).xcp (ins m c t).cgp (ins m c t).w (ins m c t).wpc (ins m c t).h (accIn m c t.val t.isLt).D (accIn m c t.val t.isLt).C (accIn m c t.val t.isLt).A (accIn m c t.val t.isLt).L).2 _)
  rw [runMid_eq]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HA]; · iexact HA
  isplitl [HL]; · iexact HL
  iintro ⟨H0, H1, H2, H3, H4, H5, H6, H7, H8, H9, H10, H11, H12, HA, HL⟩
  dsimp only
  rw [accOut_D, accOut_C, accOut_A, accOut_L]; unfold da4At
  isplitl [HA HS HL Hg Hq Hr]
  · isplitl [HA HS HL]
    · isplitl [HA]; · iexact HA
      isplitl [HS]; · iexact HS
      iexact HL
    isplitl [Hg]; · iexact Hg
    isplitl [Hq]; · iexact Hq
    iexact Hr
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

set_option maxHeartbeats 1000000 in
theorem sound_last (c : Dev nD) (t : Fin cfg0.N) (h0 : t.val ≠ 0) (h1 : t.val = 15) :
    bodyPre m c t ⊢ wp frame (wpE (defs₀ (F := F)) Variants.none c none) Set.univ (bodyAt0 t) (fun _ => bodyPost m c t) := by
  unfold bodyPre bodyPost bodyAt0
  rw [show (dats m 0 c).Φ t.castSucc = inv m c t.castSucc from rfl, show (dats m 0 c).Φ t.succ = inv m c t.succ from rfl, inv_mid m c t h0, inv_last m c t h1]
  simp only [before_0, before_1, before_2, before_3, before_4, before_5, before_6, before_7, before_8, before_9, after_0, after_1, after_2, after_3, after_4, after_5, after_6, after_7, after_8, after_9, after_10, after_11, after_12]
  unfold Dat.owesAt Pipeline.owesWithin
  rw [show (dats m 0 c).owed t.castSucc = 0 from rfl, show (dats m 0 c).owed t.succ = 0 from rfl]
  simp only [before_out11 m c t h0, before_out12 m c t h0]
  unfold mid ends
  iintro ⟨⟨⟨HA, ⟨%S, HS⟩, HL⟩, Hg, ⟨Hq0, Hq1⟩, ⟨HU, HV⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runLast c (grid0.coords t) (fun h => absurd ((condFirst_iff t).mp h) h0) ((condLast_iff t).mpr h1) W (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) hbU (Memref.isWhole_whole _) hbW (Memref.isWhole_whole _) scA (Memref.isWhole_whole _) scS (Memref.isWhole_whole _) scL (Memref.isWhole_whole _) (ins m c t).dya (ins m c t).xc (ins m c t).bg (ins m c t).cg (ins m c t).zc (ins m c t).xcp (ins m c t).cgp (ins m c t).w (ins m c t).wpc (ins m c t).h (accIn m c t.val t.isLt).D (accIn m c t.val t.isLt).C (V m c main_v1_3) (V m c main_v1_4) (accIn m c t.val t.isLt).A S (accIn m c t.val t.isLt).L).2 _)
  rw [runLast_eq]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [HU]; · iexact HU
  isplitl [HV]; · iexact HV
  isplitl [HA]; · iexact HA
  isplitl [HS]; · iexact HS
  isplitl [HL]; · iexact HL
  isplitl [Hq0]; · iexact Hq0
  isplitl [Hq1]; · iexact Hq1
  isplitl [HW]; · iexact HW
  iintro ⟨H0, H1, H2, H3, H4, H5, H6, H7, H8, H9, H10, H11, H12, HU, HV, HA, HS, HL, Hq0, Hq1, ⟨%W', HW'⟩⟩
  dsimp only
  rw [accOut_D, accOut_C]; unfold da4At
  isplitl [HA HS HL Hg Hq0 Hq1 HU HV]
  · isplitl [HA HS HL]
    · isplitl [HA]; · iexists _; iexact HA
      isplitl [HS]; · iexists _; iexact HS
      iexists _; iexact HL
    isplitl [Hg]; · iexact Hg
    isplitl [Hq0 Hq1]
    · isplitl [Hq0]; · iexact Hq0
      iexact Hq1
    rw [finU_eq m c t h1, finW_eq m c t h1]
    isplitl [HU]; · iexact HU
    iexact HV
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h1 : t.val = 15
  · exact sound_last m c t h0 h1
  exact sound_mid m c t h0 h1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem inv_zero (c : Dev nD) : inv m c 0 = ends c (V m c main_v1_3) (V m c main_v1_4) := by unfold inv; rw [if_pos (show (0 : Fin (cfg0.N + 1)).val = 0 from rfl)]
theorem inv_end (c : Dev nD) : inv m c (Fin.last cfg0.N) = ends c (finU m c) (finW m c) := by
  unfold inv; rw [if_neg (show ¬ (Fin.last cfg0.N).val = 0 from fun h => absurd ((Fin.val_last cfg0.N).symm.trans h) (by rw [N16]; decide)), dif_neg (show ¬ (Fin.last cfg0.N).val < cfg0.N from by rw [Fin.val_last]; exact Nat.lt_irrefl _)]

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG_shared (Q' := _) cfgs (dats m) (0 : Fin 1) launch₀0 osem0 defs₀ Variants.none ownSemFacts0 ∅ R0 (Finset.empty_subset _) R0_sub m ρ main
    (hbody := fun c => (body_obligation m c).loose) (hq := fun c w _ => rfl)
    (howed := fun _ _ => rfl) (V := V m) (hmain := hmainD m Variants.none) (hA := A_eq m) (G := G m)
    (hin := fun c => (enter m c).trans (by rw [show (dats m 0 c).Φ 0 = inv m c 0 from rfl, inv_zero]))
    (hout := fun c => by rw [show (dats m 0 c).Φ (Fin.last (cfgs 0).N) = inv m c (Fin.last cfg0.N) from rfl, inv_end]; exact leave m c)
    (hQ' := fun _ h => h)

/-- Every argument array ends as it was. -/
theorem args_kept {r : PUnit × MemSt nD τ sig (Elt F)} (h : Pipeline.FramePostRG cfgs (dats m) 0 R0 (V m) (G m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h.toR c).1 0).trans (((dats m 0 c).arrAt_in 0 rfl _).trans ((A_eq m c 0).trans (V_main_arg0 m c))),
    ((h.toR c).1 6).trans (((dats m 0 c).arrAt_in 6 rfl _).trans ((A_eq m c 6).trans (V_main_arg1 m c))),
    ((h.toR c).1 9).trans (((dats m 0 c).arrAt_in 9 rfl _).trans ((A_eq m c 9).trans (V_main_arg2 m c))),
    ((h.toR c).2 main_arg3 (Finset.mem_sdiff.mpr ⟨Pipeline.mem_restRefs_of main_arg3 (by decide) (by decide), by decide⟩)).trans (V_main_arg3 m c),
    ((h.toR c).1 8).trans (((dats m 0 c).arrAt_in 8 rfl _).trans ((A_eq m c 8).trans (V_main_arg4 m c)))⟩

/-- Every argument array ends as it was, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m h.1, h.2⟩) (run_main m ρ)

end Cert.KernelIdeal.Hand

end
-- ==== Proof.Carry.lean ====
module

public import proofs.«01_k».proof.Proof.TileValue
public import proofs.«01_k».proof.Proof.Launch

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Proof

/-- The first token of point `n`'s tile: the tiles are taken from the last to the first. -/
def first (n : ℕ) : ℕ := 512 * (15 - n)

/-- The sum over the tokens of the first `n` points. -/
def part (G : ℕ → EReal) (n : ℕ) : EReal := ∑ j ∈ Finset.range n, ∑ r : Fin 512, G (first j + r.val)

theorem part_zero (G : ℕ → EReal) : part G 0 = 0 := Finset.sum_range_zero _
theorem part_succ (G : ℕ → EReal) (n : ℕ) : part G (n + 1) = part G n + ∑ r : Fin 512, G (first n + r.val) := Finset.sum_range_succ _ _

/-- All points together sum over all tokens. -/
theorem part_all (G : ℕ → EReal) : part G 16 = ∑ T : Fin 8192, G T.val := by
  unfold part
  rw [Fin.sum_univ_tiles 16 512 rfl fun T : Fin 8192 => G T.val,
    ← Finset.sum_range_reflect (fun j => ∑ r : Fin 512, G (first j + r.val)) 16,
    Finset.sum_range (n := 16) fun j => ∑ r : Fin 512, G (first (16 - 1 - j) + r.val)]
  refine Fin.sum_fin_congr fun j => Fin.sum_fin_congr fun r => ?_
  have hj := j.isLt
  exact congrArg G (show 512 * (15 - (16 - 1 - j.val)) + r.val = j.val * 512 + r.val by omega)

variable (m : (ℓ : Loc nD τ sig) → Buf (Elt Ideal) ℓ) (c : Dev nD) (a : Arr)
  (hf : ∀ t : Fin cfg0.N, Fits (ins m c t) (grid0.coords t) a (first t.val))
include hf

/-- The rows a point is given for its upper half. -/
theorem later_in (t : Fin cfg0.N) : Later (grid0.coords t) (accIn m c t.val t.isLt).L a (first t.val) := by
  have hN : t.val < 16 := lt_of_lt_of_eq t.isLt N16
  by_cases h4 : t.val % 4 = 0
  · have hz : (first t.val + 512) % 2048 = 0 := by unfold first; omega
    constructor
    all_goals
      intro d
      rw [if_pos hz, pay24_eq, Scalar.select, if_pos ((wordLater_iff t).mpr h4)]
      pointwise
  · have hz : ¬ (first t.val + 512) % 2048 = 0 := by unfold first; omega
    have hw : ¬ wordLater (grid0.coords t) = 1 := fun h => h4 ((wordLater_iff t).mp h)
    obtain ⟨n, hn⟩ := t
    cases n with
    | zero => exact absurd rfl h4
    | succ n =>
      have hn16 : n + 1 < 16 := hN
      have e : first (n + 1) + 512 = first n := by unfold first; omega
      have hL : (accIn m c (n + 1) hn).L = (ins m c ⟨n, Nat.lt_of_succ_lt hn⟩).later := rfl
      constructor
      · intro d
        rw [if_neg hz, pay24_eq, Scalar.select, if_neg hw, hL, (hf ⟨n, Nat.lt_of_succ_lt hn⟩).later_at, e]; rfl
      · intro d
        rw [if_neg hz, pay24_eq, Scalar.select, if_neg hw, hL, (hf ⟨n, Nat.lt_of_succ_lt hn⟩).later_at,
          show first (n + 1) + 513 = first n + 1 by omega]; rfl

theorem in_D (p e : Fin 1024) : ∀ (n : ℕ) (h : n < cfg0.N),
    (accIn m c n h).D (ix2 p e) = part (fun T => a.ua T p * a.dy T e) n
  | 0, h => by
    rw [part_zero]
    show k0_pay20 (F := Ideal) (ix2 p e) = (0 : EReal)
    pointwise [k0_pay20]
  | n + 1, h => by
    rw [part_succ, ← in_D p e n (Nat.lt_of_succ_lt h)]
    exact (hf ⟨n, Nat.lt_of_succ_lt h⟩).dwpc_at _ p e

theorem in_C (k : Fin 3) (d : Fin 1024) : ∀ (n : ℕ) (h : n < cfg0.N),
    (accIn m c n h).C (ix2 ⟨k.val, by omega⟩ d) = part (fun T => a.dw T d k) n
  | 0, h => by
    rw [part_zero]
    show k0_pay21 (F := Ideal) (ix2 ⟨k.val, by omega⟩ d) = (0 : EReal)
    pointwise [k0_pay21]
  | n + 1, h => by
    rw [part_succ, ← in_C k d n (Nat.lt_of_succ_lt h)]
    exact (hf ⟨n, Nat.lt_of_succ_lt h⟩).dwc_at _ k d

omit hf in
theorem in_C_rest (k : Fin 8) (hk : 3 ≤ k.val) (d : Fin 1024) : ∀ (n : ℕ) (h : n < cfg0.N),
    (accIn m c n h).C (ix2 k d) = (0 : EReal)
  | 0, h => by
    show k0_pay21 (F := Ideal) (ix2 k d) = (0 : EReal)
    pointwise [k0_pay21]
  | n + 1, h => (Fits.dwc_rest _ k hk d).trans (in_C_rest k hk d n (Nat.lt_of_succ_lt h))

theorem in_A (y : S4096x1024.Idx) (d : Fin 1024) (k : Fin 4) (hc : (y 0).val = 1024 * k.val + d.val) : ∀ (n : ℕ) (h : n < cfg0.N),
    (accIn m c n h).A y = part (fun T => a.da T d k * a.h T (y 1)) n
  | 0, h => by
    rw [part_zero]
    obtain ⟨r, e, rfl⟩ : ∃ (r : Fin 4096) (e : Fin 1024), y = ix2 r e := ⟨y 0, y 1, eq_ix2 y⟩
    show k0_pay22 (F := Ideal) (ix2 r e) = (0 : EReal)
    pointwise [k0_pay22]
  | n + 1, h => by
    rw [part_succ, ← in_A y d k hc n (Nat.lt_of_succ_lt h), accIn_succ, accOut_A]
    exact (hf ⟨n, Nat.lt_of_succ_lt h⟩).acc_at (later_in m c a hf ⟨n, Nat.lt_of_succ_lt h⟩) _ y d k hc

/-! ## What the last point leaves -/

theorem out_D (p e : Fin 1024) : (accOut m c tLast).D (ix2 p e) = ∑ T : Fin 8192, a.ua T.val p * a.dy T.val e := by
  rw [← part_all fun T => a.ua T p * a.dy T e, part_succ, ← in_D m c a hf p e 15 tLast.isLt]
  exact (hf tLast).dwpc_at _ p e
theorem out_C (k : Fin 3) (d : Fin 1024) : (accOut m c tLast).C (ix2 ⟨k.val, by omega⟩ d) = ∑ T : Fin 8192, a.dw T.val d k := by
  rw [← part_all fun T => a.dw T d k, part_succ, ← in_C m c a hf k d 15 tLast.isLt]
  exact (hf tLast).dwc_at _ k d
omit hf in
theorem out_C_rest (k : Fin 8) (hk : 3 ≤ k.val) (d : Fin 1024) : (accOut m c tLast).C (ix2 k d) = (0 : EReal) :=
  (Fits.dwc_rest _ k hk d).trans (in_C_rest m c k hk d 15 tLast.isLt)
theorem out_A (y : S4096x1024.Idx) (d : Fin 1024) (k : Fin 4) (hc : (y 0).val = 1024 * k.val + d.val) :
    (accOut m c tLast).A y = ∑ T : Fin 8192, a.da T.val d k * a.h T.val (y 1) := by
  rw [← part_all fun T => a.da T d k * a.h T (y 1), part_succ, ← in_A m c a hf y d k hc 15 tLast.isLt, accOut_A]
  exact (hf tLast).acc_at (later_in m c a hf tLast) _ y d k hc

end Cert.KernelIdeal.Hand

end
-- ==== Proof.Blocks.lean ====
module

public import proofs.«01_k».proof.Proof.Carry
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Proof

/-- Which block each window takes at a point. -/
theorem idx : ∀ t : Fin cfg0.N, win0_0.index t = ![15 - t.val, 0] ∧ win0_1.index t = ![15 - t.val, 0]
    ∧ win0_2.index t = ![15 - t.val, 1] ∧ win0_3.index t = ![15 - t.val, 2] ∧ win0_4.index t = ![15 - t.val, 3]
    ∧ win0_5.index t = ![32 * (15 - t.val) - 1, 0] ∧ win0_6.index t = ![32 * (15 - t.val) - 1, 2]
    ∧ win0_7.index t = ![0, 0] ∧ win0_8.index t = ![0, 0] ∧ win0_9.index t = ![15 - t.val, 0]
    ∧ win0_10.index t = ![15 - t.val, 0] ∧ win0_11.index t = ![0, 0] ∧ win0_12.index t = ![0, 0] ∧ t.val < 16 :=
  (by decide +kernel : ∀ t : Fin grid0.N, _)

variable (m : (ℓ : Loc nD τ sig) → Buf (Elt Ideal) ℓ) (c : Dev nD)

/-- The arrays the kernel is called with. -/
def arr : Arr := Arr.of (fun T d => m ((c : Thread nD τ).loc main_arg0) (ix2 T d)) (fun T d => m ((c : Thread nD τ).loc main_arg1) (ix2 T d))
  (fun T d => m ((c : Thread nD τ).loc main_arg2) (ix2 T d)) (fun k d => m ((c : Thread nD τ).loc main_arg3) (ix2 k d))
  (fun d e => m ((c : Thread nD τ).loc main_arg4) (ix2 d e))

variable (t : Fin cfg0.N)

theorem first_lt (r : Fin 512) : first t.val + r.val < 8192 := by
  have : t.val < 16 := lt_of_lt_of_eq t.isLt N16
  unfold first; omega

theorem fits_dy (r : Fin 512) (d : Fin 1024) : (ins m c t).dya (ix2 r d) = (arr m c).dy (first t.val + r.val) d := by
  have hN : t.val < 16 := lt_of_lt_of_eq t.isLt N16
  dsimp only [ins, arr, Arr.of]; rw [Arr.total_of_lt _ _ (first_lt t r)]; unfold first
  blk_ext [iblk, V, idx t]
theorem fits_x (r : Fin 512) (d : Fin 1024) : (ins m c t).xc (ix2 r d) = (arr m c).x (first t.val + r.val) d := by
  have hN : t.val < 16 := lt_of_lt_of_eq t.isLt N16
  dsimp only [ins, arr, Arr.of]; rw [Arr.total_of_lt _ _ (first_lt t r)]; unfold first
  blk_ext [iblk, V, idx t]
theorem fits_B (r : Fin 512) (d : Fin 1024) : (ins m c t).bg (ix2 r d) = (arr m c).B (first t.val + r.val) d := by
  have hN : t.val < 16 := lt_of_lt_of_eq t.isLt N16
  dsimp only [ins, arr, Arr.of]; rw [Arr.total_of_lt _ _ (first_lt t r)]; unfold first
  blk_ext [iblk, V, idx t]
theorem fits_C (r : Fin 512) (d : Fin 1024) : (ins m c t).cg (ix2 r d) = (arr m c).C (first t.val + r.val) d := by
  have hN : t.val < 16 := lt_of_lt_of_eq t.isLt N16
  dsimp only [ins, arr, Arr.of]; rw [Arr.total_of_lt _ _ (first_lt t r)]; unfold first
  blk_ext [iblk, V, idx t]
theorem fits_z (r : Fin 512) (d : Fin 1024) : (ins m c t).zc (ix2 r d) = (arr m c).z (first t.val + r.val) d := by
  have hN : t.val < 16 := lt_of_lt_of_eq t.isLt N16
  dsimp only [ins, arr, Arr.of]; rw [Arr.total_of_lt _ _ (first_lt t r)]; unfold first
  blk_ext [iblk, V, idx t]
theorem fits_h (r : Fin 512) (d : Fin 1024) : (ins m c t).h (ix2 r d) = (arr m c).h (first t.val + r.val) d := by
  have hN : t.val < 16 := lt_of_lt_of_eq t.isLt N16
  dsimp only [ins, arr, Arr.of]; rw [Arr.total_of_lt _ _ (first_lt t r)]; unfold first
  blk_ext [iblk, V, idx t]
theorem fits_wp (d e : Fin 1024) : (ins m c t).wpc (ix2 d e) = (arr m c).wp d e := by
  show iblk m c 8 t (ix2 d e) = m ((c : Thread nD τ).loc main_arg4) (ix2 d e)
  blk_ext [iblk, V, idx t]
theorem fits_w (k : Fin 3) (d : Fin 1024) : (ins m c t).w (ix2 ⟨k.val, by omega⟩ d) = (arr m c).w k d := by
  show iblk m c 7 t (ix2 ⟨k.val, by omega⟩ d) = m ((c : Thread nD τ).loc main_arg3) (ix2 k d)
  have e : iblk m c 7 t (ix2 ⟨k.val, by omega⟩ d) = V m c main_v0 (ix2 ⟨k.val, by omega⟩ d) := by blk_ext [iblk, idx t]
  rw [e]
  have e' : (V m c main_v0 : Vec Ideal S8x1024 .f32)
      = pad (α := EReal) (s := S3x1024) S8x1024 ![0, 0] ![5, 0] ![0, 0] (m ((c : Thread nD τ).loc main_arg3) : FVec Ideal S3x1024 .f32) (sitofp (F := Ideal) .f32 (constantI S_ 32 0#32)) pads_S3x1024_S8x1024_050_000 h_S_ := by
    unfold V
    simp only [hostOps0, hostOps0_1, List.flatten_cons, List.flatten_nil, List.append_nil, List.cons_append, List.nil_append]
    after_results
    try rfl
  rw [e']
  pointwise
theorem fits_xp (k : ℕ) (hk : k = 1 ∨ k = 2) (h : first t.val % 2048 ≠ 0) (d : Fin 1024) :
    (ins m c t).xcp (ix2 ⟨16 - k, by omega⟩ d) = (arr m c).x (first t.val - k) d := by
  have hN : t.val < 16 := lt_of_lt_of_eq t.isLt N16
  unfold first at h
  dsimp only [ins, arr, Arr.of]; rw [Arr.total_of_lt _ _ (show first t.val - k < 8192 by unfold first; omega)]; unfold first
  blk_ext [iblk, V, idx t]
theorem fits_Cp (k : ℕ) (hk : k = 1 ∨ k = 2) (h : first t.val % 2048 ≠ 0) (d : Fin 1024) :
    (ins m c t).cgp (ix2 ⟨16 - k, by omega⟩ d) = (arr m c).C (first t.val - k) d := by
  have hN : t.val < 16 := lt_of_lt_of_eq t.isLt N16
  unfold first at h
  dsimp only [ins, arr, Arr.of]; rw [Arr.total_of_lt _ _ (show first t.val - k < 8192 by unfold first; omega)]; unfold first
  blk_ext [iblk, V, idx t]
theorem fits_keep : k0_pay23 (F := Ideal) (grid0.coords t) = if first t.val % 2048 = 0 then (0 : EReal) else 1 := by
  have hN : t.val < 16 := lt_of_lt_of_eq t.isLt N16
  rw [pay23_eq]
  by_cases h : t.val % 4 = 3
  · rw [if_pos (by unfold first; omega), Scalar.select, if_pos ((wordPrev_iff t).mpr h)]
    exact Ideal.ofBits_zero .f32
  · rw [if_neg (by unfold first; omega), Scalar.select, if_neg fun h' => h ((wordPrev_iff t).mp h')]
    pointwise

/-- Every point's blocks are its tokens of the arrays. -/
theorem fits : Fits (ins m c t) (grid0.coords t) (arr m c) (first t.val) where
  start := by unfold first; omega
  dy := fits_dy m c t
  x := fits_x m c t
  B := fits_B m c t
  C := fits_C m c t
  z := fits_z m c t
  h := fits_h m c t
  w0 := fits_w m c t 0
  w1 := fits_w m c t 1
  w2 := fits_w m c t 2
  wp := fits_wp m c t
  x2 := fits_xp m c t 2 (.inr rfl)
  x1 := fits_xp m c t 1 (.inl rfl)
  C2 := fits_Cp m c t 2 (.inr rfl)
  C1 := fits_Cp m c t 1 (.inl rfl)
  keep := fits_keep t

end Cert.KernelIdeal.Hand

end
-- ==== Proof.Final.lean ====
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Proof

variable (m : (ℓ : Loc nD τ sig) → Buf (Elt Ideal) ℓ) (c : Dev nD)

/-- The gradient of the saved projection after the run. -/
theorem final_10 : (dats m 0 c).arrAt 10 (cfgs 0).N = fun i : S8192x4096.Idx => (arr m c).gP (i 0).val (i 1).val := by
  refine (dats m 0 c).arrAt_eq_of_covers 10 _ (by decide +kernel) fun t _ y => ?_
  blk_simp [idx t]
  rw [after_10]
  have h1 : (y 1).val < 4096 := (y 1).isLt
  refine ((fits m c t).da4_at (later_in m c (arr m c) (fits m c) t) y _ ⟨(y 1).val % 1024, by omega⟩ ⟨(y 1).val / 1024 % 4, by omega⟩
    ?_ ?_).trans rfl
  · unfold first; omega
  · show (y 1).val = 1024 * ((y 1).val / 1024 % 4) + (y 1).val % 1024
    omega
/-- The gradient of the output projection after the run. -/
theorem final_11 : (dats m 0 c).arrAt 11 (cfgs 0).N = fun i : S1024x1024.Idx => (arr m c).gW (i 0) (i 1) := by
  refine (dats m 0 c).arrAt_eq_of_covers 11 _ (by decide +kernel) fun t hf y => ?_
  have ht := (flush0_11 t).mp hf
  have ht' : t = tLast := Fin.ext (by have := (idx t).2.2.2.2.2.2.2.2.2.2.2.2.2; show t.val = 15; omega)
  subst ht'
  blk_simp [idx tLast]
  rw [after_11]
  obtain ⟨p, e, rfl⟩ : ∃ p e, y = (ix2 p e : S1024x1024.Idx) := ⟨y 0, y 1, by funext a; fin_cases a <;> rfl⟩
  refine (out_D m c (arr m c) (fits m c) p e).trans (congrArg₂ (arr m c).gW (Fin.ext ?_) (Fin.ext ?_))
  · show p.val = _; blk_simp [idx tLast]
  · show e.val = _; blk_simp [idx tLast]
/-- The gradient of the taps after the run. -/
theorem final_12 : (dats m 0 c).arrAt 12 (cfgs 0).N = fun i : S8x1024.Idx => (arr m c).gC (i 0).val (i 1) := by
  refine (dats m 0 c).arrAt_eq_of_covers 12 _ (by decide +kernel) fun t hf y => ?_
  have ht := (flush0_12 t).mp hf
  have ht' : t = tLast := Fin.ext (by have := (idx t).2.2.2.2.2.2.2.2.2.2.2.2.2; show t.val = 15; omega)
  subst ht'
  blk_simp [idx tLast]
  rw [after_12]
  obtain ⟨k, e, rfl⟩ : ∃ p e, y = (ix2 p e : S8x1024.Idx) := ⟨y 0, y 1, by funext a; fin_cases a <;> rfl⟩
  have he : (arr m c).gC k.val e = (accOut m c tLast).C (ix2 k e) := by
    unfold Arr.gC
    split
    · next h => exact (out_C m c (arr m c) (fits m c) ⟨k.val, h⟩ e).symm
    · next h => exact (out_C_rest m c k (by omega) e).symm
  refine he.symm.trans (congrArg₂ (arr m c).gC ?_ (Fin.ext ?_))
  · show k.val = _; blk_simp [idx tLast]
  · show e.val = _; blk_simp [idx tLast]
theorem out_U (y : S4096x1024.Idx) : (accOut m c tLast).A y = (arr m c).gU (y 0).val (y 1) := by
  have h0 : (y 0).val < 4096 := (y 0).isLt
  refine (out_A m c (arr m c) (fits m c) y ⟨(y 0).val % 1024, by omega⟩ ⟨(y 0).val / 1024 % 4, by omega⟩ ?_).trans rfl
  show (y 0).val = 1024 * ((y 0).val / 1024 % 4) + (y 0).val % 1024
  omega
/-- What the two arrays written by copies hold. -/
theorem g_U : G m c main_v1_3 = finU m c := by
  unfold G
  rw [Function.update_of_ne (by decide), Function.update_self]
theorem g_W : G m c main_v1_4 = finW m c := by
  unfold G
  rw [Function.update_self]
/-- The accumulated gradient and its rounded copy, in the rows the kernel writes. -/
theorem final_U (r : Fin 8448) (e : Fin 1024) (hr : r.val < 4096) : finU m c (ix2 r e) = (arr m c).gU r.val e := by
  unfold finU
  rw [VecWindow.put, dif_pos (show ∀ a : Fin 2, (![0, 0] : Fin 2 → ℕ) a ≤ ((ix2 r e : S8448x1024.Idx) a).val
    ∧ ((ix2 r e : S8448x1024.Idx) a).val < (![0, 0] : Fin 2 → ℕ) a + S4096x1024.size a from fun a => by
      fin_cases a
      · exact ⟨Nat.zero_le _, by show r.val < 0 + 4096; omega⟩
      · exact ⟨Nat.zero_le _, by show e.val < 0 + 1024; omega⟩)]
  exact out_U m c _

theorem put_rows (W : Vec Ideal S8448x1024 .bf16) (o : ℕ) (w : Vec Ideal S256x1024 .bf16) (v : EReal) (r : Fin 8448) (e : Fin 1024)
    (hin : ∀ k : Fin 256, r.val = o + k.val → w (ix2 k e) = v) (hout : r.val < o ∨ o + 256 ≤ r.val → W (ix2 r e) = v) :
    VecWindow.put W ![o, 0] S256x1024.size w (ix2 r e) = v := by
  by_cases h : o ≤ r.val ∧ r.val < o + 256
  · rw [VecWindow.put, dif_pos (show ∀ a : Fin 2, (![o, 0] : Fin 2 → ℕ) a ≤ ((ix2 r e : S8448x1024.Idx) a).val
      ∧ ((ix2 r e : S8448x1024.Idx) a).val < (![o, 0] : Fin 2 → ℕ) a + S256x1024.size a from fun a => by
        fin_cases a
        · exact h
        · exact ⟨Nat.zero_le _, by show e.val < 0 + 1024; omega⟩)]
    rw [← hin ⟨r.val - o, by omega⟩ (by show r.val = o + (r.val - o); omega)]
    congr 1
    funext a; fin_cases a <;> rfl
  · rw [VecWindow.put, dif_neg fun hh => h (hh 0)]
    exact hout (by omega)

theorem rounded_at (x : Vec Ideal S4096x1024 .f32) (W : Vec Ideal S8448x1024 .bf16) (r : Fin 8448) (e : Fin 1024) (hr : r.val < 4096) :
    rounded x W (ix2 r e) = x (ix2 ⟨r.val, hr⟩ e) := by
  unfold rounded
  refine put_rows _ _ _ _ _ _ (fun k hk => ?_) fun h15 => ?_
  · pointwise [k0_pay1, stage15]
    exact congrArg (fun q => x (ix2 q e)) (Fin.ext (by dsimp only; omega))
  refine put_rows _ _ _ _ _ _ (fun k hk => ?_) fun h14 => ?_
  · pointwise [k0_pay19, stage14]
    exact congrArg (fun q => x (ix2 q e)) (Fin.ext (by dsimp only; omega))
  refine put_rows _ _ _ _ _ _ (fun k hk => ?_) fun h13 => ?_
  · pointwise [k0_pay18, stage13]
    exact congrArg (fun q => x (ix2 q e)) (Fin.ext (by dsimp only; omega))
  refine put_rows _ _ _ _ _ _ (fun k hk => ?_) fun h12 => ?_
  · pointwise [k0_pay17, k0_pay16, stage12]
    exact congrArg (fun q => x (ix2 q e)) (Fin.ext (by dsimp only; omega))
  refine put_rows _ _ _ _ _ _ (fun k hk => ?_) fun h11 => ?_
  · pointwise [k0_pay15, stage11]
    exact congrArg (fun q => x (ix2 q e)) (Fin.ext (by dsimp only; omega))
  refine put_rows _ _ _ _ _ _ (fun k hk => ?_) fun h10 => ?_
  · pointwise [k0_pay14, stage10]
    exact congrArg (fun q => x (ix2 q e)) (Fin.ext (by dsimp only; omega))
  refine put_rows _ _ _ _ _ _ (fun k hk => ?_) fun h9 => ?_
  · pointwise [k0_pay13, stage9]
    exact congrArg (fun q => x (ix2 q e)) (Fin.ext (by dsimp only; omega))
  refine put_rows _ _ _ _ _ _ (fun k hk => ?_) fun h8 => ?_
  · pointwise [k0_pay12, stage8]
    exact congrArg (fun q => x (ix2 q e)) (Fin.ext (by dsimp only; omega))
  refine put_rows _ _ _ _ _ _ (fun k hk => ?_) fun h7 => ?_
  · pointwise [k0_pay11, k0_pay10, stage7]
    exact congrArg (fun q => x (ix2 q e)) (Fin.ext (by dsimp only; omega))
  refine put_rows _ _ _ _ _ _ (fun k hk => ?_) fun h6 => ?_
  · pointwise [k0_pay9, stage6]
    exact congrArg (fun q => x (ix2 q e)) (Fin.ext (by dsimp only; omega))
  refine put_rows _ _ _ _ _ _ (fun k hk => ?_) fun h5 => ?_
  · pointwise [k0_pay8, stage5]
    exact congrArg (fun q => x (ix2 q e)) (Fin.ext (by dsimp only; omega))
  refine put_rows _ _ _ _ _ _ (fun k hk => ?_) fun h4 => ?_
  · pointwise [k0_pay7, stage4]
    exact congrArg (fun q => x (ix2 q e)) (Fin.ext (by dsimp only; omega))
  refine put_rows _ _ _ _ _ _ (fun k hk => ?_) fun h3 => ?_
  · pointwise [k0_pay6, stage3]
    exact congrArg (fun q => x (ix2 q e)) (Fin.ext (by dsimp only; omega))
  refine put_rows _ _ _ _ _ _ (fun k hk => ?_) fun h2 => ?_
  · pointwise [k0_pay5, k0_pay4, stage2]
    exact congrArg (fun q => x (ix2 q e)) (Fin.ext (by dsimp only; omega))
  refine put_rows _ _ _ _ _ _ (fun k hk => ?_) fun h1 => ?_
  · pointwise [k0_pay3, stage1]
    exact congrArg (fun q => x (ix2 q e)) (Fin.ext (by dsimp only; omega))
  refine put_rows _ _ _ _ _ _ (fun k hk => ?_) fun h0 => ?_
  · pointwise [k0_pay2, stage0]
    exact congrArg (fun q => x (ix2 q e)) (Fin.ext (by dsimp only; omega))
  exfalso
  omega

theorem final_W (r : Fin 8448) (e : Fin 1024) (hr : r.val < 4096) : finW m c (ix2 r e) = (arr m c).gU r.val e := by
  unfold finW
  rw [rounded_at _ _ r e hr]
  exact out_U m c _

end Cert.KernelIdeal.Hand

end
-- ==== Proof.Reals.lean ====
module

public import Idealize.ShloMosaic.Lib.Pointwise
public import Idealize.ShloMosaic.Lib.WordCmp
public import Idealize.ShloMosaic.PureOps.Ideal.Laws

@[expose] public section

noncomputable section

namespace Cert.Proof

open Idealize.ShloMosaic

/-! ## Finite numbers among the extended reals -/

/-- A number whose absolute value is below another is finite. -/
theorem finite_of {x y : EReal} (h : BitVec.ofBool (decide (max x (-x) < y)) = 1#1) : ∃ q : ℝ, x = q := by
  rw [WordCmp.ofBool_decide_eq_one_iff] at h
  induction x with
  | bot => exact absurd h (by simp)
  | top => exact absurd h (by simp)
  | coe q => exact ⟨q, rfl⟩
theorem real_mul {x y : EReal} (hx : ∃ r : ℝ, x = r) (hy : ∃ r : ℝ, y = r) : ∃ r : ℝ, x * y = (r : EReal) := by
  obtain ⟨r, rfl⟩ := hx
  obtain ⟨s, rfl⟩ := hy
  exact ⟨r * s, (EReal.coe_mul r s).symm⟩
theorem real_add {x y : EReal} (hx : ∃ r : ℝ, x = r) (hy : ∃ r : ℝ, y = r) : ∃ r : ℝ, x + y = (r : EReal) := by
  obtain ⟨r, rfl⟩ := hx
  obtain ⟨s, rfl⟩ := hy
  exact ⟨r + s, (EReal.coe_add r s).symm⟩
theorem real_sum {α : Type} (S : Finset α) (f : α → EReal) (hf : ∀ k, ∃ r : ℝ, f k = r) : ∃ r : ℝ, ∑ k ∈ S, f k = (r : EReal) := by
  classical
  induction S using Finset.induction_on with
  | empty => exact ⟨0, by simp⟩
  | insert k S hk ih => rw [Finset.sum_insert hk]; exact real_add (hf k) ih
theorem real_sub {x y : EReal} (hx : ∃ r : ℝ, x = r) (hy : ∃ r : ℝ, y = r) : ∃ r : ℝ, x - y = (r : EReal) := by
  obtain ⟨r, rfl⟩ := hx
  obtain ⟨s, rfl⟩ := hy
  exact ⟨r - s, (EReal.coe_sub r s).symm⟩
theorem coe_sum {α : Type} (S : Finset α) (f : α → ℝ) : ((∑ k ∈ S, f k : ℝ) : EReal) = ∑ k ∈ S, (f k : EReal) := by
  classical
  induction S using Finset.induction_on with
  | empty => simp
  | insert k S hk ih => rw [Finset.sum_insert hk, Finset.sum_insert hk, EReal.coe_add, ih]
/-- The logistic function of a finite number is finite. -/
theorem real_logistic {z : EReal} (hz : ∃ r : ℝ, z = r) : ∃ r : ℝ, Ideal.div 1 (1 + Ideal.exp (-z)) = (r : EReal) := by
  obtain ⟨z, rfl⟩ := hz
  have h1 : (1 : EReal) + Ideal.exp (-(z : EReal)) = ((1 + Real.exp (-z) : ℝ) : EReal) := by
    rw [← EReal.coe_neg, Ideal.exp_coe, EReal.coe_add, EReal.coe_one]
  rw [h1, Ideal.div_coe (by positivity)]
  exact real_mul ⟨1, rfl⟩ ⟨_, rfl⟩

theorem at_ix2 {n0 n1 : ℕ} {P : (⟨2, ![n0, n1]⟩ : Shape).Idx → Prop} (h : ∀ r e, P (ix2 r e)) (i : (⟨2, ![n0, n1]⟩ : Shape).Idx) : P i := by
  have hi : i = ix2 (i 0) (i 1) := by funext a; fin_cases a <;> rfl
  rw [hi]
  exact h _ _

/-! ## The root mean square of a row, and the gradient through a division by it -/

/-- The number of channels and the constant added to the mean of squares, as the programs spell them. -/
abbrev width : EReal := Ideal.ofBits .f32 0x44800000#32
abbrev small : EReal := Ideal.ofBits .f32 0x358637BD#32
theorem width_eq : width = ((1024 : ℝ) : EReal) := by
  simp [Ideal.ofBits, Ideal.ieee, -EReal.coe_mul]; norm_num
theorem small_eq : ∃ q : ℝ, 0 < q ∧ small = (q : EReal) := by
  refine ⟨8796093 / 2 ^ 43, by norm_num, ?_⟩
  simp [Ideal.ofBits, Ideal.ieee, -EReal.coe_mul]; norm_num
theorem minus_half : Ideal.ofBits .f32 0xBF000000#32 = ((-(1 / 2) : ℝ) : EReal) := by
  simp [Ideal.ofBits, Ideal.ieee, -EReal.coe_mul, -EReal.coe_neg]; norm_num

/-- The mean of the squares of a row, with the constant added, and one over its root. -/
def meanSq (x : Fin 1024 → EReal) : EReal := Ideal.div (∑ k, x k * x k) width + small
def invRms (x : Fin 1024 → EReal) : EReal := Ideal.rsqrt (meanSq x)

theorem div_width (q : ℝ) : Ideal.div (q : EReal) width = ((q / 1024 : ℝ) : EReal) := by
  rw [width_eq, Ideal.div_coe (by norm_num), ← EReal.coe_mul]
  exact congrArg _ (by ring)

/-- Of a finite row both are finite, and what is under the root is positive. -/
theorem rms_real (x : Fin 1024 → ℝ) : ∃ v : ℝ, 0 < v ∧ meanSq (fun k => (x k : EReal)) = v ∧ invRms (fun k => (x k : EReal)) = (((Real.sqrt v)⁻¹ : ℝ) : EReal) := by
  obtain ⟨e, he, hs⟩ := small_eq
  have hv : 0 < (∑ k, x k * x k) / 1024 + e :=
    add_pos_of_nonneg_of_pos (div_nonneg (Finset.sum_nonneg fun k _ => mul_self_nonneg _) (by norm_num)) he
  have hm : meanSq (fun k => (x k : EReal)) = (((∑ k, x k * x k) / 1024 + e : ℝ) : EReal) := by
    unfold meanSq
    rw [hs, EReal.coe_add, ← div_width, coe_sum]
    simp only [EReal.coe_mul]
  refine ⟨_, hv, hm, ?_⟩
  unfold invRms
  rw [hm, Ideal.rsqrt_coe, if_neg (not_lt.2 hv.le), if_neg hv.ne']

/-- What a row's gradient gains through the root: the derivative's own form, twice the row by one factor. -/
def viaRoot (x dn : Fin 1024 → EReal) : EReal :=
  Ideal.div ((∑ k, x k * dn k) * (Ideal.ofBits .f32 0xBF000000#32 * Ideal.div (invRms x) (meanSq x))) width

/-- The gradient of `x / rms x` in the kernel's form and in the derivative's. -/
theorem norm_grad (x dn : Fin 1024 → EReal) (hx : ∀ k, ∃ q : ℝ, x k = q) (hd : ∀ k, ∃ q : ℝ, dn k = q) (d : Fin 1024) :
    invRms x * (dn d - x d * invRms x * Ideal.div (∑ k, dn k * (x k * invRms x)) width)
      = dn d * invRms x + x d * viaRoot x dn + viaRoot x dn * x d := by
  choose xr hx using hx
  choose dr hd using hd
  obtain rfl : x = fun k => (xr k : EReal) := funext hx
  obtain rfl : dn = fun k => (dr k : EReal) := funext hd
  obtain ⟨v, hv, hm, hr⟩ := rms_real xr
  have hw := Real.sqrt_pos.2 hv
  have e1 : Ideal.div (∑ k, (dr k : EReal) * ((xr k : EReal) * invRms (fun k => (xr k : EReal)))) width
      = (((∑ k, dr k * (xr k * (Real.sqrt v)⁻¹)) / 1024 : ℝ) : EReal) := by
    rw [hr, ← div_width, coe_sum]
    simp only [EReal.coe_mul]
  have e2 : viaRoot (fun k => (xr k : EReal)) (fun k => (dr k : EReal))
      = (((∑ k, xr k * dr k) * (-(1 / 2) * ((Real.sqrt v)⁻¹ * v⁻¹)) / 1024 : ℝ) : EReal) := by
    unfold viaRoot
    have h : ∑ k, (xr k : EReal) * (dr k : EReal) = ((∑ k, xr k * dr k : ℝ) : EReal) := by
      rw [coe_sum]
      simp only [EReal.coe_mul]
    rw [hr, hm, minus_half, Ideal.div_coe hv.ne', h, ← EReal.coe_mul, ← EReal.coe_mul, ← EReal.coe_mul, div_width, one_div v]
  rw [e1, e2, hr]
  simp only [← EReal.coe_mul, ← EReal.coe_add, ← EReal.coe_sub]
  refine congrArg _ ?_
  have h1 : ∑ k, dr k * (xr k * (Real.sqrt v)⁻¹) = (∑ k, xr k * dr k) * (Real.sqrt v)⁻¹ := by
    rw [Finset.sum_mul]; exact Finset.sum_congr rfl fun k _ => by ring
  have h2 : v⁻¹ = (Real.sqrt v)⁻¹ * (Real.sqrt v)⁻¹ := by
    rw [← mul_inv, Real.mul_self_sqrt hv.le]
  rw [h1, h2]
  ring

end Cert.Proof

end
-- ==== Proof.RefVal.lean ====
module

public import proofs.«01_k».proof.Proof.Spec
public import proofs.«01_k».proof.Proof.Reals
public import proofs.«01_k».proof.Proof.Gen.ReferenceIdeal.Read

@[expose] public section

set_option maxRecDepth 16384

noncomputable section

namespace Cert.Proof

open Cert.ReferenceIdeal Cert.ReferenceIdeal.Gen Cert.ReferenceIdeal.Read
open Idealize.ShloMosaic Idealize.ShloMosaic.TcCoe Idealize.SL.Sem

variable (x0 : FVec Ideal S8192x1024 .bf16) (x1 : FVec Ideal S8192x4096 .bf16) (x2 : FVec Ideal S8192x1024 .bf16)
  (x3 : FVec Ideal S3x1024 .f32) (x4 : FVec Ideal S1024x1024 .bf16)

/-- The arrays as functions of a token and a channel. -/
abbrev arrOf : Arr := Arr.of (fun T d => x0 (ix2 T d)) (fun T d => x1 (ix2 T d)) (fun T d => x2 (ix2 T d)) (fun k d => x3 (ix2 k d))
  (fun d e => x4 (ix2 d e))

/-- The token at a place of a sequence. -/
def tok (b : Fin 4) (t : Fin 2048) : Fin 8192 := ⟨b.val * 2048 + t.val, by omega⟩

/-- Elements of an array over sequences, positions and channels that drop to one channel. -/
theorem drop_01 {n0 n1 n2 : ℕ} (h : (⟨3, ![n0, n1, n2]⟩ : Shape).ReducesTo [0, 1] ⟨1, ![n2]⟩) (a : Fin n0) (b : Fin n1) (e : Fin n2) :
    h.drop (ix3 a b e) = ix1 e := by
  funext k
  fin_cases k
  exact Fin.ext rfl
/-- A sum over sequences and positions. -/
theorem sum_01 {n0 n1 n2 : ℕ} (h : (⟨3, ![n0, n1, n2]⟩ : Shape).ReducesTo [0, 1] ⟨1, ![n2]⟩)
    (v : (⟨3, ![n0, n1, n2]⟩ : Shape).Idx → EReal) (z : EReal) (e : Fin n2) :
    Ideal.hostReduceAdd h v z (ix1 e) = z + ∑ a, ∑ b, v (ix3 a b e) := by
  unfold Ideal.hostReduceAdd
  congr 1
  rw [Finset.sum_filter, sum_idx3]
  refine Finset.sum_congr rfl fun a _ => Finset.sum_congr rfl fun b _ => ?_
  rw [Finset.sum_eq_single e]
  · exact if_pos (drop_01 h a b e)
  · intro k _ hk
    refine if_neg fun hd => hk ?_
    rw [drop_01] at hd
    exact Fin.ext (congrArg (fun q : (⟨1, ![n2]⟩ : Shape).Idx => (q 0).val) hd)
  · exact fun hk => absurd (Finset.mem_univ e) hk
theorem sum_tok (f : Fin 8192 → EReal) : ∑ b : Fin 4, ∑ t : Fin 2048, f (tok b t) = ∑ T : Fin 8192, f T := by
  exact (Fin.sum_univ_tiles 4 2048 rfl f).symm

theorem tok_mod (b : Fin 4) (t : Fin 2048) : (tok b t).val % 2048 = t.val := by
  unfold tok; dsimp only; omega
variable (b : Fin 4) (t : Fin 2048) (d : Fin 1024)

/-! ### What is read -/
theorem r_1 : val_main_v1 (F := Ideal) x0 (ix3 b t d) = (arrOf x0 x1 x2 x3 x4).dy (tok b t).val d := by
  dsimp only [arrOf, Arr.of]
  rw [Arr.total_of_lt _ _ (tok b t).isLt]
  pointwise [val_main_v1, val_main_v0]
  try rfl
theorem r_82 : val_main_v82 (F := Ideal) x2 (ix3 b t d) = (arrOf x0 x1 x2 x3 x4).h (tok b t).val d := by
  dsimp only [arrOf, Arr.of]
  rw [Arr.total_of_lt _ _ (tok b t).isLt]
  pointwise [val_main_v82, val_main_v81]
  try rfl
theorem r_5 : val_main_v5 (F := Ideal) x1 (ix3 b t d) = (arrOf x0 x1 x2 x3 x4).x (tok b t).val d := by
  dsimp only [arrOf, Arr.of]
  rw [Arr.total_of_lt _ _ (tok b t).isLt]
  pointwise [val_main_v5, val_main_v3, val_main_v2]
  try rfl
theorem r_6 : val_main_v6 (F := Ideal) x1 (ix3 b t d) = (arrOf x0 x1 x2 x3 x4).B (tok b t).val d := by
  dsimp only [arrOf, Arr.of]
  rw [Arr.total_of_lt _ _ (tok b t).isLt]
  pointwise [val_main_v6, val_main_v3, val_main_v2]
  try rfl
theorem r_7 : val_main_v7 (F := Ideal) x1 (ix3 b t d) = (arrOf x0 x1 x2 x3 x4).C (tok b t).val d := by
  dsimp only [arrOf, Arr.of]
  rw [Arr.total_of_lt _ _ (tok b t).isLt]
  pointwise [val_main_v7, val_main_v3, val_main_v2]
  try rfl
theorem r_8 : val_main_v8 (F := Ideal) x1 (ix3 b t d) = (arrOf x0 x1 x2 x3 x4).z (tok b t).val d := by
  dsimp only [arrOf, Arr.of]
  rw [Arr.total_of_lt _ _ (tok b t).isLt]
  pointwise [val_main_v8, val_main_v3, val_main_v2]
  try rfl
theorem r_sg : val_main_v9_2 (F := Ideal) x1 (ix3 b t d) = (arrOf x0 x1 x2 x3 x4).sg (tok b t).val d := by
  unfold Arr.sg
  pointwise [val_main_v9_2, val_main_call0_v4, val_main_call0_cst_0, val_main_call0_v3, val_main_call0_v2, val_main_call0_cst,
    val_main_call0_v1, val_main_call0_v0]
  rw [r_8 x0 x1 x2 x3 x4, zero_sub]
theorem r_sg1 : val_main_v9_1 (F := Ideal) x1 (ix3 b t d) = (arrOf x0 x1 x2 x3 x4).sg (tok b t).val d * (1 - (arrOf x0 x1 x2 x3 x4).sg (tok b t).val d) := by
  pointwise [val_main_v9_1, val_main_call0_v7, val_main_call0_v6, val_main_call0_cst_1]
  rw [r_sg x0 x1 x2 x3 x4]
theorem r_sz : val_main_v9_0 (F := Ideal) x1 (ix3 b t d) = (arrOf x0 x1 x2 x3 x4).sz (tok b t).val d := by
  unfold Arr.sz
  pointwise [val_main_v9_0]
  rw [r_sg x0 x1 x2 x3 x4, r_8 x0 x1 x2 x3 x4]
theorem r_u : val_main_v10 (F := Ideal) x1 (ix3 b t d) = (arrOf x0 x1 x2 x3 x4).u (tok b t).val d := by
  unfold Arr.u
  pointwise [val_main_v10]
  rw [r_7 x0 x1 x2 x3 x4, r_5 x0 x1 x2 x3 x4]
theorem r_29 : val_main_v29 (F := Ideal) x1 (ix3 b t d) = (arrOf x0 x1 x2 x3 x4).u (tok b t).val d := by
  pointwise [val_main_v29, val_main_v12, val_main_v11, val_main_cst]
  rw [r_u x0 x1 x2 x3 x4]
theorem r_22 : val_main_v22 (F := Ideal) x1 (ix3 b t d) = (arrOf x0 x1 x2 x3 x4).m1 (tok b t).val d := by
  unfold Arr.m1
  rw [tok_mod]
  pointwise [val_main_v22, val_main_v12, val_main_v11, val_main_cst]
  split
  · rw [if_pos (show t.val = 0 by omega)]
  · rw [if_neg (show ¬ t.val = 0 by omega)]
    refine (r_u x0 x1 x2 x3 x4 b _ d).trans (congrArg (fun T => (arrOf x0 x1 x2 x3 x4).u T d) ?_)
    unfold tok; dsimp only; omega
theorem r_16 : val_main_v16 (F := Ideal) x1 (ix3 b t d) = (arrOf x0 x1 x2 x3 x4).m2 (tok b t).val d := by
  unfold Arr.m2
  rw [tok_mod]
  pointwise [val_main_v16, val_main_v12, val_main_v11, val_main_cst]
  split
  · rfl
  · refine (r_u x0 x1 x2 x3 x4 b _ d).trans (congrArg (fun T => (arrOf x0 x1 x2 x3 x4).u T d) ?_)
    unfold tok; dsimp only; omega
theorem r_yc : val_main_v33 (F := Ideal) x1 x3 (ix3 b t d) = (arrOf x0 x1 x2 x3 x4).yc (tok b t).val d := by
  unfold Arr.yc Arr.pre
  pointwise [val_main_v33, val_main_v32, val_main_v31, val_main_v30, val_main_v28, val_main_v27, val_main_v26, val_main_v25, val_main_v24,
    val_main_v23, val_main_v21, val_main_v20, val_main_v19, val_main_v18, val_main_v17, val_main_v15, val_main_v14]
  rw [r_16 x0 x1 x2 x3 x4, r_22 x0 x1 x2 x3 x4, r_29 x0 x1 x2 x3 x4]
  rfl
theorem r_co : val_main_v34 (F := Ideal) x1 x3 (ix3 b t d) = (arrOf x0 x1 x2 x3 x4).co (tok b t).val d := by
  unfold Arr.co
  pointwise [val_main_v34]
  rw [r_yc x0 x1 x2 x3 x4, r_6 x0 x1 x2 x3 x4]
theorem r_ua : val_main_v35 (F := Ideal) x1 x3 (ix3 b t d) = (arrOf x0 x1 x2 x3 x4).ua (tok b t).val d := by
  unfold Arr.ua
  pointwise [val_main_v35]
  rw [r_sz x0 x1 x2 x3 x4, r_co x0 x1 x2 x3 x4]
theorem r_dua : val_main_v39 (F := Ideal) x0 x4 (ix3 b t d) = (arrOf x0 x1 x2 x3 x4).dua (tok b t).val d := by
  unfold Arr.dua
  pointwise [val_main_v39, val_main_v4]
  refine Finset.sum_congr rfl fun e _ => ?_
  rw [r_1 x0 x1 x2 x3 x4]
  rfl
theorem r_ct : val_main_v41 (F := Ideal) x0 x1 x3 x4 (ix3 b t d) = (arrOf x0 x1 x2 x3 x4).ct (tok b t).val d := by
  unfold Arr.ct
  pointwise [val_main_v41]
  rw [r_dua x0 x1 x2 x3 x4, r_co x0 x1 x2 x3 x4]
theorem r_dco : val_main_v40 (F := Ideal) x0 x1 x4 (ix3 b t d) = (arrOf x0 x1 x2 x3 x4).dco (tok b t).val d := by
  unfold Arr.dco
  pointwise [val_main_v40]
  rw [r_dua x0 x1 x2 x3 x4, r_sz x0 x1 x2 x3 x4, mul_comm]
theorem r_dB : val_main_v43 (F := Ideal) x0 x1 x3 x4 (ix3 b t d) = (arrOf x0 x1 x2 x3 x4).dB (tok b t).val d := by
  unfold Arr.dB
  pointwise [val_main_v43]
  rw [r_dco x0 x1 x2 x3 x4, r_yc x0 x1 x2 x3 x4]
theorem r_dyc : val_main_v42 (F := Ideal) x0 x1 x4 (ix3 b t d) = (arrOf x0 x1 x2 x3 x4).dyc (tok b t).val d := by
  unfold Arr.dyc
  pointwise [val_main_v42]
  rw [r_dco x0 x1 x2 x3 x4, r_6 x0 x1 x2 x3 x4, mul_comm]
theorem r_45 : val_main_v45 (F := Ideal) x0 x1 x3 x4 (ix3 b t d) = (arrOf x0 x1 x2 x3 x4).w 2 d * (arrOf x0 x1 x2 x3 x4).dyc (tok b t).val d := by
  pointwise [val_main_v45, val_main_v44, val_main_v30, val_main_v28, val_main_v27]
  rw [r_dyc x0 x1 x2 x3 x4]
  rfl
theorem r_54 : val_main_v54 (F := Ideal) x0 x1 x3 x4 (ix3 b t d) = (arrOf x0 x1 x2 x3 x4).w 1 d * (arrOf x0 x1 x2 x3 x4).dyc (tok b t).val d := by
  pointwise [val_main_v54, val_main_v53, val_main_v23, val_main_v21, val_main_v20]
  rw [r_dyc x0 x1 x2 x3 x4]
  rfl
theorem r_65 : val_main_v65 (F := Ideal) x0 x1 x3 x4 (ix3 b t d) = (arrOf x0 x1 x2 x3 x4).w 0 d * (arrOf x0 x1 x2 x3 x4).dyc (tok b t).val d := by
  pointwise [val_main_v65, val_main_v64, val_main_v17, val_main_v15, val_main_v14]
  rw [r_dyc x0 x1 x2 x3 x4]
  rfl
theorem r_du : val_main_v76 (F := Ideal) x0 x1 x3 x4 (ix3 b t d) = (arrOf x0 x1 x2 x3 x4).du (tok b t).val d := by
  unfold Arr.du Arr.p1 Arr.p2
  rw [tok_mod]
  pointwise [val_main_v76, val_main_v71, val_main_v70, val_main_v60, val_main_v59, val_main_v50, val_main_cst_7, val_main_cst_11]
  rw [r_45 x0 x1 x2 x3 x4]
  congr 1
  · congr 1
    split
    · rw [if_neg (show ¬ t.val = 2047 by omega)]
      refine (r_54 x0 x1 x2 x3 x4 b _ d).trans (congrArg (fun T => (arrOf x0 x1 x2 x3 x4).w 1 d * (arrOf x0 x1 x2 x3 x4).dyc T d) ?_)
      unfold tok; dsimp only; omega
    · rw [if_pos (show t.val = 2047 by omega), mul_zero]
  · split
    · rw [if_neg (show ¬ 2046 ≤ t.val by omega)]
      refine (r_65 x0 x1 x2 x3 x4 b _ d).trans (congrArg (fun T => (arrOf x0 x1 x2 x3 x4).w 0 d * (arrOf x0 x1 x2 x3 x4).dyc T d) ?_)
      unfold tok; dsimp only; omega
    · rw [if_pos (show 2046 ≤ t.val by omega), mul_zero]
theorem r_dx : val_main_v77 (F := Ideal) x0 x1 x3 x4 (ix3 b t d) = (arrOf x0 x1 x2 x3 x4).dx (tok b t).val d := by
  unfold Arr.dx
  pointwise [val_main_v77]
  rw [r_7 x0 x1 x2 x3 x4, r_du x0 x1 x2 x3 x4, mul_comm]
theorem r_dC : val_main_v78 (F := Ideal) x0 x1 x3 x4 (ix3 b t d) = (arrOf x0 x1 x2 x3 x4).dC (tok b t).val d := by
  unfold Arr.dC
  pointwise [val_main_v78]
  rw [r_5 x0 x1 x2 x3 x4, r_du x0 x1 x2 x3 x4]

/-! ### The sums over the tokens -/
theorem r_38 (p e : Fin 1024) : val_main_v38 (F := Ideal) x0 x1 x3 (ix2 p e) = (arrOf x0 x1 x2 x3 x4).gW p e := by
  unfold Arr.gW
  rw [← sum_tok]
  pointwise [val_main_v38, val_main_v37]
  refine Finset.sum_congr rfl fun b _ => Finset.sum_congr rfl fun t _ => ?_
  rw [r_1 x0 x1 x2 x3 x4, r_ua x0 x1 x2 x3 x4, mul_comm]
theorem r_49 : val_main_v49 (F := Ideal) x0 x1 x4 (ix1 d) = ∑ T : Fin 8192, (arrOf x0 x1 x2 x3 x4).dw T.val d 2 := by
  rw [← sum_tok]
  show Ideal.hostReduceAdd _ _ _ (ix1 d) = _
  rw [sum_01, Fin.sum_univ_one, Fin.sum_univ_one]
  pointwise [val_main_v48, val_main_cst_2]
  show Ideal.hostReduceAdd _ _ _ (ix1 d) = _
  rw [sum_01]
  pointwise [val_main_cst_1, val_main_v46]
  refine Finset.sum_congr rfl fun b _ => Finset.sum_congr rfl fun t _ => ?_
  rw [r_dyc x0 x1 x2 x3 x4, r_29 x0 x1 x2 x3 x4]
  rfl
theorem r_58 : val_main_v58 (F := Ideal) x0 x1 x4 (ix1 d) = ∑ T : Fin 8192, (arrOf x0 x1 x2 x3 x4).dw T.val d 1 := by
  rw [← sum_tok]
  show Ideal.hostReduceAdd _ _ _ (ix1 d) = _
  rw [sum_01, Fin.sum_univ_one, Fin.sum_univ_one]
  pointwise [val_main_v57, val_main_cst_6]
  show Ideal.hostReduceAdd _ _ _ (ix1 d) = _
  rw [sum_01]
  pointwise [val_main_cst_5, val_main_v55]
  refine Finset.sum_congr rfl fun b _ => Finset.sum_congr rfl fun t _ => ?_
  rw [r_dyc x0 x1 x2 x3 x4, r_22 x0 x1 x2 x3 x4]
  rfl
theorem r_69 : val_main_v69 (F := Ideal) x0 x1 x4 (ix1 d) = ∑ T : Fin 8192, (arrOf x0 x1 x2 x3 x4).dw T.val d 0 := by
  rw [← sum_tok]
  show Ideal.hostReduceAdd _ _ _ (ix1 d) = _
  rw [sum_01, Fin.sum_univ_one, Fin.sum_univ_one]
  pointwise [val_main_v68, val_main_cst_10]
  show Ideal.hostReduceAdd _ _ _ (ix1 d) = _
  rw [sum_01]
  pointwise [val_main_cst_9, val_main_v66]
  refine Finset.sum_congr rfl fun b _ => Finset.sum_congr rfl fun t _ => ?_
  rw [r_dyc x0 x1 x2 x3 x4, r_16 x0 x1 x2 x3 x4]
  rfl
theorem r_89 (k : Fin 8) : val_main_v89 (F := Ideal) x0 x1 x4 (ix2 k d) = (arrOf x0 x1 x2 x3 x4).gC k.val d := by
  unfold Arr.gC
  pointwise [val_main_v89, val_main_call3_v0, val_main_c_13, val_main_v74, val_main_v73, val_main_v72, val_main_v63, val_main_v62, val_main_v61,
    val_main_v52, val_main_v51, val_main_cst_4, val_main_cst_8, val_main_cst_12]
  rw [r_49 x0 x1 x2 x3 x4, r_58 x0 x1 x2 x3 x4, r_69 x0 x1 x2 x3 x4]
  have h0 : (FloatOps.sitofp .f32 (0#32) : Ideal .f32) = 0 := by
    show ((BitVec.toInt (0#32) : ℝ) : EReal) = 0
    norm_num
  rw [h0]
  obtain ⟨k, hk⟩ := k
  by_cases h2 : k = 2
  · subst h2; simp
  by_cases h1 : k = 1
  · subst h1; simp
  by_cases h3 : k = 0
  · subst h3; simp
  rw [dif_neg (show ¬ k < 3 by omega), dif_neg (show ¬ k < 3 by omega)]

/-! ### The gate, where what is read is finite -/

/-- The arrays the gate's gradient depends on have no infinite element. -/
structure Finite : Prop where
  dy : ∀ T e, ∃ r : ℝ, x0 (ix2 T e) = (r : EReal)
  p : ∀ T e, ∃ r : ℝ, x1 (ix2 T e) = (r : EReal)
  w : ∀ k e, ∃ r : ℝ, x3 (ix2 k e) = (r : EReal)
  wp : ∀ k e, ∃ r : ℝ, x4 (ix2 k e) = (r : EReal)

theorem real_total {α : Type} (f : Fin 8192 → α → EReal) (hf : ∀ T e, ∃ r : ℝ, f T e = r) (T : ℕ) (e : α) :
    ∃ r : ℝ, Arr.total f T e = (r : EReal) := by
  unfold Arr.total
  split
  · exact hf _ _
  · exact ⟨0, rfl⟩

variable (hx : Finite x0 x1 x3 x4)
include hx

theorem real_dy (T : ℕ) (e : Fin 1024) : ∃ r : ℝ, (arrOf x0 x1 x2 x3 x4).dy T e = r := real_total _ (fun T e => hx.dy T e) T e
theorem real_x (T : ℕ) (e : Fin 1024) : ∃ r : ℝ, (arrOf x0 x1 x2 x3 x4).x T e = r := real_total _ (fun T e => hx.p T _) T e
theorem real_B (T : ℕ) (e : Fin 1024) : ∃ r : ℝ, (arrOf x0 x1 x2 x3 x4).B T e = r := real_total _ (fun T e => hx.p T _) T e
theorem real_C (T : ℕ) (e : Fin 1024) : ∃ r : ℝ, (arrOf x0 x1 x2 x3 x4).C T e = r := real_total _ (fun T e => hx.p T _) T e
theorem real_z (T : ℕ) (e : Fin 1024) : ∃ r : ℝ, (arrOf x0 x1 x2 x3 x4).z T e = r := real_total _ (fun T e => hx.p T _) T e
theorem real_u (T : ℕ) (e : Fin 1024) : ∃ r : ℝ, (arrOf x0 x1 x2 x3 x4).u T e = r := real_mul (real_C x0 x1 x2 x3 x4 hx T e) (real_x x0 x1 x2 x3 x4 hx T e)
theorem real_m1 (T : ℕ) (e : Fin 1024) : ∃ r : ℝ, (arrOf x0 x1 x2 x3 x4).m1 T e = r := by
  unfold Arr.m1
  split
  · exact ⟨0, rfl⟩
  · exact real_u x0 x1 x2 x3 x4 hx _ _
theorem real_m2 (T : ℕ) (e : Fin 1024) : ∃ r : ℝ, (arrOf x0 x1 x2 x3 x4).m2 T e = r := by
  unfold Arr.m2
  split
  · exact ⟨0, rfl⟩
  · exact real_u x0 x1 x2 x3 x4 hx _ _
theorem real_co (T : ℕ) (e : Fin 1024) : ∃ r : ℝ, (arrOf x0 x1 x2 x3 x4).co T e = r :=
  real_mul (real_B x0 x1 x2 x3 x4 hx T e) (real_add (real_add (real_mul (hx.w 0 e) (real_m2 x0 x1 x2 x3 x4 hx T e))
    (real_mul (hx.w 1 e) (real_m1 x0 x1 x2 x3 x4 hx T e))) (real_mul (hx.w 2 e) (real_u x0 x1 x2 x3 x4 hx T e)))
theorem real_ct (T : ℕ) (e : Fin 1024) : ∃ r : ℝ, (arrOf x0 x1 x2 x3 x4).ct T e = r :=
  real_mul (real_sum _ _ fun k => real_mul (real_dy x0 x1 x2 x3 x4 hx T k) (hx.wp e k)) (real_co x0 x1 x2 x3 x4 hx T e)
theorem real_sg (T : ℕ) (e : Fin 1024) : ∃ r : ℝ, (arrOf x0 x1 x2 x3 x4).sg T e = r := by
  unfold Arr.sg
  obtain ⟨z, hz⟩ := real_z x0 x1 x2 x3 x4 hx T e
  rw [hz]
  have h1 : (1 : EReal) + Ideal.exp (0 - (z : EReal)) = ((1 + Real.exp (0 - z) : ℝ) : EReal) := by
    rw [← EReal.coe_zero, ← EReal.coe_sub, Ideal.exp_coe, EReal.coe_add, EReal.coe_one]
  rw [h1, Ideal.div_coe (by positivity)]
  exact real_mul ⟨1, rfl⟩ ⟨_, rfl⟩
theorem r_dz : val_main_v79 (F := Ideal) x0 x1 x3 x4 (ix3 b t d) = (arrOf x0 x1 x2 x3 x4).dz (tok b t).val d := by
  unfold Arr.dz
  pointwise [val_main_v79, val_main_call1_v2, val_main_call1_v1, val_main_call1_v0]
  rw [r_ct x0 x1 x2 x3 x4, r_8 x0 x1 x2 x3 x4, r_sg x0 x1 x2 x3 x4, r_sg1 x0 x1 x2 x3 x4]
  obtain ⟨z, hz⟩ := real_z x0 x1 x2 x3 x4 hx (tok b t).val d
  obtain ⟨c, hc⟩ := real_ct x0 x1 x2 x3 x4 hx (tok b t).val d
  obtain ⟨s, hs⟩ := real_sg x0 x1 x2 x3 x4 hx (tok b t).val d
  rw [hz, hc, hs]
  exact silu_grad z c s
/-- The gradient of the saved projection. -/
theorem r_80 (c : Fin 4096) : val_main_v80 (F := Ideal) x0 x1 x3 x4 (ix3 b t c) = (arrOf x0 x1 x2 x3 x4).gP (tok b t).val c.val := by
  have key : ∀ (d : Fin 1024) (k : Fin 4), c.val = 1024 * k.val + d.val → (arrOf x0 x1 x2 x3 x4).gP (tok b t).val c.val = (arrOf x0 x1 x2 x3 x4).da (tok b t).val d k := by
    intro d k h
    unfold Arr.gP
    congr 1
    · exact Fin.ext (by dsimp only; omega)
    · exact Fin.ext (by dsimp only; omega)
  pointwise [val_main_v80]
  split
  · rw [r_dx x0 x1 x2 x3 x4]; exact (key _ 0 (by show c.val = 1024 * 0 + c.val; omega)).symm
  split
  · rw [r_dB x0 x1 x2 x3 x4]; exact (key _ 1 (by show c.val = 1024 * 1 + (c.val - 1024); omega)).symm
  split
  · rw [r_dC x0 x1 x2 x3 x4]; exact (key _ 2 (by show c.val = 1024 * 2 + (c.val - 1024 - 1024); omega)).symm
  · rw [r_dz x0 x1 x2 x3 x4 b t _ hx]; exact (key _ 3 (by show c.val = 1024 * 3 + (c.val - 1024 - 1024 - 1024); omega)).symm
theorem r_88 (T : Fin 8192) (c : Fin 4096) : val_main_v88 (F := Ideal) x0 x1 x3 x4 (ix2 T c) = (arrOf x0 x1 x2 x3 x4).gP T.val c.val := by
  pointwise [val_main_v88, val_main_v87]
  rw [r_80 x0 x1 x2 x3 x4 _ _ hx]
  congr 1
  unfold tok; dsimp only; omega
/-- The gradient of the input projection, in the rows it has. -/
theorem r_86 (r : Fin 8448) (e : Fin 1024) (hr : r.val < 4096) : val_main_v86 (F := Ideal) x0 x1 x2 x3 x4 (ix2 r e) = (arrOf x0 x1 x2 x3 x4).gU r.val e := by
  unfold Arr.gU
  rw [← sum_tok]
  pointwise [val_main_v86, val_main_v85, val_main_v84, val_main_v83]
  rw [dif_pos hr]
  refine Finset.sum_congr rfl fun b _ => Finset.sum_congr rfl fun t _ => ?_
  rw [r_80 x0 x1 x2 x3 x4 b t hx, r_82 x0 x1 x2 x3 x4]
theorem r_90 (r : Fin 8448) (e : Fin 1024) (hr : r.val < 4096) : val_main_v90 (F := Ideal) x0 x1 x2 x3 x4 (ix2 r e) = (arrOf x0 x1 x2 x3 x4).gU r.val e := by
  pointwise [val_main_v90]
  exact r_86 x0 x1 x2 x3 x4 hx r e hr

end Cert.Proof

end
-- ==== Proof.Value.lean ====
module

public import proofs.«01_k».proof.Defs
public import proofs.«01_k».proof.Proof.Gen.Pre_finite
public import proofs.«01_k».proof.Proof.Gen.On_rows_written
public import proofs.«01_k».proof.Proof.Final
public import proofs.«01_k».proof.Proof.RefVal
public import Idealize.ShloMosaic.Lib.WordCmp

@[expose] public section

noncomputable section

namespace Cert.Proof

open Idealize.ShloMosaic Idealize.ShloMosaic.TcCoe Idealize.SL.Sem

section Masks

variable (x0 : FVec Ideal ⟨2, ![8192, 1024]⟩ .bf16) (x1 : FVec Ideal ⟨2, ![8192, 4096]⟩ .bf16) (x2 : FVec Ideal ⟨2, ![8192, 1024]⟩ .bf16)
  (x3 : FVec Ideal ⟨2, ![3, 1024]⟩ .f32) (x4 : FVec Ideal ⟨2, ![1024, 1024]⟩ .bf16)

theorem rows_3 (r : Fin 8448) (e : Fin 1024) (h : (Cert.On_rows_written.fn (F := Ideal) x0 x1 x2 x3 x4).2.2.2.1 (ix2 r e) = 1#1) : r.val < 4096 := by
  dsimp only [Cert.On_rows_written.fn] at h
  revert h
  pointwise []
  rw [WordCmp.cmpi_slt_ofNat (by have := r.isLt; omega) (by omega), WordCmp.ofBool_decide_eq_one_iff]
  exact id
theorem rows_4 (r : Fin 8448) (e : Fin 1024) (h : (Cert.On_rows_written.fn (F := Ideal) x0 x1 x2 x3 x4).2.2.2.2 (ix2 r e) = 1#1) : r.val < 4096 :=
  rows_3 x0 x1 x2 x3 x4 r e h

theorem finite_arrays (h : (∀ i, (Cert.Pre_finite.fn (F := Ideal) x0 x1 x2 x3 x4).1 i = 1#1) ∧ (∀ i, (Cert.Pre_finite.fn (F := Ideal) x0 x1 x2 x3 x4).2.1 i = 1#1)
    ∧ (∀ i, (Cert.Pre_finite.fn (F := Ideal) x0 x1 x2 x3 x4).2.2.1 i = 1#1) ∧ (∀ i, (Cert.Pre_finite.fn (F := Ideal) x0 x1 x2 x3 x4).2.2.2 i = 1#1)) :
    Finite x0 x1 x3 x4 where
  dy T e := finite_of (h.1 (ix2 T e))
  p T e := finite_of (h.2.1 (ix2 T e))
  w T e := finite_of (h.2.2.1 (ix2 T e))
  wp T e := finite_of (h.2.2.2 (ix2 T e))

end Masks

open Cert.KernelIdeal.Hand in
theorem value : Cert.algebraic_KernelIdeal_ReferenceIdeal_on_rows_written_pre_finite := by
  intro m g m' g' hpre hargs
  have hfin := fun c => finite_arrays _ _ _ _ _ ⟨congrFun (hpre c).1, congrFun (hpre c).2.1, congrFun (hpre c).2.2.1, congrFun (hpre c).2.2.2⟩
  refine ⟨fun c => fun i : (⟨2, ![8192, 4096]⟩ : Shape).Idx => (arr m c).gP (i 0).val (i 1).val,
    fun c => fun i : (⟨2, ![1024, 1024]⟩ : Shape).Idx => (arr m c).gW (i 0) (i 1),
    fun c => fun i : (⟨2, ![8, 1024]⟩ : Shape).Idx => (arr m c).gC (i 0).val (i 1),
    fun c => fun i : (⟨2, ![8448, 1024]⟩ : Shape).Idx => (arr m c).gU (i 0).val (i 1),
    fun c => fun i : (⟨2, ![8448, 1024]⟩ : Shape).Idx => (arr m c).gU (i 0).val (i 1), ?_, ?_⟩
  · refine (θ_run Cert.KernelIdeal.defs _ _).mono (fun r h c => ?_) (run_main m g)
    obtain ⟨hp, _⟩ := h
    refine ⟨fun i _ => congrFun (((hp.toR c).1 10).trans (final_10 m c)) i, fun i _ => congrFun (((hp.toR c).1 11).trans (final_11 m c)) i,
      fun i _ => congrFun (((hp.toR c).1 12).trans (final_12 m c)) i, at_ix2 fun r e hm => ?_, at_ix2 fun r e hm => ?_, args_kept m hp c⟩
    · have hr := rows_3 _ _ _ _ _ r e hm
      exact (congrFun ((hp.written c (b := Cert.KernelIdeal.main_v1_3) (by decide)).trans (g_U m c)) (ix2 r e)).trans (final_U m c r e hr)
    · have hr := rows_4 _ _ _ _ _ r e hm
      exact (congrFun ((hp.written c (b := Cert.KernelIdeal.main_v1_4) (by decide)).trans (g_W m c)) (ix2 r e)).trans (final_W m c r e hr)
  · refine (θ_run Cert.ReferenceIdeal.defs _ _).mono (fun r h c => ?_) (Cert.ReferenceIdeal.Value.run (F := Ideal) m' g')
    obtain ⟨a0, a1, a2, a3, a4⟩ := hargs c
    obtain ⟨h0, h1, h2, h3, h4, hrest⟩ := h c
    rw [Cert.ReferenceIdeal.Read.val_main_v88_eq, a0, a1, a3, a4] at h0
    rw [Cert.ReferenceIdeal.Read.val_main_v38_eq, a0, a1, a3] at h1
    rw [Cert.ReferenceIdeal.Read.val_main_v89_eq, a0, a1, a4] at h2
    rw [Cert.ReferenceIdeal.Read.val_main_v86_eq, a0, a1, a2, a3, a4] at h3
    rw [Cert.ReferenceIdeal.Read.val_main_v90_eq, a0, a1, a2, a3, a4] at h4
    refine ⟨at_ix2 fun r e _ => (congrFun h0 (ix2 r e)).trans (r_88 _ _ _ _ _ (hfin c) r e),
      at_ix2 fun r e _ => (congrFun h1 (ix2 r e)).trans (r_38 _ _ _ _ _ r e),
      at_ix2 fun r e _ => (congrFun h2 (ix2 r e)).trans (r_89 _ _ _ _ _ e r),
      at_ix2 fun r e hm => (congrFun h3 (ix2 r e)).trans (r_86 _ _ _ _ _ (hfin c) r e (rows_3 _ _ _ _ _ r e hm)),
      at_ix2 fun r e hm => (congrFun h4 (ix2 r e)).trans (r_90 _ _ _ _ _ (hfin c) r e (rows_4 _ _ _ _ _ r e hm)), hrest⟩

end Cert.Proof

end
-- ==== Proof.Frames.lean ====
/- The frames: one run of the pipelined kernel, over any float values, gives the frames of both its programs; the
   reference's run its own. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch
public import Idealize.ShloMosaic.Lib.Quiescent

@[expose] public section

noncomputable section

namespace Cert.Proof

open Idealize.ShloMosaic Idealize.SL.Sem

/-- The two programs have one text: their label tables are the same function. -/
theorem table_same {F : FTy → Type} [FloatOps F] : (Cert.KernelIdeal.defs₀ (F := F)) = Cert.Kernel.defs₀ (F := F) := by
  unfold Cert.KernelIdeal.defs₀ Cert.Kernel.defs₀
  refine congrArg Defs.onTc ?_
  funext l x
  match l, x with
  | ⟨0, _⟩, (t, s) => rfl
  | ⟨n + 1, h⟩, _ => exact absurd h (Nat.not_lt.2 (Nat.le_add_left _ _))
theorem defs_same {F : FTy → Type} [FloatOps F] : (Cert.KernelIdeal.defs (F := F)) = Cert.Kernel.defs (F := F) :=
  congrArg (Pipeline.defs (Cert.KernelIdeal.pcfgs (F := F))) table_same

theorem frame_kernel : Cert.quiescent_Kernel := fun m ρ _ => by
  rw [← defs_same]
  exact (θ_run Cert.KernelIdeal.defs _ _).mono (fun _ h => h) (Cert.KernelIdeal.Hand.frame (F := Bits) m ρ)

theorem frame_ideal : Cert.quiescent_KernelIdeal := fun m ρ _ => Cert.KernelIdeal.Hand.frame (F := Ideal) m ρ

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

end Cert.Proof

end
-- ==== Proof.DhSpec.lean ====
module

public import proofs.«01_k».proof.Proof.Reals

@[expose] public section

noncomputable section

namespace Cert.Proof

open Idealize.ShloMosaic

/-! ## The gradient of the hidden states and of the layer's input

From the gradients of the input projection's columns (attention, keys and values, gates), from what the convolution's
half already added, and from the gradient of the layer's output: the gradient of the normalised input, of the input,
and of the normalisation's scale. In the kernel's order. -/

structure DhArr where
  da : FVec Ideal ⟨2, ![8192, 4096]⟩ .bf16
  part : FVec Ideal ⟨2, ![8192, 1024]⟩ .f32
  dkv : FVec Ideal ⟨2, ![8192, 256]⟩ .bf16
  dgab : FVec Ideal ⟨2, ![8192, 2048]⟩ .bf16
  w : FVec Ideal ⟨2, ![8448, 1024]⟩ .bf16
  x : FVec Ideal ⟨2, ![8192, 1024]⟩ .f32
  g : FVec Ideal ⟨2, ![1, 1024]⟩ .f32
  o : FVec Ideal ⟨2, ![8192, 1024]⟩ .f32

namespace DhArr

variable (a : DhArr) (T : Fin 8192) (d : Fin 1024)

def row (k : Fin 1024) : EReal := a.x (ix2 T k)
/-- The gradient of the normalised input. -/
def dh : EReal :=
  a.part (ix2 T d) + ∑ p : Fin 4096, a.da (ix2 T p) * a.w (ix2 ⟨p.val, by omega⟩ d)
    + ∑ p : Fin 256, a.dkv (ix2 T p) * a.w (ix2 ⟨5120 + p.val, by omega⟩ d)
    + ∑ p : Fin 2048, a.dgab (ix2 T p) * a.w (ix2 ⟨6400 + p.val, by omega⟩ d)
/-- The same before the scale. -/
def dn (k : Fin 1024) : EReal := a.dh T k * a.g (ix2 (0 : Fin 1) k)
def gx : EReal :=
  a.o (ix2 T d) + invRms (a.row T) * (a.dn T d - a.row T d * invRms (a.row T) * Ideal.div (∑ k, a.dn T k * (a.row T k * invRms (a.row T))) width)
def gg : EReal := ∑ T, a.dh T d * (a.row T d * invRms (a.row T))
/-- In the first of eight rows. -/
def gg8 (k : ℕ) : EReal := if k = 0 then a.gg d else 0

end DhArr

end Cert.Proof

end
-- ==== Proof.Writes.lean ====
module

public import Idealize.ShloMosaic.Lib.Pointwise
public import Idealize.ShloMosaic.Lib.Pipeline.FrameBody
public import Idealize.ShloMosaic.Lib.Pipeline.FrameValue
public import Idealize.ShloMosaic.Lib.VecWindow

@[expose] public section

noncomputable section

namespace Cert.Proof

open Idealize.ShloMosaic

/-! ## Rows of an accumulated block stored over what the block held -/

theorem emb_local {S : Shape} {off size : Fin S.rank → Nat} (inb : ∀ a, off a + size a ≤ S.size a) (y : S.Idx)
    (h : ∀ a, off a ≤ (y a).val ∧ (y a).val < off a + size a) :
    (Rect.unit off size inb).emb (Rect.unitLocal (s := S) (off := off) (size := size) y h) = y := by
  funext a; apply Fin.ext
  have e : ((Rect.unit off size inb).emb (Rect.unitLocal (s := S) (off := off) (size := size) y h) a).val
      = off a + 1 * (Rect.unitLocal (s := S) (off := off) (size := size) y h a).val := rfl
  rw [e, Rect.unitLocal_val]; have := h a; omega

theorem canon_window {S : Shape} {e : EltTy} {off size : Fin S.rank → Nat} (inb : ∀ a, off a + size a ≤ S.size a)
    (w : (Rect.unit off size inb).shape.Idx → Elt Ideal e) (L : List (View.Piece (Elt Ideal) S e)) :
    View.canon (Val := Elt Ideal) (⟨Rect.unit off size inb, w⟩ :: L) = VecWindow.put (View.canon (Val := Elt Ideal) L) off size w := by
  funext y
  by_cases h : ∀ a, off a ≤ (y a).val ∧ (y a).val < off a + size a
  · have hy : y = (Rect.unit off size inb).emb (Rect.unitLocal (s := S) (off := off) (size := size) y h) :=
      (emb_local inb y h).symm
    rw [VecWindow.put, dif_pos h]
    conv_lhs => rw [hy]
    exact View.canon_cons_emb _ w L _
  · rw [VecWindow.put, dif_neg h]
    refine View.canon_cons_of_not_mem _ _ ?_
    intro hm; obtain ⟨x, rfl⟩ := LoadRect.exists_idx_of_mem (Rect.toLoadRect _) hm
    refine h fun a => ?_
    have hl : (x a).val < size a := (x a).isLt
    show off a ≤ off a + 1 * (x a).val ∧ off a + 1 * (x a).val < off a + size a
    omega

theorem read_window {sig : RefSig} {κ : Kind} {sp : Space} {s : Shape} {e : EltTy} (v : View sig κ sp s e) (f : v.ty.Contents (Elt Ideal))
    {off size : Fin s.rank → Nat} (inb : ∀ a, off a + size a ≤ s.size a) (w : (Rect.unit off size inb).shape.Idx → Elt Ideal e)
    (L : List (View.Piece (Elt Ideal) s e)) :
    v.read (Elt Ideal) (v.writes (Elt Ideal) f (⟨Rect.unit off size inb, w⟩ :: L)) = VecWindow.put (v.read (Elt Ideal) (v.writes (Elt Ideal) f L)) off size w :=
  View.read_writes_cons_put v f inb w L rfl

/-- Rows stored over a block of rows: a row is one stored, or what was there. -/
theorem put_rows_in {n0 n1 k o : ℕ} (x : (⟨2, ![n0, n1]⟩ : Shape).Idx → EReal) (w : (⟨2, ![k, n1]⟩ : Shape).Idx → EReal) (r : Fin n0) (d : Fin n1) (q : Fin k)
    (h : r.val = o + q.val) : VecWindow.put (s := ⟨2, ![n0, n1]⟩) x ![o, 0] ![k, n1] w (ix2 r d) = w (ix2 q d) := by
  have hq := q.isLt
  have hd := d.isLt
  rw [VecWindow.put, dif_pos (show ∀ a : Fin 2, (![o, 0] : Fin 2 → ℕ) a ≤ ((ix2 r d : (⟨2, ![n0, n1]⟩ : Shape).Idx) a).val
      ∧ ((ix2 r d : (⟨2, ![n0, n1]⟩ : Shape).Idx) a).val < (![o, 0] : Fin 2 → ℕ) a + (![k, n1] : Fin 2 → ℕ) a from fun a => by
      fin_cases a
      · exact ⟨by show o ≤ r.val; omega, by show r.val < o + k; omega⟩
      · exact ⟨Nat.zero_le _, by show d.val < 0 + n1; omega⟩)]
  congr 1
  funext a
  fin_cases a
  · exact Fin.ext (by show r.val - o = q.val; omega)
  · rfl
theorem put_rows_out {n0 n1 k o : ℕ} (x : (⟨2, ![n0, n1]⟩ : Shape).Idx → EReal) (w : (⟨2, ![k, n1]⟩ : Shape).Idx → EReal) (r : Fin n0) (d : Fin n1)
    (h : r.val < o ∨ o + k ≤ r.val) : VecWindow.put (s := ⟨2, ![n0, n1]⟩) x ![o, 0] ![k, n1] w (ix2 r d) = x (ix2 r d) := by
  rw [VecWindow.put, dif_neg fun hh => by
    have h1 : o ≤ r.val := (hh 0).1
    have h2 : r.val < o + k := (hh 0).2
    omega]

end Cert.Proof

end
-- ==== Proof.Dh.lean ====
module

public import proofs.«01_k».proof.Proof.DhSpec
public import proofs.«01_k».proof.Proof.Gen.Kernel2Ideal.Value
public import Idealize.ShloMosaic.Lib.Pipeline.ValueKit
public import Idealize.ShloMosaic.Lib.Claim
public import proofs.«01_k».proof.Proof.Writes

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem
open Idealize.ShloMosaic.Pipeline (Dat)
open Cert.Proof

/-- Which block each window takes at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![t.val, 0] ∧ win0_9.index t = ![0, 0] ∧ t.val < 16 :=
  (by decide +kernel : ∀ t : Fin grid0.N, _)

variable (m : (ℓ : Loc nD τ sig) → Buf (Elt Ideal) ℓ) (c : Dev nD)

/-- The arrays the kernel is called with. -/
def arr : DhArr := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5),
  m ((c : Thread nD τ).loc main_arg6), m ((c : Thread nD τ).loc main_arg7)⟩

/-! ### One tile -/

section tile
variable (a : DhArr) (tok : Fin 512 → Fin 8192)
variable (va : Vec Ideal S512x4096 .bf16) (vp : Vec Ideal S512x1024 .f32) (vk : Vec Ideal S512x256 .bf16) (vg : Vec Ideal S512x2048 .bf16)
  (w0 : Vec Ideal S4096x1024 .bf16) (w1 : Vec Ideal S256x1024 .bf16) (w2 : Vec Ideal S2048x1024 .bf16) (vx : Vec Ideal S512x1024 .f32)
  (g : Vec Ideal S1x1024 .f32) (vo : Vec Ideal S512x1024 .f32)

/-- What the body reads is a tile of the arrays. -/
structure Fits : Prop where
  da : ∀ r p, va (ix2 r p) = a.da (ix2 (tok r) p)
  part : ∀ r p, vp (ix2 r p) = a.part (ix2 (tok r) p)
  dkv : ∀ r p, vk (ix2 r p) = a.dkv (ix2 (tok r) p)
  dgab : ∀ r p, vg (ix2 r p) = a.dgab (ix2 (tok r) p)
  w0 : ∀ (p : Fin 4096) d, w0 (ix2 p d) = a.w (ix2 ⟨p.val, by omega⟩ d)
  w1 : ∀ (p : Fin 256) d, w1 (ix2 p d) = a.w (ix2 ⟨5120 + p.val, by omega⟩ d)
  w2 : ∀ (p : Fin 2048) d, w2 (ix2 p d) = a.w (ix2 ⟨6400 + p.val, by omega⟩ d)
  x : ∀ r p, vx (ix2 r p) = a.x (ix2 (tok r) p)
  g : ∀ d, g (ix2 (0 : Fin 1) d) = a.g (ix2 (0 : Fin 1) d)
  o : ∀ r p, vo (ix2 r p) = a.o (ix2 (tok r) p)

variable (h : Fits a tok va vp vk vg w0 w1 w2 vx g vo) (r : Fin 512) (d : Fin 1024)
include h

theorem tile_dh : k0_pay4 (F := Ideal) vp va w0 vk w1 vg w2 (ix2 r d) = a.dh (tok r) d := by
  unfold DhArr.dh
  pointwise [k0_pay4]
  simp only [h.da, h.part, h.dkv, h.dgab, h.w0, h.w1, h.w2]
theorem tile_inv : k0_pay5 (F := Ideal) vx (ix2 r (0 : Fin 1)) = invRms (a.row (tok r)) := by
  pointwise [k0_pay5]
  simp only [h.x]
  rfl
theorem tile_xn : k0_pay6 (F := Ideal) vx (ix2 r d) = a.row (tok r) d * invRms (a.row (tok r)) := by
  pointwise [k0_pay6]
  rw [tile_inv a tok va vp vk vg w0 w1 w2 vx g vo h, h.x]
  rfl
theorem tile_gx : k0_pay2 (F := Ideal) (k0_pay4 vp va w0 vk w1 vg w2) (k0_pay5 vx) (k0_pay6 vx) g vo (ix2 r d) = a.gx (tok r) d := by
  unfold DhArr.gx DhArr.dn
  pointwise [k0_pay2]
  simp only [tile_dh a tok va vp vk vg w0 w1 w2 vx g vo h, tile_inv a tok va vp vk vg w0 w1 w2 vx g vo h,
    tile_xn a tok va vp vk vg w0 w1 w2 vx g vo h, h.g, h.o]
theorem tile_gg (acc : Vec Ideal S1x1024 .f32) : k0_pay1 (F := Ideal) (k0_pay7 acc) (k0_pay8 vp va w0 vk w1 vg w2 vx) (ix2 (0 : Fin 1) d)
    = acc (ix2 (0 : Fin 1) d) + ∑ r : Fin 512, a.dh (tok r) d * (a.row (tok r) d * invRms (a.row (tok r))) := by
  pointwise [k0_pay1, k0_pay7, k0_pay8]
  simp only [tile_dh a tok va vp vk vg w0 w1 w2 vx g vo h, tile_xn a tok va vp vk vg w0 w1 w2 vx g vo h]
end tile

variable (t : Fin cfg0.N)

/-- The token at a row of the tile. -/
def tokAt (r : Fin 512) : Fin 8192 := ⟨t.val * 512 + r.val, by have := (idx t).2.2.2.2.2.2.2.2.2.2; omega⟩

theorem N16 : cfg0.N = 16 := rfl

theorem fits (w0 : Vec Ideal S4096x1024 .bf16) (w1 : Vec Ideal S256x1024 .bf16) (w2 : Vec Ideal S2048x1024 .bf16)
    (h0 : ∀ p d, w0 (ix2 p d) = (arr m c).w (ix2 ⟨p.val, by omega⟩ d))
    (h1 : ∀ p d, w1 (ix2 p d) = (arr m c).w (ix2 ⟨5120 + p.val, by omega⟩ d))
    (h2 : ∀ p d, w2 (ix2 p d) = (arr m c).w (ix2 ⟨6400 + p.val, by omega⟩ d)) :
    Fits (arr m c) (tokAt t) (iblk m c 0 t) (iblk m c 1 t) (iblk m c 2 t) (iblk m c 3 t) w0 w1 w2 (iblk m c 5 t) (iblk m c 6 t) (iblk m c 7 t) where
  da r p := by unfold tokAt arr; blk_ext [iblk, V, idx t]
  part r p := by unfold tokAt arr; blk_ext [iblk, V, idx t]
  dkv r p := by unfold tokAt arr; blk_ext [iblk, V, idx t]
  dgab r p := by unfold tokAt arr; blk_ext [iblk, V, idx t]
  w0 := h0
  w1 := h1
  w2 := h2
  x r p := by unfold tokAt arr; blk_ext [iblk, V, idx t]
  g d := by unfold arr; blk_ext [iblk, V, idx t]
  o r p := by unfold tokAt arr; blk_ext [iblk, V, idx t]

/-- The gradient of the layer's input, tile after tile. -/
theorem out_gx : (dats m 0 c).arrAt 8 cfg0.N = fun i => (arr m c).gx (i 0) (i 1) := by
  refine (dats m 0 c).arrAt_eq_of_covers 8 _ (by decide +kernel) fun t hf y => ?_
  have hN : t.val < 16 := lt_of_lt_of_eq t.isLt N16
  blk_simp
  rw [after0_8]
  have hy : y = ix2 (y 0) (y 1) := eq_ix2 y
  have key : ∀ v : S512x1024.Idx → EReal, (∀ r d, v (ix2 r d) = (arr m c).gx (tokAt t r) d) →
      v y = (arr m c).gx (((View.whole main_v0_0).slice (win0_8.rect t)).emb y 0) (((View.whole main_v0_0).slice (win0_8.rect t)).emb y 1) := by
    intro v hv
    refine (congrArg v hy).trans ((hv (y 0) (y 1)).trans (congrArg₂ (arr m c).gx (Fin.ext ?_) (Fin.ext ?_)))
    · show t.val * 512 + (y 0).val = _; blk_simp [idx t]
    · show (y 1).val = _; blk_simp [idx t]
  by_cases h : t.val % 16 = 0
  · rw [outsAt0_A m c t h]
    frame_out
    refine key _ fun r d => tile_gx (arr m c) (tokAt t) _ _ _ _ _ _ _ _ _ _ (fits m c t _ _ _ (fun p d => ?_) (fun p d => ?_) (fun p d => ?_)) r d
    all_goals
      unfold arr
      pointwise
      blk_ext [iblk, V, idx t]
  · rw [outsAt0_B m c t h]
    frame_out
    refine key _ fun r d => tile_gx (arr m c) (tokAt t) _ _ _ _ _ _ _ _ _ _ (fits m c t _ _ _ (fun p d => ?_) (fun p d => ?_) (fun p d => ?_)) r d
    all_goals
      unfold arr
      pointwise
      blk_ext [iblk, V, idx t]

/-- What one tile adds to the gradient of the scale, in the first of eight rows. -/
def ggAt (j : S8x1024.Idx) : EReal :=
  if (j 0).val = 0 then ∑ r : Fin 512, (arr m c).dh (tokAt t r) (j 1) * ((arr m c).row (tokAt t r) (j 1) * invRms ((arr m c).row (tokAt t r))) else 0

theorem ggAt_first (k : Fin 8) (d : Fin 1024) (hk : k.val = 0) : ggAt m c t (ix2 k d)
    = ∑ r : Fin 512, (arr m c).dh (tokAt t r) d * ((arr m c).row (tokAt t r) d * invRms ((arr m c).row (tokAt t r))) := if_pos hk
theorem ggAt_rest (k : Fin 8) (d : Fin 1024) (hk : ¬ k.val = 0) : ggAt m c t (ix2 k d) = 0 := if_neg hk
theorem offs0 : (![0, 0] : Fin 2 → Nat) = fun _ => 0 := by decide

theorem gg_A (h : t.val % 16 = 0) (j : S8x1024.Idx) : (outsAt0 m c t.val t.isLt).2 j = 0 + ggAt m c t j := by
  rw [outsAt0_A m c t h]
  frame_out
  rw [canon_window, View.readCov_eq_canon', View.canon_cons_unit_zero (S := S8x1024) offs0]
  obtain ⟨k, d, rfl⟩ : ∃ k d, j = (ix2 k d : S8x1024.Idx) := ⟨j 0, j 1, by funext a; fin_cases a <;> rfl⟩
  by_cases hk : k.val = 0
  · rw [ggAt_first m c t k d hk]
    refine (put_rows_in _ _ k d (0 : Fin 1) (by show k.val = 0 + 0; omega)).trans ?_
    refine (tile_gg (arr m c) (tokAt t) _ _ _ _ _ _ _ _ (iblk m c 6 t) (iblk m c 7 t) (fits m c t _ _ _ (fun p d => ?_) (fun p d => ?_) (fun p d => ?_)) d _).trans ?_
    rotate_right
    · refine congrArg (· + _) ?_
      pointwise [k0_pay3]
    all_goals
      unfold arr
      pointwise
      blk_ext [iblk, V, idx t]
  · rw [ggAt_rest m c t k d hk]
    refine (put_rows_out _ _ k d (by omega)).trans ?_
    pointwise [k0_pay3]
theorem gg_B (h : ¬ t.val % 16 = 0) (j : S8x1024.Idx) :
    (outsAt0 m c t.val t.isLt).2 j = (outsAt0 m c (t.val - 1) (Nat.lt_of_le_of_lt (Nat.sub_le _ _) t.isLt)).2 j + ggAt m c t j := by
  rw [outsAt0_B m c t h]
  frame_out
  rw [read_window, View.writes_nil, Memref.IsWhole.read_unread]
  generalize (outsAt0 m c (t.val - 1) _).2 = acc
  obtain ⟨k, d, rfl⟩ : ∃ k d, j = (ix2 k d : S8x1024.Idx) := ⟨j 0, j 1, by funext a; fin_cases a <;> rfl⟩
  by_cases hk : k.val = 0
  · rw [ggAt_first m c t k d hk]
    refine (put_rows_in _ _ k d (0 : Fin 1) (by show k.val = 0 + 0; omega)).trans ?_
    refine (tile_gg (arr m c) (tokAt t) _ _ _ _ _ _ _ _ (iblk m c 6 t) (iblk m c 7 t) (fits m c t _ _ _ (fun p d => ?_) (fun p d => ?_) (fun p d => ?_)) d _).trans ?_
    rotate_right
    · refine congrArg (· + _) ?_
      pointwise
      exact congrArg (fun q => acc (ix2 q d)) (Fin.ext (by show 0 = k.val; omega))
    all_goals
      unfold arr
      pointwise
      blk_ext [iblk, V, idx t]
  · rw [ggAt_rest m c t k d hk, add_zero]
    exact put_rows_out _ _ k d (by omega)

/-- The gradient of the scale after the run, in the first of eight rows. -/
theorem out_gg : (dats m 0 c).arrAt 9 cfg0.N = fun i : S8x1024.Idx => (arr m c).gg8 (i 1) (i 0).val := by
  refine (dats m 0 c).arrAt_eq_of_covers 9 _ (by decide +kernel) fun t hf y => ?_
  have ht := (flush0_9 t).mp hf
  have hN : t.val < 16 := lt_of_lt_of_eq t.isLt N16
  blk_simp
  rw [after0_9, Pipeline.eq_sum_fin_of_reset_step_apply_last (fun n h => (outsAt0 m c n h).2) 16 (fun _ => 0) (fun t j => ggAt m c t j)
    (fun t h j => gg_A m c t h j) (fun t h j => gg_B m c t h j) (le_of_eq N16) t (by show t.val + 1 = 16; omega) y, zero_add]
  obtain ⟨k, d, rfl⟩ : ∃ k d, y = (ix2 k d : S8x1024.Idx) := ⟨y 0, y 1, by funext a; fin_cases a <;> rfl⟩
  have he : ∑ p : Fin cfg0.N, ggAt m c p (ix2 k d) = (arr m c).gg8 d k.val := by
    unfold DhArr.gg8 DhArr.gg
    by_cases hk : k.val = 0
    · rw [if_pos hk]
      simp only [ggAt_first m c _ k d hk]
      exact (Fin.sum_univ_tiles 16 512 rfl (fun T : Fin 8192 => (arr m c).dh T d * ((arr m c).row T d * invRms ((arr m c).row T)))).symm
    · rw [if_neg hk]
      simp only [ggAt_rest m c _ k d hk]
      exact Finset.sum_const_zero
  refine he.trans (congrArg₂ (arr m c).gg8 (Fin.ext ?_) ?_)
  · show d.val = _; blk_simp [idx t]
  · show k.val = _; blk_simp [idx t]

end Cert.Kernel2Ideal.Hand

end
-- ==== Proof.DhRef.lean ====
module

public import proofs.«01_k».proof.Proof.DhSpec
public import proofs.«01_k».proof.Proof.Gen.Reference2Ideal.Read

@[expose] public section

set_option maxRecDepth 16384

noncomputable section

namespace Cert.Proof.DhArr

open Cert.Reference2Ideal Cert.Reference2Ideal.Gen Cert.Reference2Ideal.Read
open Idealize.ShloMosaic Idealize.ShloMosaic.TcCoe Idealize.SL.Sem

variable (a : DhArr) (T : Fin 8192) (d : Fin 1024)

/-! ### What the reference computes, one operation after another -/

theorem r_9 : val_main_v9 (F := Ideal) a.x (ix2 T (0 : Fin 1)) = invRms (a.row T) := by
  pointwise [val_main_v9, val_main_v8, val_main_v7, val_main_v6, val_main_v5, val_main_v4, val_main_v3, val_main_v2, val_main_cst, val_main_cst_0,
    val_main_cst_1]
  rfl
theorem r_10 : val_main_v10 (F := Ideal) a.x (ix2 T (0 : Fin 1)) = Ideal.div (invRms (a.row T)) (meanSq (a.row T)) := by
  pointwise [val_main_v10]
  rw [r_9]
  pointwise [val_main_v8, val_main_v7, val_main_v6, val_main_v5, val_main_v4, val_main_v3, val_main_v2, val_main_cst, val_main_cst_0,
    val_main_cst_1]
  rfl
theorem r_14 : val_main_v14 (F := Ideal) a.x (ix2 T d) = a.row T d * invRms (a.row T) := by
  pointwise [val_main_v14, val_main_v13]
  rw [r_9]
  rfl
theorem r_31 : val_main_v31 (F := Ideal) a.da a.part a.dkv a.dgab a.w (ix2 T d) = a.dh T d := by
  unfold dh
  pointwise [val_main_v31, val_main_v30, val_main_v29, val_main_v28, val_main_v27, val_main_v26, val_main_v25, val_main_v24, val_main_v23,
    val_main_v21, val_main_v19, val_main_v17, val_main_v1, val_main_v0]
  rw [add_right_comm, add_right_comm (a.part (ix2 T d)), add_right_comm _ _ (∑ p : Fin 256, _)]
theorem r_36 : val_main_v36 (F := Ideal) a.da a.part a.dkv a.dgab a.w a.g (ix2 T d) = a.dn T d := by
  unfold dn
  pointwise [val_main_v36, val_main_v35]
  rw [r_31]
theorem r_46 : val_main_v47 (F := Ideal) a.da a.part a.dkv a.dgab a.w a.x a.g (ix2 T d) = viaRoot (a.row T) (a.dn T) := by
  unfold viaRoot
  pointwise [val_main_v47, val_main_v46, val_main_v45, val_main_v44, val_main_v43, val_main_v39, val_main_v38, val_main_v37, val_main_v12,
    val_main_v11, val_main_cst_2, val_main_cst_4, val_main_cst_5, val_main_cst_6]
  rw [Fin.sum_univ_one, r_10 a T]
  simp only [r_36 a T]
  rfl
/-- The gradient of the scale. -/
theorem r_52 (k : Fin 8) : val_main_v52 (F := Ideal) a.da a.part a.dkv a.dgab a.w a.x (ix2 k d) = a.gg8 d k.val := by
  unfold gg8 gg
  pointwise [val_main_v52, val_main_call0_v0, val_main_c, val_main_v34, val_main_v33, val_main_v32, val_main_cst_3]
  have h0 : (FloatOps.sitofp .f32 (0#32) : Ideal .f32) = 0 := by
    show ((BitVec.toInt (0#32) : ℝ) : EReal) = 0
    norm_num
  rw [h0]
  by_cases h : k.val = 0
  · rw [dif_pos (show k.val < 1 by omega), if_pos h]
    refine Finset.sum_congr rfl fun T _ => ?_
    rw [r_14, r_31, mul_comm]
  · rw [dif_neg (show ¬ k.val < 1 by omega), if_neg h]

/-- The arrays the gradient of the input depends on have no infinite element. -/
structure Finite : Prop where
  da : ∀ T e, ∃ r : ℝ, a.da (ix2 T e) = (r : EReal)
  part : ∀ T e, ∃ r : ℝ, a.part (ix2 T e) = (r : EReal)
  dkv : ∀ T e, ∃ r : ℝ, a.dkv (ix2 T e) = (r : EReal)
  dgab : ∀ T e, ∃ r : ℝ, a.dgab (ix2 T e) = (r : EReal)
  w : ∀ T e, ∃ r : ℝ, a.w (ix2 T e) = (r : EReal)
  x : ∀ T e, ∃ r : ℝ, a.x (ix2 T e) = (r : EReal)
  g : ∀ T e, ∃ r : ℝ, a.g (ix2 T e) = (r : EReal)

variable (hx : a.Finite)
include hx

theorem real_dn : ∃ r : ℝ, a.dn T d = r :=
  real_mul (real_add (real_add (real_add (hx.part _ _) (real_sum _ _ fun p => real_mul (hx.da _ _) (hx.w _ _)))
    (real_sum _ _ fun p => real_mul (hx.dkv _ _) (hx.w _ _))) (real_sum _ _ fun p => real_mul (hx.dgab _ _) (hx.w _ _))) (hx.g _ _)
/-- The gradient of the layer's input. -/
theorem r_51 : val_main_v51 (F := Ideal) a.da a.part a.dkv a.dgab a.w a.x a.g a.o (ix2 T d) = a.gx T d := by
  unfold gx
  rw [norm_grad (a.row T) (a.dn T) (hx.x T) (fun k => a.real_dn T k hx) d]
  pointwise [val_main_v51, val_main_v50, val_main_v49, val_main_v48, val_main_v42, val_main_v41, val_main_v40]
  rw [r_46, r_36, r_9, add_assoc, add_assoc, ← add_assoc (_ * _)]
  rfl

end Cert.Proof.DhArr

end
-- ==== Proof.DhValue.lean ====
/- The projections' input gradient: its frames, and that its two programs leave the same contents. -/
module

public import proofs.«01_k».proof.Defs
public import proofs.«01_k».proof.Proof.Gen.Kernel2
public import proofs.«01_k».proof.Proof.Gen.Pre_finite2
public import proofs.«01_k».proof.Proof.Gen.Reference2Ideal.Run
public import proofs.«01_k».proof.Proof.Dh
public import proofs.«01_k».proof.Proof.DhRef
public import Idealize.ShloMosaic.Lib.Quiescent

@[expose] public section

noncomputable section

namespace Cert.Proof

open Idealize.ShloMosaic Idealize.ShloMosaic.TcCoe Idealize.SL.Sem

/-- The two programs have one text: their label tables are the same function. -/
theorem table_same2 {F : FTy → Type} [FloatOps F] : (Cert.Kernel2Ideal.defs₀ (F := F)) = Cert.Kernel2.defs₀ (F := F) := by
  unfold Cert.Kernel2Ideal.defs₀ Cert.Kernel2.defs₀
  refine congrArg Defs.onTc ?_
  funext l x
  match l, x with
  | ⟨0, _⟩, (t, s) => rfl
  | ⟨n + 1, h⟩, _ => exact absurd h (Nat.not_lt.2 (Nat.le_add_left _ _))
theorem defs_same2 {F : FTy → Type} [FloatOps F] : (Cert.Kernel2Ideal.defs (F := F)) = Cert.Kernel2.defs (F := F) :=
  congrArg (Pipeline.defs (Cert.Kernel2Ideal.pcfgs (F := F))) table_same2

theorem frame_kernel2 : Cert.quiescent_Kernel2 := fun m ρ _ => by
  rw [← defs_same2]
  exact (θ_run Cert.Kernel2Ideal.defs _ _).mono (fun _ h => h) (Cert.Kernel2Ideal.Gen.frame (F := Bits) m ρ)

theorem frame_ideal2 : Cert.quiescent_Kernel2Ideal := fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

open Cert.Kernel2Ideal.Hand in
theorem value2 : Cert.algebraic_Kernel2Ideal_Reference2Ideal_pre_finite2 := by
  intro m g m' g' hpre hargs
  have hfin : ∀ c, (arr m c).Finite := fun c => by
    obtain ⟨p0, p1, p2, p3, p4, p5, p6⟩ := hpre c
    exact ⟨fun T e => finite_of (congrFun p0 (ix2 T e)), fun T e => finite_of (congrFun p1 (ix2 T e)), fun T e => finite_of (congrFun p2 (ix2 T e)),
      fun T e => finite_of (congrFun p3 (ix2 T e)), fun T e => finite_of (congrFun p4 (ix2 T e)), fun T e => finite_of (congrFun p5 (ix2 T e)),
      fun T e => finite_of (congrFun p6 (ix2 T e))⟩
  refine ⟨fun c => fun i : (⟨2, ![8192, 1024]⟩ : Shape).Idx => (arr m c).gx (i 0) (i 1),
    fun c => fun i : (⟨2, ![8, 1024]⟩ : Shape).Idx => (arr m c).gg8 (i 1) (i 0).val, ?_, ?_⟩
  · refine (θ_run Cert.Kernel2Ideal.defs _ _).mono (fun r h c => ?_) (Cert.Kernel2Ideal.Value.run_blocks m g)
    exact ⟨(h c).1.trans (out_gx m c), (h c).2.1.trans (out_gg m c), (h c).2.2⟩
  · refine (θ_run Cert.Reference2Ideal.defs _ _).mono (fun r h c => ?_) (Cert.Reference2Ideal.Value.run (F := Ideal) m' g')
    obtain ⟨a0, a1, a2, a3, a4, a5, a6, a7⟩ := hargs c
    obtain ⟨h0, h1, hrest⟩ := h c
    rw [Cert.Reference2Ideal.Read.val_main_v51_eq, a0, a1, a2, a3, a4, a5, a6, a7] at h0
    rw [Cert.Reference2Ideal.Read.val_main_v52_eq, a0, a1, a2, a3, a4, a5] at h1
    refine ⟨?_, ?_, hrest⟩
    · exact h0.trans (funext (at_ix2 fun T d => (arr m c).r_51 T d (hfin c)))
    · exact h1.trans (funext (at_ix2 fun k d => (arr m c).r_52 d k))

end Cert.Proof

end
-- ==== Proof.HeadSpec.lean ====
module

public import proofs.«01_k».proof.Proof.Reals

@[expose] public section

noncomputable section

namespace Cert.Proof

open Idealize.ShloMosaic

/-! ## The layer from its two branches on, the loss, and the gradient back to the branches

The gated sum of the branches, the output projection, its normalisation, the residual and the squared error, and their
gradients, as functions of a token and a channel. In the kernel's order. -/

/-- The logistic function. -/
def sigm (z : EReal) : EReal := Ideal.div 1 (1 + Ideal.exp (-z))
/-- One over the number of channels, and half of it, as the kernel spells them. -/
abbrev perWidth : EReal := Ideal.ofBits .f32 0x3A800000#32
abbrev halfPerWidth : EReal := Ideal.ofBits .f32 0x3A000000#32

structure HeadArr where
  ya : FVec Ideal ⟨2, ![8192, 1024]⟩ .f32
  ub : FVec Ideal ⟨2, ![8192, 1024]⟩ .bf16
  g3 : FVec Ideal ⟨2, ![8192, 3072]⟩ .f32
  x : FVec Ideal ⟨2, ![8192, 1024]⟩ .f32
  t : FVec Ideal ⟨2, ![8192, 1024]⟩ .f32
  g : FVec Ideal ⟨2, ![1, 1024]⟩ .f32
  wp : FVec Ideal ⟨2, ![1024, 1024]⟩ .bf16
  wo : FVec Ideal ⟨2, ![1024, 1024]⟩ .bf16

namespace HeadArr

variable (a : HeadArr) (T : Fin 8192) (d : Fin 1024)

/-- The attention's branch, the gates' logistic functions, the gated sum, its projection. -/
def yb : EReal := ∑ p : Fin 1024, a.ub (ix2 T p) * a.wp (ix2 p d)
def sa : EReal := sigm (a.g3 (ix2 T (⟨1024 + d.val, by omega⟩ : Fin 3072)))
def sb : EReal := sigm (a.g3 (ix2 T (⟨2048 + d.val, by omega⟩ : Fin 3072)))
def mb : EReal := a.sa T d * a.ya (ix2 T d) + a.sb T d * a.yb T d
def y (e : Fin 1024) : EReal := ∑ p : Fin 1024, a.mb T p * a.wo (ix2 p e)
/-- Normalised, and the error against the target. -/
def n : EReal := a.y T d * invRms (a.y T)
def err : EReal := (a.x (ix2 T d) + a.n T d * a.g (ix2 (0 : Fin 1) d)) - a.t (ix2 T d)
/-- The gradients of the layer's output, of the normalised row, of the projection and of the gated sum. -/
def dout : EReal := a.err T d * perWidth
def dn (k : Fin 1024) : EReal := a.dout T k * a.g (ix2 (0 : Fin 1) k)
def dy : EReal := invRms (a.y T) * (a.dn T d - a.n T d * Ideal.div (∑ k, a.dn T k * a.n T k) width)
def dm : EReal := ∑ e : Fin 1024, a.dy T e * a.wo (ix2 d e)
/-- The gradients of the branches and of the gates. -/
def dya : EReal := a.dm T d * a.sa T d
def dyb : EReal := a.dm T d * a.sb T d
def dga : EReal := a.dm T d * a.ya (ix2 T d) * (a.sa T d * (1 - a.sa T d))
def dgb : EReal := a.dm T d * a.yb T d * (a.sb T d * (1 - a.sb T d))
/-- Side by side. -/
def dgab (j : Fin 2048) : EReal := if h : j.val < 1024 then a.dga T ⟨j.val, h⟩ else a.dgb T ⟨j.val - 1024, by omega⟩
def dub : EReal := ∑ e : Fin 1024, a.dyb T e * a.wp (ix2 d e)

/-- The squared error of a token. -/
def sq : EReal := ∑ e : Fin 1024, a.err T e * a.err T e
/-- What a tile of 512 tokens adds to the loss. -/
def lossOf (t : Fin 16) : EReal := (∑ r : Fin 512, a.sq ⟨t.val * 512 + r.val, by omega⟩) * halfPerWidth
def loss : EReal := ∑ t : Fin 16, a.lossOf t
/-- The gradients of the weights: the output projection's, the attention branch's, the normalisation's. -/
def dwo (i j : Fin 1024) : EReal := ∑ T, a.mb T i * a.dy T j
def dwp (i j : Fin 1024) : EReal := ∑ T, a.ub (ix2 T i) * a.dyb T j
def dg : EReal := ∑ T, a.dout T d * a.n T d
/-- In the first of eight rows. -/
def dg8 (k : ℕ) : EReal := if k = 0 then a.dg d else 0

end HeadArr

end Cert.Proof

end
-- ==== Proof.HeadTile.lean ====
module

public import proofs.«01_k».proof.Proof.HeadSpec
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem
open Cert.Proof

/-! ### Half a tile: 256 tokens

The body computes the two halves of a tile one after the other, with the same operations. -/

section half
variable (u : Vec Ideal S256x1024 .bf16) (wp : Vec Ideal S1024x1024 .bf16) (ga gb ya : Vec Ideal S256x1024 .f32)
  (wo : Vec Ideal S1024x1024 .bf16) (x t : Vec Ideal S256x1024 .f32) (g : Vec Ideal S1x1024 .f32)

/-- The first half's gated sum, its gradient of the projection and of the gated sum; then the second half's. -/
abbrev mb1 : FVec Ideal S256x1024 .bf16 := k0_pay10 (F := Ideal) u wp ga gb ya
abbrev dy1 : FVec Ideal S256x1024 .bf16 := k0_pay23 (F := Ideal) g (k0_pay16 (mb1 u wp ga gb ya) wo) (k0_pay17 (mb1 u wp ga gb ya) wo) x (k0_pay18 g (mb1 u wp ga gb ya) wo) t
abbrev dm1 : FVec Ideal S256x1024 .f32 := k0_pay24 (F := Ideal) g (k0_pay16 (mb1 u wp ga gb ya) wo) (k0_pay17 (mb1 u wp ga gb ya) wo) x (k0_pay18 g (mb1 u wp ga gb ya) wo) t wo
abbrev mb2 : FVec Ideal S256x1024 .bf16 := k0_pay14 (F := Ideal) (k0_pay7 u wp) ga gb ya
abbrev y2 : FVec Ideal S256x1024 .f32 := k0_pay15 (F := Ideal) (k0_pay7 u wp) ga gb ya wo
abbrev dy2 : FVec Ideal S256x1024 .bf16 := k0_pay32 (F := Ideal) g (k0_pay25 (y2 u wp ga gb ya wo)) (k0_pay26 (y2 u wp ga gb ya wo)) x (k0_pay27 g) t
abbrev dm2 : FVec Ideal S256x1024 .f32 := k0_pay33 (F := Ideal) g (k0_pay25 (y2 u wp ga gb ya wo)) (k0_pay26 (y2 u wp ga gb ya wo)) x (k0_pay27 g) t wo

variable (a : HeadArr) (tok : Fin 256 → Fin 8192)

/-- What the body reads is 256 tokens of the arrays. -/
structure Fits : Prop where
  u : ∀ r d, u (ix2 r d) = a.ub (ix2 (tok r) d)
  wp : ∀ p d, wp (ix2 p d) = a.wp (ix2 p d)
  ga : ∀ (r : Fin 256) (d : Fin 1024), ga (ix2 r d) = a.g3 (ix2 (tok r) (⟨1024 + d.val, by omega⟩ : Fin 3072))
  gb : ∀ (r : Fin 256) (d : Fin 1024), gb (ix2 r d) = a.g3 (ix2 (tok r) (⟨2048 + d.val, by omega⟩ : Fin 3072))
  ya : ∀ r d, ya (ix2 r d) = a.ya (ix2 (tok r) d)
  wo : ∀ p d, wo (ix2 p d) = a.wo (ix2 p d)
  x : ∀ r d, x (ix2 r d) = a.x (ix2 (tok r) d)
  t : ∀ r d, t (ix2 r d) = a.t (ix2 (tok r) d)
  g : ∀ d, g (ix2 (0 : Fin 1) d) = a.g (ix2 (0 : Fin 1) d)

variable (h : Fits u wp ga gb ya wo x t g a tok) (r : Fin 256) (d : Fin 1024)
include h

theorem yb_1 : k0_pay6 (F := Ideal) u wp (ix2 r d) = a.yb (tok r) d := by
  unfold HeadArr.yb
  pointwise [k0_pay6]
  simp only [h.u, h.wp]
theorem sa_1 : k0_pay8 (F := Ideal) ga (ix2 r d) = a.sa (tok r) d := by
  unfold HeadArr.sa sigm
  pointwise [k0_pay8]
  rw [h.ga, sub_eq_add_neg, zero_add]
theorem sb_1 : k0_pay9 (F := Ideal) gb (ix2 r d) = a.sb (tok r) d := by
  unfold HeadArr.sb sigm
  pointwise [k0_pay9]
  rw [h.gb, sub_eq_add_neg, zero_add]
theorem mb_1 : mb1 u wp ga gb ya (ix2 r d) = a.mb (tok r) d := by
  unfold HeadArr.mb
  pointwise [k0_pay10]
  rw [sa_1 u wp ga gb ya wo x t g a tok h, sb_1 u wp ga gb ya wo x t g a tok h, yb_1 u wp ga gb ya wo x t g a tok h, h.ya]
theorem y_1 : k0_pay11 (F := Ideal) (mb1 u wp ga gb ya) wo (ix2 r d) = a.y (tok r) d := by
  unfold HeadArr.y
  have hm := mb_1 u wp ga gb ya wo x t g a tok h
  generalize mb1 u wp ga gb ya = v at hm ⊢
  pointwise [k0_pay11]
  simp only [hm, h.wo]
theorem inv_1 : k0_pay16 (F := Ideal) (mb1 u wp ga gb ya) wo (ix2 r (0 : Fin 1)) = invRms (a.y (tok r)) := by
  have hm := y_1 u wp ga gb ya wo x t g a tok h
  pointwise [k0_pay16]
  simp only [hm]
  rfl
theorem n_1 : k0_pay17 (F := Ideal) (mb1 u wp ga gb ya) wo (ix2 r d) = a.n (tok r) d := by
  unfold HeadArr.n
  pointwise [k0_pay17]
  rw [y_1 u wp ga gb ya wo x t g a tok h, inv_1 u wp ga gb ya wo x t g a tok h]
theorem ng_1 : k0_pay18 (F := Ideal) g (mb1 u wp ga gb ya) wo (ix2 r d) = a.n (tok r) d * a.g (ix2 (0 : Fin 1) d) := by
  pointwise [k0_pay18]
  rw [n_1 u wp ga gb ya wo x t g a tok h, h.g]
theorem err_1 : k0_pay19 (F := Ideal) x (k0_pay18 g (mb1 u wp ga gb ya) wo) t (ix2 r d) = a.err (tok r) d := by
  unfold HeadArr.err
  pointwise [k0_pay19]
  rw [ng_1 u wp ga gb ya wo x t g a tok h, h.x, h.t]
/-- The squared error of the half. -/
theorem sq_1 : k0_pay20 (F := Ideal) x (k0_pay18 g (mb1 u wp ga gb ya) wo) t (ix2 (0 : Fin 1) (0 : Fin 1)) = ∑ r, a.sq (tok r) := by
  unfold HeadArr.sq
  pointwise [k0_pay20]
  simp only [err_1 u wp ga gb ya wo x t g a tok h]
  exact Finset.sum_comm
theorem dout_1 : k0_pay21 (F := Ideal) x (k0_pay18 g (mb1 u wp ga gb ya) wo) t (ix2 r d) = a.dout (tok r) d := by
  unfold HeadArr.dout
  pointwise [k0_pay21]
  rw [err_1 u wp ga gb ya wo x t g a tok h]
/-- What the half adds to the gradient of the scale. -/
theorem dg_1 : k0_pay22 (F := Ideal) (k0_pay17 (mb1 u wp ga gb ya) wo) x (k0_pay18 g (mb1 u wp ga gb ya) wo) t (ix2 (0 : Fin 1) d)
    = ∑ r, a.dout (tok r) d * a.n (tok r) d := by
  pointwise [k0_pay22]
  simp only [dout_1 u wp ga gb ya wo x t g a tok h, n_1 u wp ga gb ya wo x t g a tok h]
theorem dy_1 : dy1 u wp ga gb ya wo x t g (ix2 r d) = a.dy (tok r) d := by
  unfold HeadArr.dy HeadArr.dn
  have h1 := dout_1 u wp ga gb ya wo x t g a tok h
  have h2 := n_1 u wp ga gb ya wo x t g a tok h
  have h3 := inv_1 u wp ga gb ya wo x t g a tok h
  unfold dy1
  pointwise [k0_pay23]
  simp only [h1, h2, h3, h.g]
theorem dm_1 : dm1 u wp ga gb ya wo x t g (ix2 r d) = a.dm (tok r) d := by
  unfold HeadArr.dm
  have h1 := dy_1 u wp ga gb ya wo x t g a tok h
  unfold dm1
  pointwise [k0_pay24]
  simp only [h1, h.wo]
theorem dya_1 : k0_pay34 (F := Ideal) (k0_pay8 ga) (dm1 u wp ga gb ya wo x t g) (ix2 r d) = a.dya (tok r) d := by
  unfold HeadArr.dya
  have h1 := dm_1 u wp ga gb ya wo x t g a tok h
  pointwise [k0_pay34]
  rw [h1, sa_1 u wp ga gb ya wo x t g a tok h]
theorem dyb_1 : k0_pay35 (F := Ideal) (k0_pay9 gb) (dm1 u wp ga gb ya wo x t g) (ix2 r d) = a.dyb (tok r) d := by
  unfold HeadArr.dyb
  have h1 := dm_1 u wp ga gb ya wo x t g a tok h
  pointwise [k0_pay35]
  rw [h1, sb_1 u wp ga gb ya wo x t g a tok h]
theorem dga_1 : k0_pay38 (F := Ideal) (k0_pay36 (dm1 u wp ga gb ya wo x t g) ya) (k0_pay37 (k0_pay8 ga)) (ix2 r d) = a.dga (tok r) d := by
  unfold HeadArr.dga
  have h1 := dm_1 u wp ga gb ya wo x t g a tok h
  pointwise [k0_pay38, k0_pay36, k0_pay37]
  rw [h1, sa_1 u wp ga gb ya wo x t g a tok h, h.ya]
theorem dgb_1 : k0_pay39 (F := Ideal) (k0_pay6 u wp) (k0_pay9 gb) (dm1 u wp ga gb ya wo x t g) (ix2 r d) = a.dgb (tok r) d := by
  unfold HeadArr.dgb
  have h1 := dm_1 u wp ga gb ya wo x t g a tok h
  pointwise [k0_pay39]
  rw [h1, sb_1 u wp ga gb ya wo x t g a tok h, yb_1 u wp ga gb ya wo x t g a tok h]
theorem dub_1 : k0_pay40 (F := Ideal) (k0_pay35 (k0_pay9 gb) (dm1 u wp ga gb ya wo x t g)) wp (ix2 r d) = a.dub (tok r) d := by
  unfold HeadArr.dub
  have h1 := dyb_1 u wp ga gb ya wo x t g a tok h
  generalize k0_pay35 (F := Ideal) (k0_pay9 gb) (dm1 u wp ga gb ya wo x t g) = v at h1 ⊢
  pointwise [k0_pay40]
  simp only [h1, h.wp]

theorem mb_2 : mb2 u wp ga gb ya (ix2 r d) = a.mb (tok r) d := mb_1 u wp ga gb ya wo x t g a tok h r d
theorem sq_2 : k0_pay29 (F := Ideal) (k0_pay26 (y2 u wp ga gb ya wo)) x (k0_pay27 g) t (ix2 (0 : Fin 1) (0 : Fin 1)) = ∑ r, a.sq (tok r) :=
  sq_1 u wp ga gb ya wo x t g a tok h
theorem dout_2 : k0_pay30 (F := Ideal) (k0_pay26 (y2 u wp ga gb ya wo)) x (k0_pay27 g) t (ix2 r d) = a.dout (tok r) d :=
  dout_1 u wp ga gb ya wo x t g a tok h r d
theorem dg_2 : k0_pay31 (F := Ideal) (k0_pay26 (y2 u wp ga gb ya wo)) x (k0_pay27 g) t (ix2 (0 : Fin 1) d) = ∑ r, a.dout (tok r) d * a.n (tok r) d :=
  dg_1 u wp ga gb ya wo x t g a tok h d
theorem dy_2 : dy2 u wp ga gb ya wo x t g (ix2 r d) = a.dy (tok r) d := dy_1 u wp ga gb ya wo x t g a tok h r d
theorem dya_2 : k0_pay41 (F := Ideal) (k0_pay12 ga) (dm2 u wp ga gb ya wo x t g) (ix2 r d) = a.dya (tok r) d :=
  dya_1 u wp ga gb ya wo x t g a tok h r d
theorem dyb_2 : k0_pay42 (F := Ideal) (k0_pay13 gb) (dm2 u wp ga gb ya wo x t g) (ix2 r d) = a.dyb (tok r) d :=
  dyb_1 u wp ga gb ya wo x t g a tok h r d
theorem dga_2 : k0_pay43 (F := Ideal) (k0_pay12 ga) (dm2 u wp ga gb ya wo x t g) ya (ix2 r d) = a.dga (tok r) d :=
  dga_1 u wp ga gb ya wo x t g a tok h r d
theorem dgb_2 : k0_pay44 (F := Ideal) (k0_pay7 u wp) (k0_pay13 gb) (dm2 u wp ga gb ya wo x t g) (ix2 r d) = a.dgb (tok r) d :=
  dgb_1 u wp ga gb ya wo x t g a tok h r d
theorem dub_2 : k0_pay45 (F := Ideal) (k0_pay42 (k0_pay13 gb) (dm2 u wp ga gb ya wo x t g)) wp (ix2 r d) = a.dub (tok r) d :=
  dub_1 u wp ga gb ya wo x t g a tok h r d
end half

/-! ### What a tile adds to what is accumulated -/

theorem halves (f : Fin 512 → EReal) :
    ∑ k, f k = ∑ r : Fin 256, f ⟨r.val, by omega⟩ + ∑ r : Fin 256, f ⟨256 + r.val, by omega⟩ := Fin.sum_univ_add (a := 256) (b := 256) f

theorem add_loss (v w : FVec Ideal S1x1 .f32) (acc : Vec Ideal S8x128 .f32) (k : Fin 8) (l : Fin 128) :
    k0_pay46 (F := Ideal) v w acc (ix2 k l) = acc (ix2 k l) + (v (ix2 (0 : Fin 1) (0 : Fin 1)) + w (ix2 (0 : Fin 1) (0 : Fin 1))) * halfPerWidth := by
  pointwise [k0_pay46]
theorem add_dg (v w acc : FVec Ideal S1x1024 .f32) (d : Fin 1024) :
    k0_pay47 (F := Ideal) v w acc (ix2 (0 : Fin 1) d) = acc (ix2 (0 : Fin 1) d) + (v (ix2 (0 : Fin 1) d) + w (ix2 (0 : Fin 1) d)) := by
  pointwise [k0_pay47]
theorem add_dwo (p q p' q' : FVec Ideal S256x1024 .bf16) (acc : Vec Ideal S1024x1024 .f32) (i j : Fin 1024) :
    k0_pay48 (F := Ideal) p q p' q' acc (ix2 i j)
      = acc (ix2 i j) + (∑ r : Fin 256, p (ix2 r i) * p' (ix2 r j) + ∑ r : Fin 256, q (ix2 r i) * q' (ix2 r j)) := by
  pointwise [k0_pay48]
theorem add_dwp (u : Vec Ideal S512x1024 .bf16) (p q : FVec Ideal S256x1024 .bf16) (acc : Vec Ideal S1024x1024 .f32) (i j : Fin 1024) :
    k0_pay1 (F := Ideal) (k0_pay49 acc) u (k0_pay50 p q) (constant S1024x1024 .f32 0x00000000#32) (ix2 i j)
      = acc (ix2 i j) + (∑ r : Fin 256, u (ix2 (⟨r.val, by omega⟩ : Fin 512) i) * p (ix2 r j)
          + ∑ r : Fin 256, u (ix2 (⟨256 + r.val, by omega⟩ : Fin 512) i) * q (ix2 r j)) := by
  pointwise [k0_pay1, k0_pay49, k0_pay50]

end Cert.Kernel3Ideal.Hand

end
-- ==== Proof.Head.lean ====
module

public import proofs.«01_k».proof.Proof.HeadTile
public import proofs.«01_k».proof.Proof.Writes

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem
open Idealize.ShloMosaic.Pipeline (Dat)
open Cert.Proof

/-- Which block each window takes at a point. -/
theorem idx : ∀ t : Fin cfg0.N, win0_0.index t = ![t.val, 0] ∧ win0_1.index t = ![t.val, 0] ∧ win0_2.index t = ![t.val, 1]
    ∧ win0_3.index t = ![t.val, 2] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![0, 0]
    ∧ win0_15.index t = ![0, 0] ∧ win0_16.index t = ![0, 0] :=
  (by decide +kernel : ∀ t : Fin grid0.N, _)

theorem N16 : cfg0.N = 16 := rfl

variable (m : (ℓ : Loc nD τ sig) → Buf (Elt Ideal) ℓ) (c : Dev nD) (t : Fin cfg0.N)

/-- The arrays the kernel is called with. -/
def arr : HeadArr := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5),
  m ((c : Thread nD τ).loc main_arg6), m ((c : Thread nD τ).loc main_arg7)⟩

/-- The token at a row of the tile, of its first half, of its second half. -/
def tokAt (r : Fin 512) : Fin 8192 := ⟨t.val * 512 + r.val, by have := lt_of_lt_of_eq t.isLt N16; omega⟩
def lo (r : Fin 256) : Fin 8192 := tokAt t ⟨r.val, by omega⟩
def hi (r : Fin 256) : Fin 8192 := tokAt t ⟨256 + r.val, by omega⟩

theorem fits_lo : Fits (View.ld (iblk m c 1 t) (Rect.unit ![0, 0] ![256, 1024] inb_S512x1024_S256x1024_0_0)) (iblk m c 7 t) (View.ld (iblk m c 2 t) (Rect.unit ![0, 0] ![256, 1024] inb_S512x1024_S256x1024_0_0))
    (View.ld (iblk m c 3 t) (Rect.unit ![0, 0] ![256, 1024] inb_S512x1024_S256x1024_0_0)) (View.ld (iblk m c 0 t) (Rect.unit ![0, 0] ![256, 1024] inb_S512x1024_S256x1024_0_0)) (iblk m c 8 t)
    (View.ld (iblk m c 4 t) (Rect.unit ![0, 0] ![256, 1024] inb_S512x1024_S256x1024_0_0)) (View.ld (iblk m c 5 t) (Rect.unit ![0, 0] ![256, 1024] inb_S512x1024_S256x1024_0_0)) (iblk m c 6 t)
    (arr m c) (lo t) where
  u r d := by unfold lo tokAt arr; pointwise; blk_ext [iblk, V, idx t]
  wp p d := by unfold arr; blk_ext [iblk, V, idx t]
  ga r d := by unfold lo tokAt arr; pointwise; blk_ext [iblk, V, idx t]
  gb r d := by unfold lo tokAt arr; pointwise; blk_ext [iblk, V, idx t]
  ya r d := by unfold lo tokAt arr; pointwise; blk_ext [iblk, V, idx t]
  wo p d := by unfold arr; blk_ext [iblk, V, idx t]
  x r d := by unfold lo tokAt arr; pointwise; blk_ext [iblk, V, idx t]
  t r d := by unfold lo tokAt arr; pointwise; blk_ext [iblk, V, idx t]
  g d := by unfold arr; blk_ext [iblk, V, idx t]
theorem fits_hi : Fits (View.ld (iblk m c 1 t) (Rect.unit ![256, 0] ![256, 1024] inb_S512x1024_S256x1024_256_0)) (iblk m c 7 t) (View.ld (iblk m c 2 t) (Rect.unit ![256, 0] ![256, 1024] inb_S512x1024_S256x1024_256_0))
    (View.ld (iblk m c 3 t) (Rect.unit ![256, 0] ![256, 1024] inb_S512x1024_S256x1024_256_0)) (View.ld (iblk m c 0 t) (Rect.unit ![256, 0] ![256, 1024] inb_S512x1024_S256x1024_256_0)) (iblk m c 8 t)
    (View.ld (iblk m c 4 t) (Rect.unit ![256, 0] ![256, 1024] inb_S512x1024_S256x1024_256_0)) (View.ld (iblk m c 5 t) (Rect.unit ![256, 0] ![256, 1024] inb_S512x1024_S256x1024_256_0)) (iblk m c 6 t)
    (arr m c) (hi t) where
  u r d := by unfold hi tokAt arr; pointwise; blk_ext [iblk, V, idx t]
  wp p d := by unfold arr; blk_ext [iblk, V, idx t]
  ga r d := by unfold hi tokAt arr; pointwise; blk_ext [iblk, V, idx t]
  gb r d := by unfold hi tokAt arr; pointwise; blk_ext [iblk, V, idx t]
  ya r d := by unfold hi tokAt arr; pointwise; blk_ext [iblk, V, idx t]
  wo p d := by unfold arr; blk_ext [iblk, V, idx t]
  x r d := by unfold hi tokAt arr; pointwise; blk_ext [iblk, V, idx t]
  t r d := by unfold hi tokAt arr; pointwise; blk_ext [iblk, V, idx t]
  g d := by unfold arr; blk_ext [iblk, V, idx t]

/-- Two halves stored one after the other: the tile. -/
theorem two_halves (base : S512x1024.Idx → EReal) (v w : S256x1024.Idx → EReal) (f : Fin 8192 → Fin 1024 → EReal) (hv : ∀ r d, v (ix2 r d) = f (lo t r) d)
    (hw : ∀ r d, w (ix2 r d) = f (hi t r) d) (r : Fin 512) (d : Fin 1024) :
    VecWindow.put (s := S512x1024) (VecWindow.put (s := S512x1024) base ![0, 0] ![256, 1024] v) ![256, 0] ![256, 1024] w (ix2 r d) = f (tokAt t r) d := by
  by_cases h : r.val < 256
  · refine (put_rows_out _ w r d (.inl h)).trans ((put_rows_in base v r d ⟨r.val, h⟩ (by show r.val = 0 + r.val; omega)).trans ((hv _ d).trans ?_))
    rfl
  · refine (put_rows_in _ w r d ⟨r.val - 256, by omega⟩ (by show r.val = 256 + (r.val - 256); omega)).trans ((hw _ d).trans (congrArg (fun T => f T d) (Fin.ext ?_)))
    show t.val * 512 + (256 + (r.val - 256)) = t.val * 512 + r.val
    omega

/-- The gradient of the layer's output, tile after tile. -/
theorem out_dout : (dats m 0 c).arrAt 10 cfg0.N = fun i => (arr m c).dout (i 0) (i 1) := by
  refine (dats m 0 c).arrAt_eq_of_covers 10 _ (by decide +kernel) fun t hf y => ?_
  have hN : t.val < 16 := lt_of_lt_of_eq t.isLt N16
  blk_simp
  rw [after0_10]
  have hy : y = ix2 (y 0) (y 1) := eq_ix2 y
  have key : ∀ v : S512x1024.Idx → EReal, (∀ r d, v (ix2 r d) = (arr m c).dout (tokAt t r) d) →
      v y = (arr m c).dout (((View.whole main_v0_1).slice (win0_10.rect t)).emb y 0) (((View.whole main_v0_1).slice (win0_10.rect t)).emb y 1) := by
    intro v hv
    refine (congrArg v hy).trans ((hv (y 0) (y 1)).trans (congrArg₂ (arr m c).dout (Fin.ext ?_) (Fin.ext ?_)))
    · show t.val * 512 + (y 0).val = _; blk_simp [idx t]
    · show (y 1).val = _; blk_simp [idx t]
  by_cases h : t.val % 16 = 0
  · rw [outsAt0_A m c t h]
    frame_out
    rw [canon_window, canon_window]
    exact key _ (two_halves t _ _ _ (arr m c).dout (dout_1 _ _ _ _ _ _ _ _ _ _ _ (fits_lo m c t)) (dout_2 _ _ _ _ _ _ _ _ _ _ _ (fits_hi m c t)))
  · rw [outsAt0_B m c t h]
    frame_out
    rw [canon_window, canon_window]
    exact key _ (two_halves t _ _ _ (arr m c).dout (dout_1 _ _ _ _ _ _ _ _ _ _ _ (fits_lo m c t)) (dout_2 _ _ _ _ _ _ _ _ _ _ _ (fits_hi m c t)))

/-- The gradient of the convolution's branch, tile after tile. -/
theorem out_dya : (dats m 0 c).arrAt 11 cfg0.N = fun i => (arr m c).dya (i 0) (i 1) := by
  refine (dats m 0 c).arrAt_eq_of_covers 11 _ (by decide +kernel) fun t hf y => ?_
  have hN : t.val < 16 := lt_of_lt_of_eq t.isLt N16
  blk_simp
  rw [after0_11]
  have hy : y = ix2 (y 0) (y 1) := eq_ix2 y
  have key : ∀ v : S512x1024.Idx → EReal, (∀ r d, v (ix2 r d) = (arr m c).dya (tokAt t r) d) →
      v y = (arr m c).dya (((View.whole main_v0_2).slice (win0_11.rect t)).emb y 0) (((View.whole main_v0_2).slice (win0_11.rect t)).emb y 1) := by
    intro v hv
    refine (congrArg v hy).trans ((hv (y 0) (y 1)).trans (congrArg₂ (arr m c).dya (Fin.ext ?_) (Fin.ext ?_)))
    · show t.val * 512 + (y 0).val = _; blk_simp [idx t]
    · show (y 1).val = _; blk_simp [idx t]
  by_cases h : t.val % 16 = 0
  · rw [outsAt0_A m c t h]
    frame_out
    rw [canon_window, canon_window]
    exact key _ (two_halves t _ _ _ (arr m c).dya (dya_1 _ _ _ _ _ _ _ _ _ _ _ (fits_lo m c t)) (dya_2 _ _ _ _ _ _ _ _ _ _ _ (fits_hi m c t)))
  · rw [outsAt0_B m c t h]
    frame_out
    rw [canon_window, canon_window]
    exact key _ (two_halves t _ _ _ (arr m c).dya (dya_1 _ _ _ _ _ _ _ _ _ _ _ (fits_lo m c t)) (dya_2 _ _ _ _ _ _ _ _ _ _ _ (fits_hi m c t)))

/-- The gradient of the attention's output, tile after tile. -/
theorem out_dub : (dats m 0 c).arrAt 12 cfg0.N = fun i => (arr m c).dub (i 0) (i 1) := by
  refine (dats m 0 c).arrAt_eq_of_covers 12 _ (by decide +kernel) fun t hf y => ?_
  have hN : t.val < 16 := lt_of_lt_of_eq t.isLt N16
  blk_simp
  rw [after0_12]
  have hy : y = ix2 (y 0) (y 1) := eq_ix2 y
  have key : ∀ v : S512x1024.Idx → EReal, (∀ r d, v (ix2 r d) = (arr m c).dub (tokAt t r) d) →
      v y = (arr m c).dub (((View.whole main_v0_3).slice (win0_12.rect t)).emb y 0) (((View.whole main_v0_3).slice (win0_12.rect t)).emb y 1) := by
    intro v hv
    refine (congrArg v hy).trans ((hv (y 0) (y 1)).trans (congrArg₂ (arr m c).dub (Fin.ext ?_) (Fin.ext ?_)))
    · show t.val * 512 + (y 0).val = _; blk_simp [idx t]
    · show (y 1).val = _; blk_simp [idx t]
  by_cases h : t.val % 16 = 0
  · rw [outsAt0_A m c t h]
    frame_out
    rw [canon_window, canon_window]
    exact key _ (two_halves t _ _ _ (arr m c).dub (dub_1 _ _ _ _ _ _ _ _ _ _ _ (fits_lo m c t)) (dub_2 _ _ _ _ _ _ _ _ _ _ _ (fits_hi m c t)))
  · rw [outsAt0_B m c t h]
    frame_out
    rw [canon_window, canon_window]
    exact key _ (two_halves t _ _ _ (arr m c).dub (dub_1 _ _ _ _ _ _ _ _ _ _ _ (fits_lo m c t)) (dub_2 _ _ _ _ _ _ _ _ _ _ _ (fits_hi m c t)))

theorem put_in {n0 n1 k l o p : ℕ} (x : (⟨2, ![n0, n1]⟩ : Shape).Idx → EReal) (w : (⟨2, ![k, l]⟩ : Shape).Idx → EReal) (r : Fin n0) (d : Fin n1) (q : Fin k) (e : Fin l)
    (h : r.val = o + q.val) (h' : d.val = p + e.val) : VecWindow.put (s := ⟨2, ![n0, n1]⟩) x ![o, p] ![k, l] w (ix2 r d) = w (ix2 q e) := by
  have hq := q.isLt
  have he := e.isLt
  rw [VecWindow.put, dif_pos (show ∀ a : Fin 2, (![o, p] : Fin 2 → ℕ) a ≤ ((ix2 r d : (⟨2, ![n0, n1]⟩ : Shape).Idx) a).val
      ∧ ((ix2 r d : (⟨2, ![n0, n1]⟩ : Shape).Idx) a).val < (![o, p] : Fin 2 → ℕ) a + (![k, l] : Fin 2 → ℕ) a from fun a => by
      fin_cases a
      · exact ⟨by show o ≤ r.val; omega, by show r.val < o + k; omega⟩
      · exact ⟨by show p ≤ d.val; omega, by show d.val < p + l; omega⟩)]
  congr 1
  funext a
  fin_cases a
  · exact Fin.ext (by show r.val - o = q.val; omega)
  · exact Fin.ext (by show d.val - p = e.val; omega)
theorem put_out {n0 n1 k l o p : ℕ} (x : (⟨2, ![n0, n1]⟩ : Shape).Idx → EReal) (w : (⟨2, ![k, l]⟩ : Shape).Idx → EReal) (r : Fin n0) (d : Fin n1)
    (h : (r.val < o ∨ o + k ≤ r.val) ∨ (d.val < p ∨ p + l ≤ d.val)) : VecWindow.put (s := ⟨2, ![n0, n1]⟩) x ![o, p] ![k, l] w (ix2 r d) = x (ix2 r d) := by
  rw [VecWindow.put, dif_neg fun hh => by
    have h1 : o ≤ r.val := (hh 0).1
    have h2 : r.val < o + k := (hh 0).2
    have h3 : p ≤ d.val := (hh 1).1
    have h4 : d.val < p + l := (hh 1).2
    omega]

/-- Four pieces stored one after the other: the halves of two arrays side by side. -/
theorem four_pieces (base : S512x2048.Idx → EReal) (v v' w w' : S256x1024.Idx → EReal) (f f' : Fin 8192 → Fin 1024 → EReal)
    (hv : ∀ r d, v (ix2 r d) = f (lo t r) d) (hv' : ∀ r d, v' (ix2 r d) = f' (lo t r) d) (hw : ∀ r d, w (ix2 r d) = f (hi t r) d)
    (hw' : ∀ r d, w' (ix2 r d) = f' (hi t r) d) (r : Fin 512) (d : Fin 2048) :
    VecWindow.put (s := S512x2048) (VecWindow.put (s := S512x2048) (VecWindow.put (s := S512x2048) (VecWindow.put (s := S512x2048) base ![0, 0] ![256, 1024] v)
      ![0, 1024] ![256, 1024] v') ![256, 0] ![256, 1024] w) ![256, 1024] ![256, 1024] w' (ix2 r d)
      = if h : d.val < 1024 then f (tokAt t r) ⟨d.val, h⟩ else f' (tokAt t r) ⟨d.val - 1024, by omega⟩ := by
  have hT : ∀ (h : ¬ r.val < 256), hi t ⟨r.val - 256, by omega⟩ = tokAt t r := fun h => Fin.ext (by
    show t.val * 512 + (256 + (r.val - 256)) = t.val * 512 + r.val
    omega)
  by_cases hd : d.val < 1024
  · rw [dif_pos hd]
    refine (put_out _ w' r d (.inr (.inl hd))).trans ?_
    by_cases h : r.val < 256
    · refine (put_out _ w r d (.inl (.inl h))).trans ((put_out _ v' r d (.inr (.inl hd))).trans ?_)
      exact (put_in base v r d ⟨r.val, h⟩ ⟨d.val, hd⟩ (Nat.zero_add _).symm (Nat.zero_add _).symm).trans (hv _ _)
    · refine (put_in _ w r d ⟨r.val - 256, by omega⟩ ⟨d.val, hd⟩ (by show r.val = 256 + (r.val - 256); omega) (Nat.zero_add _).symm).trans ((hw _ _).trans ?_)
      rw [hT h]
  · rw [dif_neg hd]
    by_cases h : r.val < 256
    · refine (put_out _ w' r d (.inl (.inl h))).trans ((put_out _ w r d (.inl (.inl h))).trans ?_)
      exact (put_in _ v' r d ⟨r.val, h⟩ ⟨d.val - 1024, by omega⟩ (Nat.zero_add _).symm (by show d.val = 1024 + (d.val - 1024); omega)).trans (hv' _ _)
    · refine (put_in _ w' r d ⟨r.val - 256, by omega⟩ ⟨d.val - 1024, by omega⟩ (by show r.val = 256 + (r.val - 256); omega)
        (by show d.val = 1024 + (d.val - 1024); omega)).trans ((hw' _ _).trans ?_)
      rw [hT h]

/-- The gradients of the two gates side by side, tile after tile. -/
theorem out_dgab : (dats m 0 c).arrAt 13 cfg0.N = fun i => (arr m c).dgab (i 0) (i 1) := by
  refine (dats m 0 c).arrAt_eq_of_covers 13 _ (by decide +kernel) fun t hf y => ?_
  have hN : t.val < 16 := lt_of_lt_of_eq t.isLt N16
  blk_simp
  rw [after0_13]
  have hy : y = ix2 (y 0) (y 1) := eq_ix2 y
  have key : ∀ v : S512x2048.Idx → EReal, (∀ r d, v (ix2 r d) = (arr m c).dgab (tokAt t r) d) →
      v y = (arr m c).dgab (((View.whole main_v0_4).slice (win0_13.rect t)).emb y 0) (((View.whole main_v0_4).slice (win0_13.rect t)).emb y 1) := by
    intro v hv
    refine (congrArg v hy).trans ((hv (y 0) (y 1)).trans (congrArg₂ (arr m c).dgab (Fin.ext ?_) (Fin.ext ?_)))
    · show t.val * 512 + (y 0).val = _; blk_simp [idx t]
    · show (y 1).val = _; blk_simp [idx t]
  by_cases h : t.val % 16 = 0
  · rw [outsAt0_A m c t h]
    frame_out
    rw [canon_window, canon_window, canon_window, canon_window]
    exact key _ (four_pieces t _ _ _ _ _ (arr m c).dga (arr m c).dgb (dga_1 _ _ _ _ _ _ _ _ _ _ _ (fits_lo m c t)) (dgb_1 _ _ _ _ _ _ _ _ _ _ _ (fits_lo m c t))
      (dga_2 _ _ _ _ _ _ _ _ _ _ _ (fits_hi m c t)) (dgb_2 _ _ _ _ _ _ _ _ _ _ _ (fits_hi m c t)))
  · rw [outsAt0_B m c t h]
    frame_out
    rw [canon_window, canon_window, canon_window, canon_window]
    exact key _ (four_pieces t _ _ _ _ _ (arr m c).dga (arr m c).dgb (dga_1 _ _ _ _ _ _ _ _ _ _ _ (fits_lo m c t)) (dgb_1 _ _ _ _ _ _ _ _ _ _ _ (fits_lo m c t))
      (dga_2 _ _ _ _ _ _ _ _ _ _ _ (fits_hi m c t)) (dgb_2 _ _ _ _ _ _ _ _ _ _ _ (fits_hi m c t)))

/-! ### What is accumulated over the tiles -/

theorem offs0 : (![0, 0] : Fin 2 → Nat) = fun _ => 0 := by decide

/-- A sum over the tokens of a tile, half by half. -/
theorem sum_tile (f : Fin 8192 → EReal) : ∑ r : Fin 256, f (lo t r) + ∑ r : Fin 256, f (hi t r) = ∑ r : Fin 512, f (tokAt t r) :=
  (halves fun r => f (tokAt t r)).symm
/-- A sum over all tokens, tile by tile. -/
theorem sum_tiles (f : Fin 8192 → EReal) : ∑ p : Fin cfg0.N, ∑ r : Fin 512, f (tokAt p r) = ∑ T, f T :=
  (Fin.sum_univ_tiles 16 512 rfl f).symm

/-- What one tile adds: to the loss, to the output projection's gradient, to the attention branch's, to the scale's. -/
def lossAt (_ : S8x128.Idx) : EReal := (arr m c).lossOf ⟨t.val, lt_of_lt_of_eq t.isLt N16⟩
def dwoAt (j : S1024x1024.Idx) : EReal := ∑ r, (arr m c).mb (tokAt t r) (j 0) * (arr m c).dy (tokAt t r) (j 1)
def dwpAt (j : S1024x1024.Idx) : EReal := ∑ r, (arr m c).ub (ix2 (tokAt t r) (j 0)) * (arr m c).dyb (tokAt t r) (j 1)
def dgAt (j : S8x1024.Idx) : EReal := if (j 0).val = 0 then ∑ r, (arr m c).dout (tokAt t r) (j 1) * (arr m c).n (tokAt t r) (j 1) else 0
theorem dgAt_first (k : Fin 8) (d : Fin 1024) (hk : k.val = 0) : dgAt m c t (ix2 k d) = ∑ r, (arr m c).dout (tokAt t r) d * (arr m c).n (tokAt t r) d := if_pos hk
theorem dgAt_rest (k : Fin 8) (d : Fin 1024) (hk : ¬ k.val = 0) : dgAt m c t (ix2 k d) = 0 := if_neg hk

theorem loss_step (acc : Vec Ideal S8x128 .f32) (v w : FVec Ideal S1x1 .f32) (hv : v (ix2 (0 : Fin 1) (0 : Fin 1)) = ∑ r, (arr m c).sq (lo t r))
    (hw : w (ix2 (0 : Fin 1) (0 : Fin 1)) = ∑ r, (arr m c).sq (hi t r)) (j : S8x128.Idx) : k0_pay46 (F := Ideal) v w acc j = acc j + lossAt m c t j := by
  obtain ⟨k, l, rfl⟩ : ∃ k l, j = (ix2 k l : S8x128.Idx) := ⟨j 0, j 1, by funext a; fin_cases a <;> rfl⟩
  rw [add_loss, hv, hw, sum_tile t (arr m c).sq]
  rfl
theorem loss_A (h : t.val % 16 = 0) (j : S8x128.Idx) : (outsAt0 m c t.val t.isLt).1 j = 0 + lossAt m c t j := by
  rw [outsAt0_A m c t h]
  frame_out
  refine (loss_step m c t _ _ _ (sq_1 _ _ _ _ _ _ _ _ _ _ _ (fits_lo m c t)) (sq_2 _ _ _ _ _ _ _ _ _ _ _ (fits_hi m c t)) j).trans (congrArg (· + _) ?_)
  obtain ⟨k, l, rfl⟩ : ∃ k l, j = (ix2 k l : S8x128.Idx) := ⟨j 0, j 1, by funext a; fin_cases a <;> rfl⟩
  pointwise [k0_pay2]
theorem loss_B (h : ¬ t.val % 16 = 0) (j : S8x128.Idx) :
    (outsAt0 m c t.val t.isLt).1 j = (outsAt0 m c (t.val - 1) (Nat.lt_of_le_of_lt (Nat.sub_le _ _) t.isLt)).1 j + lossAt m c t j := by
  rw [outsAt0_B m c t h]
  frame_out
  exact loss_step m c t _ _ _ (sq_1 _ _ _ _ _ _ _ _ _ _ _ (fits_lo m c t)) (sq_2 _ _ _ _ _ _ _ _ _ _ _ (fits_hi m c t)) j

theorem dwo_step (acc : Vec Ideal S1024x1024 .f32) (p q p' q' : FVec Ideal S256x1024 .bf16) (hp : ∀ r d, p (ix2 r d) = (arr m c).mb (lo t r) d)
    (hq : ∀ r d, q (ix2 r d) = (arr m c).mb (hi t r) d) (hp' : ∀ r d, p' (ix2 r d) = (arr m c).dy (lo t r) d)
    (hq' : ∀ r d, q' (ix2 r d) = (arr m c).dy (hi t r) d) (j : S1024x1024.Idx) : k0_pay48 (F := Ideal) p q p' q' acc j = acc j + dwoAt m c t j := by
  obtain ⟨k, l, rfl⟩ : ∃ k l, j = (ix2 k l : S1024x1024.Idx) := ⟨j 0, j 1, by funext a; fin_cases a <;> rfl⟩
  rw [add_dwo]
  simp only [hp, hq, hp', hq']
  exact congrArg (acc _ + ·) (sum_tile t fun T => (arr m c).mb T k * (arr m c).dy T l)
theorem dwo_A (h : t.val % 16 = 0) (j : S1024x1024.Idx) : (outsAt0 m c t.val t.isLt).2.2.2.2.2.1 j = 0 + dwoAt m c t j := by
  rw [outsAt0_A m c t h]
  frame_out
  refine (dwo_step m c t _ _ _ _ _ (mb_1 _ _ _ _ _ _ _ _ _ _ _ (fits_lo m c t)) (mb_2 _ _ _ _ _ _ _ _ _ _ _ (fits_hi m c t)) (dy_1 _ _ _ _ _ _ _ _ _ _ _ (fits_lo m c t))
    (dy_2 _ _ _ _ _ _ _ _ _ _ _ (fits_hi m c t)) j).trans (congrArg (· + _) ?_)
  obtain ⟨k, l, rfl⟩ : ∃ k l, j = (ix2 k l : S1024x1024.Idx) := ⟨j 0, j 1, by funext a; fin_cases a <;> rfl⟩
  pointwise [k0_pay3]
theorem dwo_B (h : ¬ t.val % 16 = 0) (j : S1024x1024.Idx) :
    (outsAt0 m c t.val t.isLt).2.2.2.2.2.1 j = (outsAt0 m c (t.val - 1) (Nat.lt_of_le_of_lt (Nat.sub_le _ _) t.isLt)).2.2.2.2.2.1 j + dwoAt m c t j := by
  rw [outsAt0_B m c t h]
  frame_out
  exact dwo_step m c t _ _ _ _ _ (mb_1 _ _ _ _ _ _ _ _ _ _ _ (fits_lo m c t)) (mb_2 _ _ _ _ _ _ _ _ _ _ _ (fits_hi m c t)) (dy_1 _ _ _ _ _ _ _ _ _ _ _ (fits_lo m c t))
    (dy_2 _ _ _ _ _ _ _ _ _ _ _ (fits_hi m c t)) j

theorem block_ub (r : Fin 512) (d : Fin 1024) : iblk m c 1 t (ix2 r d) = (arr m c).ub (ix2 (tokAt t r) d) := by
  unfold tokAt arr
  blk_ext [iblk, V, idx t]
theorem dwp_step (acc : Vec Ideal S1024x1024 .f32) (p q : FVec Ideal S256x1024 .bf16) (hp : ∀ r d, p (ix2 r d) = (arr m c).dyb (lo t r) d)
    (hq : ∀ r d, q (ix2 r d) = (arr m c).dyb (hi t r) d) (j : S1024x1024.Idx) :
    k0_pay1 (F := Ideal) (k0_pay49 acc) (iblk m c 1 t) (k0_pay50 p q) (constant S1024x1024 .f32 0x00000000#32) j = acc j + dwpAt m c t j := by
  obtain ⟨k, l, rfl⟩ : ∃ k l, j = (ix2 k l : S1024x1024.Idx) := ⟨j 0, j 1, by funext a; fin_cases a <;> rfl⟩
  rw [add_dwp]
  simp only [hp, hq]
  refine congrArg (acc _ + ·) (Eq.trans (congrArg₂ (· + ·) (Finset.sum_congr rfl fun r _ => congrArg (· * _) (block_ub m c t _ k))
    (Finset.sum_congr rfl fun r _ => congrArg (· * _) (block_ub m c t _ k))) ?_)
  exact sum_tile t fun T => (arr m c).ub (ix2 T k) * (arr m c).dyb T l
theorem dwp_A (h : t.val % 16 = 0) (j : S1024x1024.Idx) : (outsAt0 m c t.val t.isLt).2.2.2.2.2.2.1 j = 0 + dwpAt m c t j := by
  rw [outsAt0_A m c t h]
  frame_out
  refine (dwp_step m c t _ _ _ (dyb_1 _ _ _ _ _ _ _ _ _ _ _ (fits_lo m c t)) (dyb_2 _ _ _ _ _ _ _ _ _ _ _ (fits_hi m c t)) j).trans (congrArg (· + _) ?_)
  obtain ⟨k, l, rfl⟩ : ∃ k l, j = (ix2 k l : S1024x1024.Idx) := ⟨j 0, j 1, by funext a; fin_cases a <;> rfl⟩
  pointwise [k0_pay4]
theorem dwp_B (h : ¬ t.val % 16 = 0) (j : S1024x1024.Idx) :
    (outsAt0 m c t.val t.isLt).2.2.2.2.2.2.1 j = (outsAt0 m c (t.val - 1) (Nat.lt_of_le_of_lt (Nat.sub_le _ _) t.isLt)).2.2.2.2.2.2.1 j + dwpAt m c t j := by
  rw [outsAt0_B m c t h]
  frame_out
  exact dwp_step m c t _ _ _ (dyb_1 _ _ _ _ _ _ _ _ _ _ _ (fits_lo m c t)) (dyb_2 _ _ _ _ _ _ _ _ _ _ _ (fits_hi m c t)) j

theorem dg_step (acc : FVec Ideal S1x1024 .f32) (v w : FVec Ideal S1x1024 .f32) (hv : ∀ d, v (ix2 (0 : Fin 1) d) = ∑ r, (arr m c).dout (lo t r) d * (arr m c).n (lo t r) d)
    (hw : ∀ d, w (ix2 (0 : Fin 1) d) = ∑ r, (arr m c).dout (hi t r) d * (arr m c).n (hi t r) d) (d : Fin 1024) :
    k0_pay47 (F := Ideal) v w acc (ix2 (0 : Fin 1) d) = acc (ix2 (0 : Fin 1) d) + ∑ r, (arr m c).dout (tokAt t r) d * (arr m c).n (tokAt t r) d := by
  rw [add_dg, hv, hw]
  exact congrArg (acc _ + ·) (sum_tile t fun T => (arr m c).dout T d * (arr m c).n T d)
theorem dg_A (h : t.val % 16 = 0) (j : S8x1024.Idx) : (outsAt0 m c t.val t.isLt).2.2.2.2.2.2.2 j = 0 + dgAt m c t j := by
  rw [outsAt0_A m c t h]
  frame_out
  rw [canon_window, View.readCov_eq_canon', View.canon_cons_unit_zero (S := S8x1024) offs0]
  obtain ⟨k, d, rfl⟩ : ∃ k d, j = (ix2 k d : S8x1024.Idx) := ⟨j 0, j 1, by funext a; fin_cases a <;> rfl⟩
  by_cases hk : k.val = 0
  · rw [dgAt_first m c t k d hk]
    refine (put_rows_in _ _ k d (0 : Fin 1) (by show k.val = 0 + 0; omega)).trans ?_
    refine (dg_step m c t _ _ _ (dg_1 _ _ _ _ _ _ _ _ _ _ _ (fits_lo m c t)) (dg_2 _ _ _ _ _ _ _ _ _ _ _ (fits_hi m c t)) d).trans (congrArg (· + _) ?_)
    pointwise [k0_pay5]
  · rw [dgAt_rest m c t k d hk]
    refine (put_rows_out _ _ k d (by omega)).trans ?_
    pointwise [k0_pay5]
theorem dg_B (h : ¬ t.val % 16 = 0) (j : S8x1024.Idx) :
    (outsAt0 m c t.val t.isLt).2.2.2.2.2.2.2 j = (outsAt0 m c (t.val - 1) (Nat.lt_of_le_of_lt (Nat.sub_le _ _) t.isLt)).2.2.2.2.2.2.2 j + dgAt m c t j := by
  rw [outsAt0_B m c t h]
  frame_out
  rw [read_window, View.writes_nil, Memref.IsWhole.read_unread]
  generalize (outsAt0 m c (t.val - 1) _).2.2.2.2.2.2.2 = acc
  obtain ⟨k, d, rfl⟩ : ∃ k d, j = (ix2 k d : S8x1024.Idx) := ⟨j 0, j 1, by funext a; fin_cases a <;> rfl⟩
  by_cases hk : k.val = 0
  · rw [dgAt_first m c t k d hk]
    refine (put_rows_in _ _ k d (0 : Fin 1) (by show k.val = 0 + 0; omega)).trans ?_
    refine (dg_step m c t _ _ _ (dg_1 _ _ _ _ _ _ _ _ _ _ _ (fits_lo m c t)) (dg_2 _ _ _ _ _ _ _ _ _ _ _ (fits_hi m c t)) d).trans (congrArg (· + _) ?_)
    pointwise
    exact congrArg (fun q => acc (ix2 q d)) (Fin.ext (by show 0 = k.val; omega))
  · rw [dgAt_rest m c t k d hk, add_zero]
    exact put_rows_out _ _ k d (by omega)

/-- The loss after the run, in every cell. -/
theorem out_loss : (dats m 0 c).arrAt 9 cfg0.N = fun _ => (arr m c).loss := by
  refine (dats m 0 c).arrAt_eq_of_covers 9 _ (by decide +kernel) fun t hf y => ?_
  have ht := (flush0_9 t).mp hf
  have hN : t.val < 16 := lt_of_lt_of_eq t.isLt N16
  blk_simp
  rw [after0_9, Pipeline.eq_sum_fin_of_reset_step_apply_last (fun n h => (outsAt0 m c n h).1) 16 (fun _ => 0) (fun t j => lossAt m c t j)
    (fun t h j => loss_A m c t h j) (fun t h j => loss_B m c t h j) (le_of_eq N16) t (by show t.val + 1 = 16; omega) y, zero_add]
  rfl

/-- The gradient of the output projection's weight after the run. -/
theorem out_dwo : (dats m 0 c).arrAt 14 cfg0.N = fun i : S1024x1024.Idx => (arr m c).dwo (i 0) (i 1) := by
  refine (dats m 0 c).arrAt_eq_of_covers 14 _ (by decide +kernel) fun t hf y => ?_
  have ht := (flush0_14 t).mp hf
  have hN : t.val < 16 := lt_of_lt_of_eq t.isLt N16
  blk_simp
  rw [after0_14, Pipeline.eq_sum_fin_of_reset_step_apply_last (fun n h => (outsAt0 m c n h).2.2.2.2.2.1) 16 (fun _ => 0) (fun t j => dwoAt m c t j)
    (fun t h j => dwo_A m c t h j) (fun t h j => dwo_B m c t h j) (le_of_eq N16) t (by show t.val + 1 = 16; omega) y, zero_add]
  obtain ⟨k, l, rfl⟩ : ∃ k l, y = (ix2 k l : S1024x1024.Idx) := ⟨y 0, y 1, by funext a; fin_cases a <;> rfl⟩
  have he : ∑ p : Fin cfg0.N, dwoAt m c p (ix2 k l) = (arr m c).dwo k l := sum_tiles fun T => (arr m c).mb T k * (arr m c).dy T l
  refine he.trans (congrArg₂ (arr m c).dwo (Fin.ext ?_) (Fin.ext ?_))
  · show k.val = _; blk_simp [idx t]
  · show l.val = _; blk_simp [idx t]

/-- The gradient of the attention branch's weight after the run. -/
theorem out_dwp : (dats m 0 c).arrAt 15 cfg0.N = fun i : S1024x1024.Idx => (arr m c).dwp (i 0) (i 1) := by
  refine (dats m 0 c).arrAt_eq_of_covers 15 _ (by decide +kernel) fun t hf y => ?_
  have ht := (flush0_15 t).mp hf
  have hN : t.val < 16 := lt_of_lt_of_eq t.isLt N16
  blk_simp
  rw [after0_15, Pipeline.eq_sum_fin_of_reset_step_apply_last (fun n h => (outsAt0 m c n h).2.2.2.2.2.2.1) 16 (fun _ => 0) (fun t j => dwpAt m c t j)
    (fun t h j => dwp_A m c t h j) (fun t h j => dwp_B m c t h j) (le_of_eq N16) t (by show t.val + 1 = 16; omega) y, zero_add]
  obtain ⟨k, l, rfl⟩ : ∃ k l, y = (ix2 k l : S1024x1024.Idx) := ⟨y 0, y 1, by funext a; fin_cases a <;> rfl⟩
  have he : ∑ p : Fin cfg0.N, dwpAt m c p (ix2 k l) = (arr m c).dwp k l := sum_tiles fun T => (arr m c).ub (ix2 T k) * (arr m c).dyb T l
  refine he.trans (congrArg₂ (arr m c).dwp (Fin.ext ?_) (Fin.ext ?_))
  · show k.val = _; blk_simp [idx t]
  · show l.val = _; blk_simp [idx t]

/-- The gradient of the scale after the run, in the first of eight rows. -/
theorem out_dg : (dats m 0 c).arrAt 16 cfg0.N = fun i : S8x1024.Idx => (arr m c).dg8 (i 1) (i 0).val := by
  refine (dats m 0 c).arrAt_eq_of_covers 16 _ (by decide +kernel) fun t hf y => ?_
  have ht := (flush0_16 t).mp hf
  have hN : t.val < 16 := lt_of_lt_of_eq t.isLt N16
  blk_simp
  rw [after0_16, Pipeline.eq_sum_fin_of_reset_step_apply_last (fun n h => (outsAt0 m c n h).2.2.2.2.2.2.2) 16 (fun _ => 0) (fun t j => dgAt m c t j)
    (fun t h j => dg_A m c t h j) (fun t h j => dg_B m c t h j) (le_of_eq N16) t (by show t.val + 1 = 16; omega) y, zero_add]
  obtain ⟨k, d, rfl⟩ : ∃ k d, y = (ix2 k d : S8x1024.Idx) := ⟨y 0, y 1, by funext a; fin_cases a <;> rfl⟩
  have he : ∑ p : Fin cfg0.N, dgAt m c p (ix2 k d) = (arr m c).dg8 d k.val := by
    unfold HeadArr.dg8 HeadArr.dg
    by_cases hk : k.val = 0
    · rw [if_pos hk]
      simp only [dgAt_first m c _ k d hk]
      exact sum_tiles fun T => (arr m c).dout T d * (arr m c).n T d
    · rw [if_neg hk]
      simp only [dgAt_rest m c _ k d hk]
      exact Finset.sum_const_zero
  refine he.trans (congrArg₂ (arr m c).dg8 (Fin.ext ?_) ?_)
  · show d.val = _; blk_simp [idx t]
  · show k.val = _; blk_simp [idx t]

end Cert.Kernel3Ideal.Hand

end
-- ==== Proof.HeadRef.lean ====
module

public import proofs.«01_k».proof.Proof.HeadSpec
public import proofs.«01_k».proof.Proof.Gen.Reference3Ideal.Read

@[expose] public section

set_option maxRecDepth 16384

noncomputable section

namespace Cert.Proof.HeadArr

open Cert.Reference3Ideal Cert.Reference3Ideal.Gen Cert.Reference3Ideal.Read
open Idealize.ShloMosaic Idealize.ShloMosaic.TcCoe Idealize.SL.Sem

variable (a : HeadArr) (T : Fin 8192) (d : Fin 1024)

/-! ### What the reference computes, one operation after another -/

theorem r_5 : val_main_v5 (F := Ideal) a.ub a.wp (ix2 T d) = a.yb T d := by
  unfold yb
  pointwise [val_main_v5, val_main_v0, val_main_v3]
theorem r_11 : val_main_v11 (F := Ideal) a.g3 (ix2 T d) = a.sa T d := by
  unfold sa sigm
  pointwise [val_main_v11, val_main_v10, val_main_v9, val_main_v8, val_main_v7, val_main_v6, val_main_v1, val_main_cst, val_main_cst_0]
theorem r_21 : val_main_v21 (F := Ideal) a.g3 (ix2 T d) = a.sb T d := by
  unfold sb sigm
  pointwise [val_main_v21, val_main_v20, val_main_v19, val_main_v18, val_main_v17, val_main_v16, val_main_v2, val_main_cst_2, val_main_cst_3]
theorem r_14 : val_main_v14 (F := Ideal) a.g3 (ix2 T d) = a.sa T d * (1 - a.sa T d) := by
  pointwise [val_main_v14, val_main_v13, val_main_v12, val_main_cst_1]
  rw [r_11]
theorem r_24 : val_main_v24 (F := Ideal) a.g3 (ix2 T d) = a.sb T d * (1 - a.sb T d) := by
  pointwise [val_main_v24, val_main_v23, val_main_v22, val_main_cst_4]
  rw [r_21]
theorem r_26 : val_main_v26 (F := Ideal) a.ya a.ub a.g3 a.wp (ix2 T d) = a.mb T d := by
  unfold mb
  pointwise [val_main_v26, val_main_v25, val_main_v15]
  rw [r_11, r_21, r_5]
theorem r_27 : val_main_v27 (F := Ideal) a.ya a.ub a.g3 a.wp a.wo (ix2 T d) = a.y T d := by
  unfold y
  pointwise [val_main_v27, val_main_v4]
  simp only [r_26 a T]
theorem r_34 : val_main_v34 (F := Ideal) a.ya a.ub a.g3 a.wp a.wo (ix2 T (0 : Fin 1)) = meanSq (a.y T) := by
  unfold meanSq
  pointwise [val_main_v34, val_main_v33, val_main_v32, val_main_v31, val_main_v30, val_main_v29, val_main_v28, val_main_cst_5, val_main_cst_6, val_main_cst_7]
  simp only [r_27 a T]
theorem r_35 : val_main_v35 (F := Ideal) a.ya a.ub a.g3 a.wp a.wo (ix2 T (0 : Fin 1)) = invRms (a.y T) := by
  unfold invRms
  pointwise [val_main_v35]
  rw [r_34]
theorem r_40 : val_main_v40 (F := Ideal) a.ya a.ub a.g3 a.wp a.wo (ix2 T d) = a.n T d := by
  unfold n
  pointwise [val_main_v40, val_main_v39]
  rw [r_27, r_35]
theorem r_44 : val_main_v44 (F := Ideal) a.ya a.ub a.g3 a.x a.t a.g a.wp a.wo (ix2 T d) = a.err T d := by
  unfold err
  pointwise [val_main_v44, val_main_v43, val_main_v42, val_main_v41]
  rw [r_40]

theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem perWidth_eq : perWidth = ((1 / 1024 : ℝ) : EReal) := by
  simp [Ideal.ofBits, Ideal.ieee, -EReal.coe_mul]; norm_num
theorem halfPerWidth_eq : halfPerWidth = ((1 / 2048 : ℝ) : EReal) := by
  simp [Ideal.ofBits, Ideal.ieee, -EReal.coe_mul]; norm_num
/-- Half of the derivative of a square, over the width. -/
theorem factor (e : EReal) : Ideal.div (Ideal.ofBits .f32 0x3F000000#32) width * (Ideal.ofBits .f32 0x40000000#32 * e) = e * perWidth := by
  rw [half_eq, div_width, two_eq, perWidth_eq, ← mul_assoc, mul_comm, ← EReal.coe_mul]
  exact congrArg (fun q : ℝ => e * (q : EReal)) (by norm_num)

theorem r_58 : val_main_v58 (F := Ideal) a.ya a.ub a.g3 a.x a.t a.g a.wp a.wo (ix2 T d) = a.dout T d := by
  unfold dout
  pointwise [val_main_v58, val_main_v57, val_main_v56, val_main_v55, val_main_v54, val_main_v53, val_main_v47, val_main_v46, val_main_cst_9,
    val_main_cst_14, val_main_cst_15, val_main_cst_16]
  rw [r_44]
  exact factor _
theorem r_63 : val_main_v63 (F := Ideal) a.ya a.ub a.g3 a.x a.t a.g a.wp a.wo (ix2 T d) = a.dn T d := by
  unfold dn
  pointwise [val_main_v63, val_main_v62]
  rw [r_58]
theorem r_73 : val_main_v73 (F := Ideal) a.ya a.ub a.g3 a.x a.t a.g a.wp a.wo (ix2 T d) = viaRoot (a.y T) (a.dn T) := by
  unfold viaRoot
  pointwise [val_main_v73, val_main_v72, val_main_v71, val_main_v70, val_main_v69, val_main_v66, val_main_v65, val_main_v64, val_main_v38,
    val_main_v37, val_main_v36, val_main_cst_8, val_main_cst_18, val_main_cst_19, val_main_cst_20]
  rw [Fin.sum_univ_one, r_35, r_34]
  simp only [r_63 a T, r_27 a T]
/-- The gradient of the normalisation's scale. -/
theorem r_94 (k : Fin 8) : val_main_v94 (F := Ideal) a.ya a.ub a.g3 a.x a.t a.g a.wp a.wo (ix2 k d) = a.dg8 d k.val := by
  unfold dg8 dg
  pointwise [val_main_v94, val_main_call0_v0, val_main_c, val_main_v61, val_main_v60, val_main_v59, val_main_cst_17]
  have h0 : (FloatOps.sitofp .f32 (0#32) : Ideal .f32) = 0 := by
    show ((BitVec.toInt (0#32) : ℝ) : EReal) = 0
    norm_num
  rw [h0]
  by_cases h : k.val = 0
  · rw [dif_pos (show k.val < 1 by omega), if_pos h]
    refine Finset.sum_congr rfl fun T _ => ?_
    rw [r_40, r_58, mul_comm]
  · rw [dif_neg (show ¬ k.val < 1 by omega), if_neg h]

/-- The arrays hold finite numbers. -/
structure Finite : Prop where
  ya : ∀ T e, ∃ r : ℝ, a.ya (ix2 T e) = (r : EReal)
  ub : ∀ T e, ∃ r : ℝ, a.ub (ix2 T e) = (r : EReal)
  g3 : ∀ T e, ∃ r : ℝ, a.g3 (ix2 T e) = (r : EReal)
  x : ∀ T e, ∃ r : ℝ, a.x (ix2 T e) = (r : EReal)
  t : ∀ T e, ∃ r : ℝ, a.t (ix2 T e) = (r : EReal)
  g : ∀ T e, ∃ r : ℝ, a.g (ix2 T e) = (r : EReal)
  wp : ∀ T e, ∃ r : ℝ, a.wp (ix2 T e) = (r : EReal)
  wo : ∀ T e, ∃ r : ℝ, a.wo (ix2 T e) = (r : EReal)

theorem real_inv (x : Fin 1024 → EReal) (hx : ∀ k, ∃ q : ℝ, x k = q) : ∃ q : ℝ, invRms x = q := by
  choose xr hx using hx
  obtain rfl : x = fun k => (xr k : EReal) := funext hx
  obtain ⟨v, hv, hm, hr⟩ := rms_real xr
  exact ⟨_, hr⟩

variable (hx : a.Finite)
include hx

theorem real_y : ∃ r : ℝ, a.y T d = r :=
  real_sum _ _ fun p => real_mul (real_add (real_mul (real_logistic (hx.g3 _ _)) (hx.ya _ _))
    (real_mul (real_logistic (hx.g3 _ _)) (real_sum _ _ fun q => real_mul (hx.ub _ _) (hx.wp _ _)))) (hx.wo _ _)
theorem real_err : ∃ r : ℝ, a.err T d = r :=
  real_sub (real_add (hx.x _ _) (real_mul (real_mul (a.real_y T d hx) (real_inv _ fun k => a.real_y T k hx)) (hx.g _ _))) (hx.t _ _)
theorem real_dn : ∃ r : ℝ, a.dn T d = r := real_mul (real_mul (a.real_err T d hx) ⟨_, perWidth_eq⟩) (hx.g _ _)

theorem r_77 : val_main_v77 (F := Ideal) a.ya a.ub a.g3 a.x a.t a.g a.wp a.wo (ix2 T d) = a.dy T d := by
  unfold dy n
  rw [norm_grad (a.y T) (a.dn T) (fun k => a.real_y T k hx) (fun k => a.real_dn T k hx) d]
  pointwise [val_main_v77, val_main_v76, val_main_v75, val_main_v74, val_main_v68, val_main_v67]
  rw [r_73, r_63, r_35, r_27]
/-- The gradient of the output projection's weight. -/
theorem r_79 (i j : Fin 1024) : val_main_v79 (F := Ideal) a.ya a.ub a.g3 a.x a.t a.g a.wp a.wo (ix2 i j) = a.dwo i j := by
  unfold dwo
  pointwise [val_main_v79, val_main_v78]
  refine Finset.sum_congr rfl fun T _ => ?_
  rw [r_26, a.r_77 T j hx, mul_comm]
theorem r_80 : val_main_v80 (F := Ideal) a.ya a.ub a.g3 a.x a.t a.g a.wp a.wo (ix2 T d) = a.dm T d := by
  unfold dm
  pointwise [val_main_v80, val_main_v4]
  simp only [fun e => a.r_77 T e hx]
theorem r_81 : val_main_v81 (F := Ideal) a.ya a.ub a.g3 a.x a.t a.g a.wp a.wo (ix2 T d) = a.dyb T d := by
  unfold dyb
  pointwise [val_main_v81]
  rw [r_21, a.r_80 T d hx, mul_comm]
theorem r_83 : val_main_v83 (F := Ideal) a.ya a.ub a.g3 a.x a.t a.g a.wp a.wo (ix2 T d) = a.dgb T d := by
  unfold dgb
  pointwise [val_main_v83, val_main_v82]
  rw [r_24, a.r_80 T d hx, r_5]
theorem r_86 : val_main_v86 (F := Ideal) a.ya a.ub a.g3 a.x a.t a.g a.wp a.wo (ix2 T d) = a.dga T d := by
  unfold dga
  pointwise [val_main_v86, val_main_v85]
  rw [r_14, a.r_80 T d hx]
/-- The gradient of the attention branch's weight. -/
theorem r_88 (i j : Fin 1024) : val_main_v88 (F := Ideal) a.ya a.ub a.g3 a.x a.t a.g a.wp a.wo (ix2 i j) = a.dwp i j := by
  unfold dwp
  pointwise [val_main_v88, val_main_v87, val_main_v0]
  refine Finset.sum_congr rfl fun T _ => ?_
  rw [a.r_81 T j hx, mul_comm]
/-- The gradient of the attention's output. -/
theorem r_89 : val_main_v89 (F := Ideal) a.ya a.ub a.g3 a.x a.t a.g a.wp a.wo (ix2 T d) = a.dub T d := by
  unfold dub
  pointwise [val_main_v89, val_main_v3]
  simp only [fun e => a.r_81 T e hx]
/-- The gradient of the convolution's branch. -/
theorem r_91 : val_main_v91 (F := Ideal) a.ya a.ub a.g3 a.x a.t a.g a.wp a.wo (ix2 T d) = a.dya T d := by
  unfold dya
  pointwise [val_main_v91, val_main_v84]
  rw [r_11, a.r_80 T d hx, mul_comm]
/-- The gradients of the two gates. -/
theorem r_93 (j : Fin 2048) : val_main_v93 (F := Ideal) a.ya a.ub a.g3 a.x a.t a.g a.wp a.wo (ix2 T j) = a.dgab T j := by
  unfold dgab
  pointwise [val_main_v93, val_main_v92]
  by_cases h : j.val < 1024
  · rw [dif_pos h, dif_pos h]
    exact a.r_86 T _ hx
  · rw [dif_neg h, dif_neg h]
    exact a.r_83 T _ hx
/-- The loss. -/
theorem r_90 (k : Fin 8) (l : Fin 128) : val_main_v90 (F := Ideal) a.ya a.ub a.g3 a.x a.t a.g a.wp a.wo (ix2 k l) = a.loss := by
  pointwise [val_main_v90, val_main_v52, val_main_v51, val_main_v50, val_main_v49, val_main_v48, val_main_v45, val_main_cst_10, val_main_cst_11,
    val_main_cst_12, val_main_cst_13]
  simp only [r_44 a]
  have hs : ∀ T, ∃ r : ℝ, a.sq T = r := fun T => real_sum _ _ fun e => real_mul (a.real_err T e hx) (a.real_err T e hx)
  choose s hs using hs
  have e1 : ∀ T, Ideal.div (∑ e : Fin 1024, a.err T e * a.err T e) width = ((s T / 1024 : ℝ) : EReal) := fun T => by
    rw [← div_width, ← hs T]
    rfl
  have e2 : ∀ t, a.lossOf t = (((∑ r : Fin 512, s ⟨t.val * 512 + r.val, by omega⟩) * (1 / 2048) : ℝ) : EReal) := fun t => by
    unfold lossOf
    simp only [hs]
    rw [← coe_sum, halfPerWidth_eq, ← EReal.coe_mul]
  unfold loss
  simp only [e1, e2]
  rw [← coe_sum, ← coe_sum, half_eq, ← EReal.coe_mul]
  refine congrArg _ ?_
  rw [← Finset.sum_mul, ← Fin.sum_univ_tiles 16 512 rfl (fun T : Fin 8192 => s T), ← Finset.sum_div]
  ring

end Cert.Proof.HeadArr

end
-- ==== Proof.HeadValue.lean ====
/- The layer's head with the loss, and the gradient back to its branches: its frames, and that its two programs leave the same contents. -/
module

public import proofs.«01_k».proof.Defs
public import proofs.«01_k».proof.Proof.Gen.Kernel3
public import proofs.«01_k».proof.Proof.Gen.Pre_finite3
public import proofs.«01_k».proof.Proof.Gen.Reference3Ideal.Run
public import proofs.«01_k».proof.Proof.Head
public import proofs.«01_k».proof.Proof.HeadRef
public import Idealize.ShloMosaic.Lib.Quiescent

@[expose] public section

noncomputable section

namespace Cert.Proof

open Idealize.ShloMosaic Idealize.ShloMosaic.TcCoe Idealize.SL.Sem

set_option maxHeartbeats 4000000 in
/-- The two programs have one text: their label tables are the same function. -/
theorem table_same3 {F : FTy → Type} [FloatOps F] : (Cert.Kernel3Ideal.defs₀ (F := F)) = Cert.Kernel3.defs₀ (F := F) := by
  unfold Cert.Kernel3Ideal.defs₀ Cert.Kernel3.defs₀
  refine congrArg Defs.onTc ?_
  funext l x
  match l, x with
  | ⟨0, _⟩, (t, s) => rfl
  | ⟨n + 1, h⟩, _ => exact absurd h (Nat.not_lt.2 (Nat.le_add_left _ _))
theorem defs_same3 {F : FTy → Type} [FloatOps F] : (Cert.Kernel3Ideal.defs (F := F)) = Cert.Kernel3.defs (F := F) :=
  congrArg (Pipeline.defs (Cert.Kernel3Ideal.pcfgs (F := F))) table_same3

theorem frame_kernel3 : Cert.quiescent_Kernel3 := fun m ρ _ => by
  rw [← defs_same3]
  exact (θ_run Cert.Kernel3Ideal.defs _ _).mono (fun _ h => h) (Cert.Kernel3Ideal.Gen.frame (F := Bits) m ρ)

theorem frame_ideal3 : Cert.quiescent_Kernel3Ideal := fun m ρ _ => Cert.Kernel3Ideal.Gen.frame (F := Ideal) m ρ

theorem frame_reference3 : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

set_option maxHeartbeats 4000000 in
open Cert.Kernel3Ideal.Hand in
theorem value3 : Cert.algebraic_Kernel3Ideal_Reference3Ideal_pre_finite3 := by
  intro m g m' g' hpre hargs
  have hfin : ∀ c, (arr m c).Finite := fun c => by
    obtain ⟨p0, p1, p2, p3, p4, p5, p6, p7⟩ := hpre c
    exact ⟨fun T e => finite_of (congrFun p0 (ix2 T e)), fun T e => finite_of (congrFun p1 (ix2 T e)), fun T e => finite_of (congrFun p2 (ix2 T e)),
      fun T e => finite_of (congrFun p3 (ix2 T e)), fun T e => finite_of (congrFun p4 (ix2 T e)), fun T e => finite_of (congrFun p5 (ix2 T e)),
      fun T e => finite_of (congrFun p6 (ix2 T e)), fun T e => finite_of (congrFun p7 (ix2 T e))⟩
  refine ⟨fun c => fun _ : (⟨2, ![8, 128]⟩ : Shape).Idx => (arr m c).loss,
    fun c => fun i : (⟨2, ![8192, 1024]⟩ : Shape).Idx => (arr m c).dout (i 0) (i 1),
    fun c => fun i : (⟨2, ![8192, 1024]⟩ : Shape).Idx => (arr m c).dya (i 0) (i 1),
    fun c => fun i : (⟨2, ![8192, 1024]⟩ : Shape).Idx => (arr m c).dub (i 0) (i 1),
    fun c => fun i : (⟨2, ![8192, 2048]⟩ : Shape).Idx => (arr m c).dgab (i 0) (i 1),
    fun c => fun i : (⟨2, ![1024, 1024]⟩ : Shape).Idx => (arr m c).dwo (i 0) (i 1),
    fun c => fun i : (⟨2, ![1024, 1024]⟩ : Shape).Idx => (arr m c).dwp (i 0) (i 1),
    fun c => fun i : (⟨2, ![8, 1024]⟩ : Shape).Idx => (arr m c).dg8 (i 1) (i 0).val, ?_, ?_⟩
  · refine (θ_run Cert.Kernel3Ideal.defs _ _).mono (fun r h c => ?_) (Cert.Kernel3Ideal.Value.run_blocks m g)
    obtain ⟨h0, h1, h2, h3, h4, h5, h6, h7, hrest⟩ := h c
    exact ⟨h0.trans (out_loss m c), h1.trans (out_dout m c), h2.trans (out_dya m c), h3.trans (out_dub m c), h4.trans (out_dgab m c), h5.trans (out_dwo m c), h6.trans (out_dwp m c), h7.trans (out_dg m c), hrest⟩
  · refine (θ_run Cert.Reference3Ideal.defs _ _).mono (fun r h c => ?_) (Cert.Reference3Ideal.Value.run (F := Ideal) m' g')
    obtain ⟨a0, a1, a2, a3, a4, a5, a6, a7⟩ := hargs c
    obtain ⟨h0, h1, h2, h3, h4, h5, h6, h7, hrest⟩ := h c
    rw [Cert.Reference3Ideal.Read.val_main_v90_eq, a0, a1, a2, a3, a4, a5, a6, a7] at h0
    rw [Cert.Reference3Ideal.Read.val_main_v58_eq, a0, a1, a2, a3, a4, a5, a6, a7] at h1
    rw [Cert.Reference3Ideal.Read.val_main_v91_eq, a0, a1, a2, a3, a4, a5, a6, a7] at h2
    rw [Cert.Reference3Ideal.Read.val_main_v89_eq, a0, a1, a2, a3, a4, a5, a6, a7] at h3
    rw [Cert.Reference3Ideal.Read.val_main_v93_eq, a0, a1, a2, a3, a4, a5, a6, a7] at h4
    rw [Cert.Reference3Ideal.Read.val_main_v79_eq, a0, a1, a2, a3, a4, a5, a6, a7] at h5
    rw [Cert.Reference3Ideal.Read.val_main_v88_eq, a0, a1, a2, a3, a4, a5, a6, a7] at h6
    rw [Cert.Reference3Ideal.Read.val_main_v94_eq, a0, a1, a2, a3, a4, a5, a6, a7] at h7
    refine ⟨?_, ?_, ?_, ?_, ?_, ?_, ?_, ?_, hrest⟩
    · exact h0.trans (funext (at_ix2 fun k l => (arr m c).r_90 (hfin c) k l))
    · exact h1.trans (funext (at_ix2 fun T d => (arr m c).r_58 T d))
    · exact h2.trans (funext (at_ix2 fun T d => (arr m c).r_91 T d (hfin c)))
    · exact h3.trans (funext (at_ix2 fun T d => (arr m c).r_89 T d (hfin c)))
    · exact h4.trans (funext (at_ix2 fun T d => (arr m c).r_93 T (hfin c) d))
    · exact h5.trans (funext (at_ix2 fun T d => (arr m c).r_79 (hfin c) T d))
    · exact h6.trans (funext (at_ix2 fun T d => (arr m c).r_88 (hfin c) T d))
    · exact h7.trans (funext (at_ix2 fun k d => (arr m c).r_94 d k))

end Cert.Proof

end
-- ==== Proof.InSpec.lean ====
module

public import proofs.«01_k».proof.Proof.Reals

@[expose] public section

noncomputable section

namespace Cert.Proof

open Idealize.ShloMosaic

/-! ## The first normalisation, the projections to queries, keys, values and gates, and the rotation

As functions of a token and a column of the stacked projections. -/

structure InArr where
  x : FVec Ideal ⟨2, ![8192, 1024]⟩ .f32
  g : FVec Ideal ⟨2, ![1, 1024]⟩ .f32
  w : FVec Ideal ⟨2, ![8448, 1024]⟩ .bf16
  c : FVec Ideal ⟨2, ![2048, 32]⟩ .f32
  s : FVec Ideal ⟨2, ![2048, 32]⟩ .f32

/-- The scale of the queries. -/
abbrev logitScale : EReal := Ideal.ofBits .f32 0x3E000000#32

/-- The token at a place of a sequence. -/
def place (b : Fin 4) (t : Fin 2048) : Fin 8192 := ⟨b.val * 2048 + t.val, by omega⟩
theorem place_mod (b : Fin 4) (t : Fin 2048) : (place b t).val % 2048 = t.val := by
  unfold place; dsimp only; omega

namespace InArr

variable (a : InArr) (T : Fin 8192)

/-- Row `T` of the input, and that row normalised and scaled. -/
def row (k : Fin 1024) : EReal := a.x (ix2 T k)
def h (d : Fin 1024) : EReal := (a.row T d * invRms (a.row T)) * a.g (ix2 (0 : Fin 1) d)
/-- Column `j` of the projection. -/
def col (j : ℕ) : EReal := ∑ p : Fin 1024, a.h T p * a.w (ix2 (⟨j % 8448, Nat.mod_lt _ (by norm_num)⟩ : Fin 8448) p)
/-- The rotation's tables at a token's position, for a column. -/
def cs (j : ℕ) : EReal := a.c (ix2 (⟨T.val % 2048, Nat.mod_lt _ (by norm_num)⟩ : Fin 2048) (⟨j % 32, Nat.mod_lt _ (by norm_num)⟩ : Fin 32))
def sn (j : ℕ) : EReal := a.s (ix2 (⟨T.val % 2048, Nat.mod_lt _ (by norm_num)⟩ : Fin 2048) (⟨j % 32, Nat.mod_lt _ (by norm_num)⟩ : Fin 32))
/-- A projected column rotated with its partner, 32 columns away in its head. -/
def rot (j : ℕ) : EReal :=
  if j % 64 < 32 then a.col T j * a.cs T j - a.col T (j + 32) * a.sn T j else a.col T j * a.cs T j + a.col T (j - 32) * a.sn T j
/-- Queries; keys with values; gates. -/
def q (d : ℕ) : EReal := a.rot T (4096 + d) * logitScale
def kv (e : ℕ) : EReal := if e < 128 then a.rot T (5120 + e) else a.col T (5120 + e)
def g3 (e : ℕ) : EReal := a.col T (5376 + e)
/-- The results, as arrays. -/
def qAt (d : Fin 1024) : EReal := a.q T d.val
def kvAt (e : Fin 256) : EReal := a.kv T e.val
def g3At (e : Fin 3072) : EReal := a.g3 T e.val

end InArr

end Cert.Proof

end
-- ==== Proof.ConvSpec.lean ====
/- The convolution branch's projection and what it leaves, as functions of a token and a channel. -/
module

public import proofs.«01_k».proof.Proof.Spec
public import proofs.«01_k».proof.Proof.InSpec

@[expose] public section

noncomputable section

namespace Cert.Proof

open Idealize.ShloMosaic

/-- What the branch is computed from: the normalised rows, the stacked projection (a row for each column it makes), the
three taps and the output projection. -/
structure ConvArr where
  h : FVec Ideal ⟨2, ![8192, 1024]⟩ .bf16
  w : FVec Ideal ⟨2, ![8448, 1024]⟩ .bf16
  k : FVec Ideal ⟨2, ![3, 1024]⟩ .f32
  p : FVec Ideal ⟨2, ![1024, 1024]⟩ .bf16

namespace ConvArr

variable (a : ConvArr) (T : Fin 8192)

/-- Column `e` of the projection. -/
def proj (e : ℕ) : EReal := ∑ q : Fin 1024, a.h (ix2 T q) * a.w (ix2 ⟨e % 8448, Nat.mod_lt _ (by norm_num)⟩ q)
def projAt (e : Fin 4096) : EReal := a.proj T e.val
/-- The branch's arrays: the first four thousand columns are its four operands. -/
def arr : Arr := Arr.of (fun _ _ => 0) a.projAt (fun _ _ => 0) (fun k d => a.k (ix2 k d)) (fun d e => a.p (ix2 d e))
/-- What the branch leaves. -/
def ya (e : Fin 1024) : EReal := ∑ d : Fin 1024, a.arr.ua T.val d * a.p (ix2 d e)

variable (d : Fin 1024)

theorem proj_of (e : ℕ) (he : e < 8448) : a.proj T e = ∑ q : Fin 1024, a.h (ix2 T q) * a.w (ix2 ⟨e, he⟩ q) := by
  unfold proj
  have e' : (⟨e % 8448, Nat.mod_lt _ (by norm_num)⟩ : Fin 8448) = ⟨e, he⟩ := Fin.ext (Nat.mod_eq_of_lt he)
  rw [e']
theorem x_eq : a.arr.x T.val d = a.proj T (0 + d.val) := by
  rw [Nat.zero_add]; dsimp only [arr, Arr.of]; rw [Arr.total_of_lt _ _ T.isLt]; rfl
theorem B_eq : a.arr.B T.val d = a.proj T (1024 + d.val) := by
  dsimp only [arr, Arr.of]; rw [Arr.total_of_lt _ _ T.isLt]; rfl
theorem C_eq : a.arr.C T.val d = a.proj T (2048 + d.val) := by
  dsimp only [arr, Arr.of]; rw [Arr.total_of_lt _ _ T.isLt]; rfl
theorem z_eq : a.arr.z T.val d = a.proj T (3072 + d.val) := by
  dsimp only [arr, Arr.of]; rw [Arr.total_of_lt _ _ T.isLt]; rfl
theorem w_eq (k : Fin 3) : a.arr.w k d = a.k (ix2 k d) := rfl

end ConvArr

end Cert.Proof

end
-- ==== Proof.ConvFrame.lean ====
module

public import Idealize.ShloMosaic.Lib.Claim
public import proofs.«01_k».proof.Proof.Gen.Kernel4Ideal.Frame
public import proofs.«01_k».proof.Proof.Gen.Kernel4Ideal.Skeleton

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point computes

From the tile of the hidden state `x0`, the stacked projection `x1`, the taps `x2`, the output projection `x3`, and the eight
rows `L` the point before left. -/

abbrev rH : Rect S512x1024 := Rect.unit (s := S512x1024) ![0, 0] S512x1024.size inb_S512x1024_S512x1024_0_0
abbrev rW0 : Rect S8448x1024 := Rect.unit (s := S8448x1024) ![0, 0] S1024x1024.size inb_S8448x1024_S1024x1024_0_0
abbrev rW1 : Rect S8448x1024 := Rect.unit (s := S8448x1024) ![1024, 0] S1024x1024.size inb_S8448x1024_S1024x1024_1024_0
abbrev rW2 : Rect S8448x1024 := Rect.unit (s := S8448x1024) ![2048, 0] S1024x1024.size inb_S8448x1024_S1024x1024_2048_0
abbrev rW3 : Rect S8448x1024 := Rect.unit (s := S8448x1024) ![3072, 0] S1024x1024.size inb_S8448x1024_S1024x1024_3072_0
abbrev rC0 : Rect S512x4096 := Rect.unit (s := S512x4096) ![0, 0] S512x1024.size inb_S512x4096_S512x1024_0_0
abbrev rC1 : Rect S512x4096 := Rect.unit (s := S512x4096) ![0, 1024] S512x1024.size inb_S512x4096_S512x1024_0_1024
abbrev rC2 : Rect S512x4096 := Rect.unit (s := S512x4096) ![0, 2048] S512x1024.size inb_S512x4096_S512x1024_0_2048
abbrev rC3 : Rect S512x4096 := Rect.unit (s := S512x4096) ![0, 3072] S512x1024.size inb_S512x4096_S512x1024_0_3072
abbrev rP : Rect S1024x1024 := Rect.unit (s := S1024x1024) ![0, 0] S1024x1024.size inb_S1024x1024_S1024x1024_0_0
abbrev rS : Rect S8x1024 := Rect.unit (s := S8x1024) ![0, 0] S8x1024.size inb_S8x1024_S8x1024_0_0
abbrev rK0 : Rect S8x1024 := Rect.unit (s := S8x1024) ![0, 0] S1x1024.size inb_S8x1024_S1x1024_0_0
abbrev rK1 : Rect S8x1024 := Rect.unit (s := S8x1024) ![1, 0] S1x1024.size inb_S8x1024_S1x1024_1_0
abbrev rK2 : Rect S8x1024 := Rect.unit (s := S8x1024) ![2, 0] S1x1024.size inb_S8x1024_S1x1024_2_0
abbrev rS6 : Rect S8x1024 := Rect.unit (s := S8x1024) ![6, 0] S1x1024.size inb_S8x1024_S1x1024_6_0
abbrev rS7 : Rect S8x1024 := Rect.unit (s := S8x1024) ![7, 0] S1x1024.size inb_S8x1024_S1x1024_7_0

/-- The tile's number in its sequence. -/
def word (i : grid0.Coords) : BitVec 32 :=
  let v18 : BitVec 32 := Scalar.select (Scalar.cmpi .eq 4#32 0#32) 1#32 4#32
  let v19 : BitVec 32 := Scalar.remsi (BitVec.ofNat 32 (i 0).val) v18
  let v23 : BitVec 1 := Scalar.xori (Scalar.cmpi .slt v19 0#32) (Scalar.cmpi .slt v18 0#32)
  Scalar.select (Scalar.andi v23 (Scalar.cmpi .ne v19 0#32)) (Scalar.addi v19 v18) v19

theorem N16 : cfg0.N = 16 := N_0
theorem word_iff : ∀ t : Fin cfg0.N, Scalar.cmpi .eq (word (grid0.coords t)) 0#32 = 1 ↔ t.val % 4 = 0 :=
  (by decide +kernel : ∀ t : Fin grid0.N, Scalar.cmpi .eq (word (grid0.coords t)) 0#32 = 1 ↔ t.val % 4 = 0)

section Values
variable (i : grid0.Coords) (x0 : Vec F S512x1024 .bf16) (x1 : Vec F S8448x1024 .bf16) (x2 : Vec F S8x1024 .f32) (x3 : Vec F S1024x1024 .bf16) (L : Vec F S8x1024 .f32)

def xc : FVec F S512x1024 .f32 := k0_pay3 (View.ld x0 rH) (View.ld x1 rW0)
def bg : FVec F S512x1024 .f32 := k0_pay4 (View.ld x0 rH) (View.ld x1 rW1)
def cg : FVec F S512x1024 .f32 := k0_pay5 (View.ld x0 rH) (View.ld x1 rW2)
def zc : FVec F S512x1024 .f32 := k0_pay6 (View.ld x0 rH) (View.ld x1 rW3)
def conv : FVec F S512x1024 .f32 :=
  k0_pay12 (xc x0 x1) (cg x0 x1) (word i) (View.ld L rS6) (View.ld L rS7) (View.ld x2 rK0) (View.ld x2 rK1) (View.ld x2 rK2)
/-- The saved projection's tile, the branch's tile, and the rows left to the next point. -/
def out4 : Vec F S512x4096 .bf16 :=
  View.canon [⟨rC3, k0_pay10 (View.ld x0 rH) (View.ld x1 rW3)⟩, ⟨rC2, k0_pay9 (View.ld x0 rH) (View.ld x1 rW2)⟩,
    ⟨rC1, k0_pay8 (View.ld x0 rH) (View.ld x1 rW1)⟩, ⟨rC0, k0_pay7 (View.ld x0 rH) (View.ld x1 rW0)⟩]
def out5 : Vec F S512x1024 .f32 :=
  View.canon [⟨rH, k0_pay2 (bg x0 x1) (zc x0 x1) (conv i x0 x1 x2 L) k0_pay13 (View.ld x3 rP)⟩]
def left : Vec F S8x1024 .f32 := View.canon [⟨rS, k0_pay1 (k0_pay11 (xc x0 x1) (cg x0 x1))⟩]
end Values

theorem cover4 (p0 : Vec F S512x1024 .bf16) (p1 : Vec F S512x1024 .bf16) (p2 : Vec F S512x1024 .bf16) (p3 : Vec F S512x1024 .bf16) (y : S512x4096.Idx) :
    ∃ pc ∈ ([⟨rC3, p0⟩, ⟨rC2, p1⟩, ⟨rC1, p2⟩, ⟨rC0, p3⟩] : List (View.Piece (Elt F) S512x4096 .bf16)), y ∈ pc.1.set :=
  View.cover_of_tiled [⟨rC3, p0⟩, ⟨rC2, p1⟩, ⟨rC1, p2⟩, ⟨rC0, p3⟩] S512x1024.size (by rfl) y
theorem cover5 (p0 : Vec F S512x1024 .f32) (y : S512x1024.Idx) :
    ∃ pc ∈ ([⟨rH, p0⟩] : List (View.Piece (Elt F) S512x1024 .f32)), y ∈ pc.1.set :=
  View.cover_of_tiled [⟨rH, p0⟩] S512x1024.size (by rfl) y
theorem cover7 (p0 : Vec F S8x1024 .f32) (y : S8x1024.Idx) :
    ∃ pc ∈ ([⟨rS, p0⟩] : List (View.Piece (Elt F) S8x1024 .f32)), y ∈ pc.1.set :=
  View.cover_of_tiled [⟨rS, p0⟩] S8x1024.size (by rfl) y

/-- At the first tile of a sequence the rows found are not read. -/
theorem conv_first (t : Fin cfg0.N) (h : t.val % 4 = 0) (x0 : Vec F S512x1024 .bf16) (x1 : Vec F S8448x1024 .bf16) (x2 : Vec F S8x1024 .f32) (L L' : Vec F S8x1024 .f32) :
    conv (grid0.coords t) x0 x1 x2 L = conv (grid0.coords t) x0 x1 x2 L' := by
  have hw := (word_iff t).mpr h
  unfold conv k0_pay12 Scalar.select
  simp only [hw, if_true]
theorem out5_first (t : Fin cfg0.N) (h : t.val % 4 = 0) (x0 : Vec F S512x1024 .bf16) (x1 : Vec F S8448x1024 .bf16) (x2 : Vec F S8x1024 .f32) (x3 : Vec F S1024x1024 .bf16) (L L' : Vec F S8x1024 .f32) :
    out5 (grid0.coords t) x0 x1 x2 x3 L = out5 (grid0.coords t) x0 x1 x2 x3 L' := by
  unfold out5; rw [conv_first t h x0 x1 x2 L L']

/-! ## The body's triple -/

set_option maxHeartbeats 2000000 in
theorem sound_kernel (c : Dev nD) (E : Set ℕ) (i : grid0.Coords) (arg1 : Memref sig .tc .vmem S512x1024 .bf16) (harg1 : arg1.IsWhole) (arg2 : Memref sig .tc .vmem S8448x1024 .bf16) (harg2 : arg2.IsWhole) (arg3 : Memref sig .tc .vmem S8x1024 .f32) (harg3 : arg3.IsWhole) (arg4 : Memref sig .tc .vmem S1024x1024 .bf16) (harg4 : arg4.IsWhole) (arg5 : Memref sig .tc .vmem S512x4096 .bf16) (harg5 : arg5.IsWhole) (arg6 : Memref sig .tc .vmem S512x1024 .f32) (harg6 : arg6.IsWhole) (arg7 : Memref sig .tc .vmem S8x1024 .f32) (harg7 : arg7.IsWhole)
    (x0 : Vec F S512x1024 .bf16) (x1 : Vec F S8448x1024 .bf16) (x2 : Vec F S8x1024 .f32) (x3 : Vec F S1024x1024 .bf16) (L : Vec F S8x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare L
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1) ∗ owns (c : Thread nD τ) arg6 fullShare (out5 i x0 x1 x2 x3 L) ∗ owns (c : Thread nD τ) arg7 fullShare (left x0 x1)) -∗ K ⟨⟩))
      ⊢ wp frame (wpE (defs₀ (F := F)) Variants.none c none) E (cc0_fwd_in_conv i arg1 harg1 arg2 harg2 arg3 harg3 arg4 harg4 arg5 harg5 arg6 harg6 arg7 harg7) K := by
  simp only [cc0_fwd_in_conv_eq_skeleton]; unfold cc0_fwd_in_conv_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  subst hf0 hf1 hf2 hf3 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover4 _ _ _ _)).trans ?_
    rfl
  isplitl [H5]
  · iexists _; isplitr
    swap; · iexact H5
    ipureintro
    refine (View.read_writes_eq_canon _ _ _ (cover5 _)).trans ?_
    rfl
  iexists _; isplitr
  swap; · iexact H6
  ipureintro
  refine (View.read_writes_eq_canon _ _ _ (cover7 _)).trans ?_
  rfl

/-! ## The rows carried, and the proof data -/

variable (m : (ℓ : Loc nD τ sig) → Buf (Elt F) ℓ) (ρ : Dev nD → PrngReg)

abbrev scL : Memref sig .tc .vmem S8x1024 .f32 := Memref.whole cc0_scratch0

/-- The rows found before point `n`: what the point before left; before the first point anything, taken as zero. -/
def carry (c : Dev nD) : ℕ → Vec F S8x1024 .f32
  | 0 => constant S8x1024 .f32 0x00000000#32
  | n + 1 => if h : n < cfg0.N then left (iblk m c 0 ⟨n, h⟩) (iblk m c 1 ⟨n, h⟩) else constant S8x1024 .f32 0x00000000#32

def inv (c : Dev nD) (s : Fin (cfg0.N + 1)) : sProp 𝕄 :=
  if s.val = 0 then iprop((∃ d, owns (c : Thread nD τ) scL fullShare d) ∗ ∃ r, prngReg c r)
  else iprop(owns (c : Thread nD τ) scL fullShare (carry m c s.val) ∗ ∃ r, prngReg c r)

theorem inv_zero (c : Dev nD) (s : Fin (cfg0.N + 1)) (h : s.val = 0) :
    inv m c s = iprop((∃ d, owns (c : Thread nD τ) scL fullShare d) ∗ ∃ r, prngReg c r) := by unfold inv; rw [if_pos h]
theorem inv_pos (c : Dev nD) (s : Fin (cfg0.N + 1)) (h : s.val ≠ 0) :
    inv m c s = iprop(owns (c : Thread nD τ) scL fullShare (carry m c s.val) ∗ ∃ r, prngReg c r) := by unfold inv; rw [if_neg h]
theorem carry_succ (c : Dev nD) (t : Fin cfg0.N) : carry m c t.succ.val = left (iblk m c 0 t) (iblk m c 1 t) := by
  rw [Fin.val_succ]; exact dif_pos t.isLt
theorem enter (c : Dev nD) : (Pipeline.ΦA spec0 c : sProp 𝕄) ⊢ inv m c 0 := by
  rw [inv_zero m c 0 rfl]; unfold Pipeline.ΦA; rw [scopedRest0_eq]; simp only [scL, owns_whole]
  iintro H; iexact H
theorem leave (c : Dev nD) : inv m c (Fin.last cfg0.N) ⊢ (Pipeline.ΦA spec0 c : sProp 𝕄) := by
  rw [inv_pos m c _ (fun h => absurd ((Fin.val_last cfg0.N).symm.trans h) (by rw [N16]; decide))]
  unfold Pipeline.ΦA; rw [scopedRest0_eq]; simp only [scL, owns_whole]
  iintro ⟨H, Hr⟩
  isplitl [H]; · iexists _; iexact H
  iexact Hr

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t)
    | ⟨5, _⟩ => out5 (grid0.coords t) (iblk m c 0 t) (iblk m c 1 t) (iblk m c 2 t) (iblk m c 3 t) (carry m c t.val)
  Φ s := inv m c s
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 (iblk m c 0 t) (iblk m c 1 t) := by dsimp only [dats]
theorem after0_5 (c : Dev nD) (t : Fin cfg0.N) : (dats m 0 c).after 5 t = out5 (grid0.coords t) (iblk m c 0 t) (iblk m c 1 t) (iblk m c 2 t) (iblk m c 3 t) (carry m c t.val) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = inv m c t.succ from rfl, show (dats m 0 c).Φ t.castSucc = inv m c t.castSucc from rfl,
    show (dats m 0 c).owesAt () t.succ = (dats m 0 c).owesAt () t.castSucc from rfl,
    after0_0, after0_1, after0_2, after0_3, after0_4, after0_5, inv_pos m c t.succ (Nat.succ_ne_zero _), carry_succ m c t]
  by_cases h : t.val = 0
  · rw [inv_zero m c t.castSucc h]
    iintro ⟨⟨⟨%L, HL⟩, Hr⟩, Ho, ⟨%d0, H0⟩, ⟨%d1, H1⟩, ⟨%d2, H2⟩, ⟨%d3, H3⟩, ⟨%d4, H4⟩, ⟨%d5, H5⟩⟩
    rw [out5_first t (by rw [h]) _ _ _ _ (carry m c t.val) L]
    iapply (sound_kernel c Set.univ (grid0.coords t) _ _ _ _ _ _ _ _ _ _ _ _ _ _ (iblk m c 0 t) (iblk m c 1 t) (iblk m c 2 t) (iblk m c 3 t) L _)
    isplitl [H0]; · iexact H0
    isplitl [H1]; · iexact H1
    isplitl [H2]; · iexact H2
    isplitl [H3]; · iexact H3
    isplitl [H4]; · iexists _; iexact H4
    isplitl [H5]; · iexists _; iexact H5
    isplitl [HL]; · iexact HL
    iintro ⟨H0, H1, H2, H3, H4, H5, HL⟩
    isplitl [HL Hr]
    · isplitl [HL]; · iexact HL
      iexact Hr
    isplitl [Ho]; · iexact Ho
    isplitl [H0]; · iexact H0
    isplitl [H1]; · iexact H1
    isplitl [H2]; · iexact H2
    isplitl [H3]; · iexact H3
    isplitl [H4]; · iexact H4
    iexact H5
  · rw [inv_pos m c t.castSucc h]
    iintro ⟨⟨HL, Hr⟩, Ho, ⟨%d0, H0⟩, ⟨%d1, H1⟩, ⟨%d2, H2⟩, ⟨%d3, H3⟩, ⟨%d4, H4⟩, ⟨%d5, H5⟩⟩
    iapply (sound_kernel c Set.univ (grid0.coords t) _ _ _ _ _ _ _ _ _ _ _ _ _ _ (iblk m c 0 t) (iblk m c 1 t) (iblk m c 2 t) (iblk m c 3 t) (carry m c t.val) _)
    isplitl [H0]; · iexact H0
    isplitl [H1]; · iexact H1
    isplitl [H2]; · iexact H2
    isplitl [H3]; · iexact H3
    isplitl [H4]; · iexists _; iexact H4
    isplitl [H5]; · iexists _; iexact H5
    isplitl [HL]; · iexact HL
    iintro ⟨H0, H1, H2, H3, H4, H5, HL⟩
    isplitl [HL Hr]
    · isplitl [HL]; · iexact HL
      iexact Hr
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => enter m c) (hout := fun c => leave m c)

theorem run_main : θ_run defs (onTc (τ := τ) (main (F := F))) (s₀ m ρ) (Pipeline.FramePost cfgs (dats m) 0 (V m)) :=
  (θ_run defs _ _).mono (fun _ h => h.1) (run_main_quiescent m ρ)

/-- Every argument array ends as it was, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel4Ideal.Hand

end
-- ==== Proof.ConvTile.lean ====
/- The convolution branch on one tile of tokens. -/
module

public import proofs.«01_k».proof.Proof.ConvSpec
public import proofs.«01_k».proof.Proof.ConvFrame
public import proofs.«01_k».proof.Proof.Writes

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem
open Cert.Proof

/-- A choice made at one row. -/
theorem select_row {n j : ℕ} (x y : EReal) (hn : n < 2 ^ 32) (hj : j < 2 ^ 32) :
    Scalar.select (IntOp.cmpi .eq (BitVec.ofNat 32 n) (BitVec.ofNat 32 j)) x y = if n = j then x else y := by
  rw [WordCmp.cmpi_eq_ofNat hn hj]
  by_cases h : n = j <;> simp [Scalar.select, h]

section tile
variable (a : ConvArr) (T : ℕ) (hT : ∀ r : Fin 512, T + r.val < 8192) (w : BitVec 32)
variable (vh : Vec Ideal S512x1024 .bf16) (w0 w1 w2 w3 p : Vec Ideal S1024x1024 .bf16) (k0 k1 k2 l6 l7 : Vec Ideal S1x1024 .f32)

/-- What the body reads is a tile of the arrays, from token `T` on; the two carried rows are the tokens before it, unless
the tile is the first of its sequence. -/
structure Fits : Prop where
  start : T % 512 = 0
  first : Scalar.cmpi .eq w 0#32 = 1 ↔ T % 2048 = 0
  h : ∀ r q, vh (ix2 r q) = a.h (ix2 ⟨T + r.val, hT r⟩ q)
  w0 : ∀ (d : Fin 1024) q, w0 (ix2 d q) = a.w (ix2 ⟨0 + d.val, by omega⟩ q)
  w1 : ∀ (d : Fin 1024) q, w1 (ix2 d q) = a.w (ix2 ⟨1024 + d.val, by omega⟩ q)
  w2 : ∀ (d : Fin 1024) q, w2 (ix2 d q) = a.w (ix2 ⟨2048 + d.val, by omega⟩ q)
  w3 : ∀ (d : Fin 1024) q, w3 (ix2 d q) = a.w (ix2 ⟨3072 + d.val, by omega⟩ q)
  k0 : ∀ d, k0 (ix2 (0 : Fin 1) d) = a.k (ix2 0 d)
  k1 : ∀ d, k1 (ix2 (0 : Fin 1) d) = a.k (ix2 1 d)
  k2 : ∀ d, k2 (ix2 (0 : Fin 1) d) = a.k (ix2 2 d)
  p : ∀ d e, p (ix2 d e) = a.p (ix2 d e)
  l6 : T % 2048 ≠ 0 → ∀ d, l6 (ix2 (0 : Fin 1) d) = a.arr.u (T - 2) d
  l7 : T % 2048 ≠ 0 → ∀ d, l7 (ix2 (0 : Fin 1) d) = a.arr.u (T - 1) d

variable (f : Fits a T hT w vh w0 w1 w2 w3 p k0 k1 k2 l6 l7) (r : Fin 512) (d : Fin 1024)
include f

/-! ### The four column blocks -/

theorem p7_at : k0_pay7 vh w0 (ix2 r d) = a.proj ⟨T + r.val, hT r⟩ (0 + d.val) := by
  rw [a.proj_of _ _ (by omega)]
  pointwise [k0_pay7, k0_pay3]
  simp only [f.h, f.w0, Nat.zero_add]
theorem p8_at : k0_pay8 vh w1 (ix2 r d) = a.proj ⟨T + r.val, hT r⟩ (1024 + d.val) := by
  rw [a.proj_of _ _ (by omega)]
  pointwise [k0_pay8, k0_pay4]
  simp only [f.h, f.w1]
theorem p9_at : k0_pay9 vh w2 (ix2 r d) = a.proj ⟨T + r.val, hT r⟩ (2048 + d.val) := by
  rw [a.proj_of _ _ (by omega)]
  pointwise [k0_pay9, k0_pay5]
  simp only [f.h, f.w2]
theorem p10_at : k0_pay10 vh w3 (ix2 r d) = a.proj ⟨T + r.val, hT r⟩ (3072 + d.val) := by
  rw [a.proj_of _ _ (by omega)]
  pointwise [k0_pay10, k0_pay6]
  simp only [f.h, f.w3]
theorem x_at : k0_pay3 vh w0 (ix2 r d) = a.arr.x (T + r.val) d :=
  (p7_at a T hT w vh w0 w1 w2 w3 p k0 k1 k2 l6 l7 f r d).trans (a.x_eq ⟨T + r.val, hT r⟩ d).symm
theorem B_at : k0_pay4 vh w1 (ix2 r d) = a.arr.B (T + r.val) d :=
  (p8_at a T hT w vh w0 w1 w2 w3 p k0 k1 k2 l6 l7 f r d).trans (a.B_eq ⟨T + r.val, hT r⟩ d).symm
theorem C_at : k0_pay5 vh w2 (ix2 r d) = a.arr.C (T + r.val) d :=
  (p9_at a T hT w vh w0 w1 w2 w3 p k0 k1 k2 l6 l7 f r d).trans (a.C_eq ⟨T + r.val, hT r⟩ d).symm
theorem z_at : k0_pay6 vh w3 (ix2 r d) = a.arr.z (T + r.val) d :=
  (p10_at a T hT w vh w0 w1 w2 w3 p k0 k1 k2 l6 l7 f r d).trans (a.z_eq ⟨T + r.val, hT r⟩ d).symm
theorem u_at : k0_pay11 (k0_pay3 vh w0) (k0_pay5 vh w2) (ix2 r d) = a.arr.u (T + r.val) d := by
  unfold Arr.u
  rw [← x_at a T hT w vh w0 w1 w2 w3 p k0 k1 k2 l6 l7 f r d, ← C_at a T hT w vh w0 w1 w2 w3 p k0 k1 k2 l6 l7 f r d]
  rfl

/-! ### The convolution -/

theorem kept (v : Vec Ideal S1x1024 .f32) (y : EReal) (h : T % 2048 ≠ 0 → v (ix2 (0 : Fin 1) d) = y) :
    Scalar.select (Scalar.cmpi .eq w 0#32) (broadcast S1x1024 (Scalar.ofBits (F := Ideal) .f32 0x00000000#32)) v (ix2 (0 : Fin 1) d)
      = if T % 2048 = 0 then (0 : EReal) else y := by
  by_cases h0 : T % 2048 = 0
  · rw [if_pos h0, Scalar.select, if_pos (f.first.mpr h0)]
    pointwise
  · rw [if_neg h0, Scalar.select, if_neg (fun hh => h0 (f.first.mp hh)), h h0]

theorem yc_at : k0_pay12 (k0_pay3 vh w0) (k0_pay5 vh w2) w l6 l7 k0 k1 k2 (ix2 r d) = a.arr.yc (T + r.val) d := by
  have hs := f.start
  have e6 := kept a T hT w vh w0 w1 w2 w3 p k0 k1 k2 l6 l7 f d l6 _ (fun h => f.l6 h d)
  have e7 := kept a T hT w vh w0 w1 w2 w3 p k0 k1 k2 l6 l7 f d l7 _ (fun h => f.l7 h d)
  have eu := fun r => u_at a T hT w vh w0 w1 w2 w3 p k0 k1 k2 l6 l7 f r d
  unfold k0_pay12
  generalize k0_pay11 (k0_pay3 vh w0) (k0_pay5 vh w2) = u at eu ⊢
  dsimp only
  generalize Scalar.select (Scalar.cmpi .eq w 0#32) (broadcast S1x1024 (Scalar.ofBits (F := Ideal) .f32 0x00000000#32)) l6 = s6 at e6 ⊢
  generalize Scalar.select (Scalar.cmpi .eq w 0#32) (broadcast S1x1024 (Scalar.ofBits (F := Ideal) .f32 0x00000000#32)) l7 = s7 at e7 ⊢
  pointwise
  rw [select_row _ _ (by omega) (by omega), select_row _ _ (by omega) (by omega), select_row _ _ (by omega) (by omega), f.k0, f.k1, f.k2, e6, e7, eu, eu, eu]
  have m2 : (if r.val = 0 then if T % 2048 = 0 then 0 else a.arr.u (T - 2) d
      else if r.val = 1 then if T % 2048 = 0 then 0 else a.arr.u (T - 1) d else a.arr.u (T + (r.val + 512 - 2) % 512) d) = a.arr.m2 (T + r.val) d := by
    rw [Arr.m2]
    by_cases h : r.val = 0
    · rw [if_pos h, show T + r.val = T by omega]
      by_cases h0 : T % 2048 = 0
      · rw [if_pos h0, if_pos (by omega)]
      · rw [if_neg h0, if_neg (by omega)]
    · rw [if_neg h]
      by_cases h' : r.val = 1
      · rw [if_pos h']
        by_cases h0 : T % 2048 = 0
        · rw [if_pos h0, if_pos (by omega)]
        · rw [if_neg h0, if_neg (by omega), show T + r.val - 2 = T - 1 by omega]
      · rw [if_neg h', if_neg (by omega), show T + r.val - 2 = T + (r.val + 512 - 2) % 512 by omega]
  have m1 : (if r.val = 0 then if T % 2048 = 0 then 0 else a.arr.u (T - 1) d else a.arr.u (T + (r.val + 512 - 1) % 512) d) = a.arr.m1 (T + r.val) d := by
    rw [Arr.m1]
    by_cases h : r.val = 0
    · rw [if_pos h, show T + r.val = T by omega]
    · rw [if_neg h, if_neg (by omega), show T + r.val - 1 = T + (r.val + 512 - 1) % 512 by omega]
  unfold Arr.yc Arr.pre
  rw [← m2, ← m1]
  rfl

theorem ya_at (e : Fin 1024) : k0_pay2 (k0_pay4 vh w1) (k0_pay6 vh w3) (k0_pay12 (k0_pay3 vh w0) (k0_pay5 vh w2) w l6 l7 k0 k1 k2) k0_pay13 p (ix2 r e)
    = a.ya ⟨T + r.val, hT r⟩ e := by
  unfold ConvArr.ya
  have eB := fun d => B_at a T hT w vh w0 w1 w2 w3 p k0 k1 k2 l6 l7 f r d
  have ez := fun d => z_at a T hT w vh w0 w1 w2 w3 p k0 k1 k2 l6 l7 f r d
  have ey := fun d => yc_at a T hT w vh w0 w1 w2 w3 p k0 k1 k2 l6 l7 f r d
  generalize k0_pay4 vh w1 = vB at eB ⊢
  generalize k0_pay6 vh w3 = vz at ez ⊢
  generalize k0_pay12 (k0_pay3 vh w0) (k0_pay5 vh w2) w l6 l7 k0 k1 k2 = vy at ey ⊢
  pointwise [k0_pay2, k0_pay13]
  simp only [eB, ez, ey, f.p]
  rfl

theorem left_at (r : Fin 8) : k0_pay1 (k0_pay11 (k0_pay3 vh w0) (k0_pay5 vh w2)) (ix2 r d) = a.arr.u (T + (504 + r.val)) d := by
  have eu := fun r => u_at a T hT w vh w0 w1 w2 w3 p k0 k1 k2 l6 l7 f r d
  generalize k0_pay11 (k0_pay3 vh w0) (k0_pay5 vh w2) = u at eu ⊢
  pointwise [k0_pay1]
  rw [eu]

end tile

end Cert.Kernel4Ideal.Hand

end
-- ==== Proof.Cols.lean ====
module

public import proofs.«01_k».proof.Proof.Writes

@[expose] public section

noncomputable section

namespace Cert.Proof

open Idealize.ShloMosaic

/-- Columns stored to the right of what is known of a block. -/
theorem put_col {n0 n1 l p : ℕ} (x : (⟨2, ![n0, n1]⟩ : Shape).Idx → EReal) (w : (⟨2, ![n0, l]⟩ : Shape).Idx → EReal) (f : Fin n0 → ℕ → EReal) (r : Fin n0) (d : Fin n1)
    (hw : ∀ (r : Fin n0) (e : Fin l), w (ix2 r e) = f r (p + e.val)) (hd : d.val < p + l) (hx : d.val < p → x (ix2 r d) = f r d.val) :
    VecWindow.put (s := ⟨2, ![n0, n1]⟩) x ![0, p] ![n0, l] w (ix2 r d) = f r d.val := by
  have hr := r.isLt
  by_cases h : d.val < p
  · rw [VecWindow.put, dif_neg fun hh => by
      have h3 : p ≤ d.val := (hh 1).1
      omega]
    exact hx h
  · have e0 : VecWindow.put (s := ⟨2, ![n0, n1]⟩) x ![0, p] ![n0, l] w (ix2 r d) = w (ix2 r ⟨d.val - p, by omega⟩) := by
      rw [VecWindow.put, dif_pos (show ∀ a : Fin 2, (![0, p] : Fin 2 → ℕ) a ≤ ((ix2 r d : (⟨2, ![n0, n1]⟩ : Shape).Idx) a).val
          ∧ ((ix2 r d : (⟨2, ![n0, n1]⟩ : Shape).Idx) a).val < (![0, p] : Fin 2 → ℕ) a + (![n0, l] : Fin 2 → ℕ) a from fun a => by
          fin_cases a
          · exact ⟨Nat.zero_le _, by show r.val < 0 + n0; omega⟩
          · exact ⟨by show p ≤ d.val; omega, by show d.val < p + l; omega⟩)]
      congr 1
      funext a
      fin_cases a
      · exact Fin.ext (by show r.val - 0 = r.val; omega)
      · rfl
    rw [e0, hw]
    exact congrArg (f r) (by show p + (d.val - p) = d.val; omega)

end Cert.Proof

end
-- ==== Proof.Conv.lean ====
/- The convolution branch over all the tiles. -/
module

public import proofs.«01_k».proof.Proof.ConvTile
public import proofs.«01_k».proof.Proof.Cols

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem
open Idealize.ShloMosaic.Pipeline (Dat)
open Cert.Proof

/-- Which block each window takes at a point. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ t.val < 16 :=
  (by decide +kernel : ∀ t : Fin grid0.N, _)

variable (m : (ℓ : Loc nD τ sig) → Buf (Elt Ideal) ℓ) (c : Dev nD)

/-- The arrays the kernel is called with. -/
def arr : ConvArr := ⟨m ((c : Thread nD τ).loc main_arg0), m ((c : Thread nD τ).loc main_arg1), m ((c : Thread nD τ).loc main_arg2),
  m ((c : Thread nD τ).loc main_arg3)⟩

variable (t : Fin cfg0.N)

theorem tok_lt (r : Fin 512) : t.val * 512 + r.val < 8192 := by have := lt_of_lt_of_eq t.isLt N16; omega

/-- Row `r` of a point's tile, among all the tokens. -/
def tokAt (r : Fin 512) : Fin 8192 := ⟨t.val * 512 + r.val, tok_lt t r⟩

/-- The taps, in the rows the kernel reads. -/
theorem taps (k : Fin 3) (d : Fin 1024) : (V m c main_v0 : Vec Ideal S8x1024 .f32) (ix2 ⟨k.val, by omega⟩ d) = (arr m c).k (ix2 k d) := by
  have e' : (V m c main_v0 : Vec Ideal S8x1024 .f32)
      = pad (α := EReal) (s := S3x1024) S8x1024 ![0, 0] ![5, 0] ![0, 0] (m ((c : Thread nD τ).loc main_arg2) : FVec Ideal S3x1024 .f32) (sitofp (F := Ideal) .f32 (constantI S_ 32 0#32)) pads_S3x1024_S8x1024_050_000 h_S_ := by
    unfold V
    simp only [hostOps0, hostOps0_1, List.flatten_cons, List.flatten_nil, List.append_nil, List.cons_append, List.nil_append]
    after_results
    try rfl
  rw [e']
  unfold arr
  pointwise

/-- Every point's blocks are its tokens of the arrays, whatever rows are carried to it that are the tokens before. -/
theorem fits_of (l6 l7 : Vec Ideal S1x1024 .f32) (h6 : t.val * 512 % 2048 ≠ 0 → ∀ d, l6 (ix2 (0 : Fin 1) d) = (arr m c).arr.u (t.val * 512 - 2) d)
    (h7 : t.val * 512 % 2048 ≠ 0 → ∀ d, l7 (ix2 (0 : Fin 1) d) = (arr m c).arr.u (t.val * 512 - 1) d) :
    Fits (arr m c) (t.val * 512) (tok_lt t) (word (grid0.coords t)) (View.ld (iblk m c 0 t) rH) (View.ld (iblk m c 1 t) rW0) (View.ld (iblk m c 1 t) rW1)
      (View.ld (iblk m c 1 t) rW2) (View.ld (iblk m c 1 t) rW3) (View.ld (iblk m c 3 t) rP) (View.ld (iblk m c 2 t) rK0) (View.ld (iblk m c 2 t) rK1)
      (View.ld (iblk m c 2 t) rK2) l6 l7 where
  start := by omega
  first := (word_iff t).trans (by omega)
  h r q := by unfold arr; pointwise; blk_ext [iblk, V, idx t]
  w0 d q := by unfold arr; pointwise; blk_ext [iblk, V, idx t]
  w1 d q := by unfold arr; pointwise; blk_ext [iblk, V, idx t]
  w2 d q := by unfold arr; pointwise; blk_ext [iblk, V, idx t]
  w3 d q := by unfold arr; pointwise; blk_ext [iblk, V, idx t]
  k0 d := by
    rw [← taps m c 0 d]
    pointwise; blk_ext [iblk, idx t]
  k1 d := by
    rw [← taps m c 1 d]
    pointwise; blk_ext [iblk, idx t]
  k2 d := by
    rw [← taps m c 2 d]
    pointwise; blk_ext [iblk, idx t]
  p d e := by unfold arr; pointwise; blk_ext [iblk, V, idx t]
  l6 := h6
  l7 := h7

/-- The rows a point finds, when it is not the first of its sequence: the last of the tokens before it. -/
theorem found (h : t.val % 4 ≠ 0) (r : Fin 8) (d : Fin 1024) : carry m c t.val (ix2 r d) = (arr m c).arr.u (t.val * 512 - 8 + r.val) d := by
  have ht := t.isLt
  let s : Fin cfg0.N := ⟨t.val - 1, by omega⟩
  have hs : t.val = s.succ.val := by
    show t.val = t.val - 1 + 1
    omega
  have e : carry m c t.val = left (iblk m c 0 s) (iblk m c 1 s) := (congrArg (carry m c) hs).trans (carry_succ m c s)
  rw [e]
  unfold left xc cg
  rw [canon_window]
  refine (put_rows_in _ _ r d r (Nat.zero_add _).symm).trans ?_
  refine (left_at _ _ _ _ _ _ _ _ _ _ _ _ _ _ _ (fits_of m c s (fun i => (arr m c).arr.u (s.val * 512 - 2) (i 1)) (fun i => (arr m c).arr.u (s.val * 512 - 1) (i 1))
    (fun _ _ => rfl) (fun _ _ => rfl)) d r).trans (congrArg (fun T => (arr m c).arr.u T d) ?_)
  show (t.val - 1) * 512 + (504 + r.val) = _
  omega
theorem fits : Fits (arr m c) (t.val * 512) (tok_lt t) (word (grid0.coords t)) (View.ld (iblk m c 0 t) rH) (View.ld (iblk m c 1 t) rW0) (View.ld (iblk m c 1 t) rW1)
      (View.ld (iblk m c 1 t) rW2) (View.ld (iblk m c 1 t) rW3) (View.ld (iblk m c 3 t) rP) (View.ld (iblk m c 2 t) rK0) (View.ld (iblk m c 2 t) rK1)
      (View.ld (iblk m c 2 t) rK2) (View.ld (carry m c t.val) rS6) (View.ld (carry m c t.val) rS7) := by
  refine fits_of m c t _ _ (fun h d => ?_) (fun h d => ?_)
  · have e : ∀ v : Vec Ideal S8x1024 .f32, View.ld v rS6 (ix2 (0 : Fin 1) d) = v (ix2 6 d) := fun v => by pointwise
    exact (e _).trans ((found m c t (by omega) 6 d).trans (congrArg (fun T => (arr m c).arr.u T d) (show t.val * 512 - 8 + 6 = t.val * 512 - 2 by omega)))
  · have e : ∀ v : Vec Ideal S8x1024 .f32, View.ld v rS7 (ix2 (0 : Fin 1) d) = v (ix2 7 d) := fun v => by pointwise
    exact (e _).trans ((found m c t (by omega) 7 d).trans (congrArg (fun T => (arr m c).arr.u T d) (show t.val * 512 - 8 + 7 = t.val * 512 - 1 by omega)))

/-! ### The two results, tile after tile -/

/-- The saved projection. -/
theorem out_a4 : (dats m 0 c).arrAt 4 cfg0.N = fun i => (arr m c).projAt (i 0) (i 1) := by
  refine (dats m 0 c).arrAt_eq_of_covers 4 _ (by decide +kernel) fun t hf y => ?_
  have hN : t.val < 16 := lt_of_lt_of_eq t.isLt N16
  blk_simp
  rw [after0_4]
  have hy : y = ix2 (y 0) (y 1) := eq_ix2 y
  have key : ∀ v : S512x4096.Idx → EReal, (∀ r (d : Fin 4096), v (ix2 r d) = (arr m c).projAt (tokAt t r) d) →
      v y = (arr m c).projAt (((View.whole main_v1_0).slice (win0_4.rect t)).emb y 0) (((View.whole main_v1_0).slice (win0_4.rect t)).emb y 1) := by
    intro v hv
    refine (congrArg v hy).trans ((hv (y 0) (y 1)).trans (congrArg₂ (arr m c).projAt (Fin.ext ?_) (Fin.ext ?_)))
    · show t.val * 512 + (y 0).val = _; blk_simp [idx t]
    · show (y 1).val = _; blk_simp [idx t]
  unfold out4
  rw [canon_window, canon_window, canon_window, canon_window]
  refine key _ fun r d => ?_
  have hd := d.isLt
  have z : ∀ (P : Prop), d.val < 0 → P := fun _ h => absurd h (Nat.not_lt_zero _)
  exact put_col _ _ (fun r e => (arr m c).proj (tokAt t r) e) r d (fun r e => p10_at _ _ _ _ _ _ _ _ _ _ _ _ _ _ _ (fits m c t) r e) (by omega) (fun h =>
    put_col _ _ (fun r e => (arr m c).proj (tokAt t r) e) r d (fun r e => p9_at _ _ _ _ _ _ _ _ _ _ _ _ _ _ _ (fits m c t) r e) (by omega) (fun h =>
    put_col _ _ (fun r e => (arr m c).proj (tokAt t r) e) r d (fun r e => p8_at _ _ _ _ _ _ _ _ _ _ _ _ _ _ _ (fits m c t) r e) (by omega) (fun h =>
    put_col _ _ (fun r e => (arr m c).proj (tokAt t r) e) r d (fun r e => p7_at _ _ _ _ _ _ _ _ _ _ _ _ _ _ _ (fits m c t) r e) (by omega) (fun h => z _ h))))
/-- What the branch leaves. -/
theorem out_ya : (dats m 0 c).arrAt 5 cfg0.N = fun i => (arr m c).ya (i 0) (i 1) := by
  refine (dats m 0 c).arrAt_eq_of_covers 5 _ (by decide +kernel) fun t hf y => ?_
  have hN : t.val < 16 := lt_of_lt_of_eq t.isLt N16
  blk_simp
  rw [after0_5]
  have hy : y = ix2 (y 0) (y 1) := eq_ix2 y
  have key : ∀ v : S512x1024.Idx → EReal, (∀ r (d : Fin 1024), v (ix2 r d) = (arr m c).ya (tokAt t r) d) →
      v y = (arr m c).ya (((View.whole main_v1_1).slice (win0_5.rect t)).emb y 0) (((View.whole main_v1_1).slice (win0_5.rect t)).emb y 1) := by
    intro v hv
    refine (congrArg v hy).trans ((hv (y 0) (y 1)).trans (congrArg₂ (arr m c).ya (Fin.ext ?_) (Fin.ext ?_)))
    · show t.val * 512 + (y 0).val = _; blk_simp [idx t]
    · show (y 1).val = _; blk_simp [idx t]
  unfold out5 conv xc bg cg zc
  rw [canon_window]
  refine key _ fun r d => ?_
  refine (put_rows_in _ _ r d r (Nat.zero_add _).symm).trans ?_
  exact ya_at _ _ _ _ _ _ _ _ _ _ _ _ _ _ _ (fits m c t) r d

end Cert.Kernel4Ideal.Hand

end
-- ==== Proof.ConvRef.lean ====
/- What the reference's convolution branch computes. -/
module

public import proofs.«01_k».proof.Proof.ConvSpec
public import proofs.«01_k».proof.Proof.Gen.Reference4Ideal.Read

@[expose] public section

set_option maxRecDepth 16384

noncomputable section

namespace Cert.Proof.ConvArr

open Cert.Reference4Ideal Cert.Reference4Ideal.Gen Cert.Reference4Ideal.Read
open Idealize.ShloMosaic Idealize.ShloMosaic.TcCoe Idealize.SL.Sem

variable (a : ConvArr) (b : Fin 4) (t : Fin 2048) (d : Fin 1024) (T : Fin 8192)

/-! ### What the reference computes, one operation after another -/

theorem r_1 : val_main_v1 (F := Ideal) a.h (ix3 b t d) = a.h (ix2 (place b t) d) := by
  unfold place
  pointwise [val_main_v1, val_main_v0]
theorem r_5 (e : Fin 4096) : val_main_v5 (F := Ideal) a.h a.w (ix3 b t e) = a.proj (place b t) e.val := by
  have he := e.isLt
  rw [proj_of _ _ _ (by omega)]
  pointwise [val_main_v5, val_main_v4, val_main_v3, val_main_v2]
  simp only [r_1 a b t]
theorem r_7 : val_main_v7 (F := Ideal) a.h a.w (ix3 b t d) = a.arr.x (place b t).val d := by
  rw [x_eq, Nat.zero_add]
  pointwise [val_main_v7]
  exact r_5 a b t _
theorem r_8 : val_main_v8 (F := Ideal) a.h a.w (ix3 b t d) = a.arr.B (place b t).val d := by
  rw [B_eq]
  pointwise [val_main_v8]
  exact r_5 a b t _
theorem r_9 : val_main_v9 (F := Ideal) a.h a.w (ix3 b t d) = a.arr.C (place b t).val d := by
  rw [C_eq]
  pointwise [val_main_v9]
  exact r_5 a b t _
theorem r_10 : val_main_v10 (F := Ideal) a.h a.w (ix3 b t d) = a.arr.z (place b t).val d := by
  rw [z_eq]
  pointwise [val_main_v10]
  exact r_5 a b t _
theorem r_11 : val_main_v11 (F := Ideal) a.h a.w (ix3 b t d) = a.arr.sz (place b t).val d := by
  unfold Arr.sz Arr.sg
  pointwise [val_main_v11, val_main_call0_v5, val_main_call0_v4, val_main_call0_cst_0, val_main_call0_v3, val_main_call0_v2, val_main_call0_cst,
    val_main_call0_v1, val_main_call0_v0]
  rw [r_10, zero_sub]
theorem r_12 : val_main_v12 (F := Ideal) a.h a.w (ix3 b t d) = a.arr.u (place b t).val d := by
  unfold Arr.u
  pointwise [val_main_v12]
  rw [r_9, r_7]
theorem r_30 : val_main_v30 (F := Ideal) a.h a.w (ix3 b t d) = a.arr.u (place b t).val d := by
  pointwise [val_main_v30, val_main_v14, val_main_v13, val_main_cst]
  rw [r_12]
theorem r_23 : val_main_v23 (F := Ideal) a.h a.w (ix3 b t d) = a.arr.m1 (place b t).val d := by
  unfold Arr.m1
  rw [place_mod]
  pointwise [val_main_v23, val_main_v14, val_main_v13, val_main_cst]
  split
  · rw [if_pos (show t.val = 0 by omega)]
  · rw [if_neg (show ¬ t.val = 0 by omega)]
    refine (r_12 a b _ d).trans (congrArg (fun T => a.arr.u T d) ?_)
    unfold place; dsimp only; omega
theorem r_17 : val_main_v17 (F := Ideal) a.h a.w (ix3 b t d) = a.arr.m2 (place b t).val d := by
  unfold Arr.m2
  rw [place_mod]
  pointwise [val_main_v17, val_main_v14, val_main_v13, val_main_cst]
  split
  · rfl
  · refine (r_12 a b _ d).trans (congrArg (fun T => a.arr.u T d) ?_)
    unfold place; dsimp only; omega
theorem r_34 : val_main_v34 (F := Ideal) a.h a.w a.k (ix3 b t d) = a.arr.yc (place b t).val d := by
  unfold Arr.yc Arr.pre
  pointwise [val_main_v34, val_main_v33, val_main_v32, val_main_v31, val_main_v29, val_main_v28, val_main_v27, val_main_v26, val_main_v25, val_main_v24,
    val_main_v22, val_main_v21, val_main_v20, val_main_v19, val_main_v18, val_main_v16, val_main_v15]
  rw [r_17, r_23, r_30]
  rfl
theorem r_36 : val_main_v36 (F := Ideal) a.h a.w a.k (ix3 b t d) = a.arr.ua (place b t).val d := by
  unfold Arr.ua Arr.co
  pointwise [val_main_v36, val_main_v35]
  rw [r_11, r_8, r_34]
theorem r_37 : val_main_v37 (F := Ideal) a.h a.w a.k a.p (ix3 b t d) = a.ya (place b t) d := by
  unfold ya
  pointwise [val_main_v37, val_main_v6]
  simp only [r_36 a b t]

/-! ### The two results -/

theorem place_of : place ⟨T.val / 2048, by omega⟩ ⟨T.val % 2048, by omega⟩ = T := by
  unfold place
  exact Fin.ext (by dsimp only; omega)
theorem r_39 (e : Fin 4096) : val_main_v39 (F := Ideal) a.h a.w (ix2 T e) = a.projAt T e := by
  unfold projAt
  pointwise [val_main_v39, val_main_v38]
  exact (r_5 a _ _ _).trans (congrArg (fun q => a.proj q _) (place_of T))
theorem r_40 (e : Fin 1024) : val_main_v40 (F := Ideal) a.h a.w a.k a.p (ix2 T e) = a.ya T e := by
  pointwise [val_main_v40]
  exact (r_37 a _ _ _).trans (congrArg (fun q => a.ya q _) (place_of T))

end Cert.Proof.ConvArr

end
-- ==== Proof.ConvValue.lean ====
/- The convolution branch of the forward pass: its frames, and that its two programs leave the same contents. -/
module

public import proofs.«01_k».proof.Defs
public import proofs.«01_k».proof.Proof.Gen.Kernel4
public import proofs.«01_k».proof.Proof.Gen.Reference4Ideal.Run
public import proofs.«01_k».proof.Proof.Conv
public import proofs.«01_k».proof.Proof.ConvRef
public import Idealize.ShloMosaic.Lib.Quiescent

@[expose] public section

noncomputable section

namespace Cert.Proof

open Idealize.ShloMosaic Idealize.ShloMosaic.TcCoe Idealize.SL.Sem

set_option maxHeartbeats 4000000 in
/-- The two programs have one text: their label tables are the same function. -/
theorem table_same4 {F : FTy → Type} [FloatOps F] : (Cert.Kernel4Ideal.defs₀ (F := F)) = Cert.Kernel4.defs₀ (F := F) := by
  unfold Cert.Kernel4Ideal.defs₀ Cert.Kernel4.defs₀
  refine congrArg Defs.onTc ?_
  funext l x
  match l, x with
  | ⟨0, _⟩, (t, s) => rfl
  | ⟨n + 1, h⟩, _ => exact absurd h (Nat.not_lt.2 (Nat.le_add_left _ _))
theorem defs_same4 {F : FTy → Type} [FloatOps F] : (Cert.Kernel4Ideal.defs (F := F)) = Cert.Kernel4.defs (F := F) :=
  congrArg (Pipeline.defs (Cert.Kernel4Ideal.pcfgs (F := F))) table_same4

theorem frame_kernel4 : Cert.quiescent_Kernel4 := fun m ρ _ => by
  rw [← defs_same4]
  exact (θ_run Cert.Kernel4Ideal.defs _ _).mono (fun _ h => h) (Cert.Kernel4Ideal.Hand.frame (F := Bits) m ρ)

theorem frame_ideal4 : Cert.quiescent_Kernel4Ideal := fun m ρ _ => Cert.Kernel4Ideal.Hand.frame (F := Ideal) m ρ

theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

set_option maxHeartbeats 4000000 in
open Cert.Kernel4Ideal.Hand in
theorem value4 : Cert.algebraic_Kernel4Ideal_Reference4Ideal := by
  intro m g m' g' _ hargs
  refine ⟨fun c => fun i : (⟨2, ![8192, 4096]⟩ : Shape).Idx => (arr m c).projAt (i 0) (i 1),
    fun c => fun i : (⟨2, ![8192, 1024]⟩ : Shape).Idx => (arr m c).ya (i 0) (i 1), ?_, ?_⟩
  · refine (θ_run Cert.Kernel4Ideal.defs _ _).mono (fun r h c => ?_) (θ_run_and (run_main m g) (frame m g))
    exact ⟨((h.1 c).1 4).trans (out_a4 m c), ((h.1 c).1 5).trans (out_ya m c), h.2.1 c⟩
  · refine (θ_run Cert.Reference4Ideal.defs _ _).mono (fun r h c => ?_) (Cert.Reference4Ideal.Value.run (F := Ideal) m' g')
    obtain ⟨a0, a1, a2, a3⟩ := hargs c
    obtain ⟨h0, h1, hrest⟩ := h c
    rw [Cert.Reference4Ideal.Read.val_main_v39_eq, a0, a1] at h0
    rw [Cert.Reference4Ideal.Read.val_main_v40_eq, a0, a1, a2, a3] at h1
    refine ⟨?_, ?_, hrest⟩
    · exact h0.trans (funext (at_ix2 fun T e => (arr m c).r_39 T e))
    · exact h1.trans (funext (at_ix2 fun T e => (arr m c).r_40 T e))

end Cert.Proof

end
-- ==== Proof.InTile.lean ====
module

public import proofs.«01_k».proof.Proof.InSpec
public import proofs.«01_k».proof.Proof.Gen.Kernel5Ideal.Value
public import Idealize.ShloMosaic.Lib.Pipeline.ValueKit
public import Idealize.ShloMosaic.Lib.Claim
public import proofs.«01_k».proof.Proof.Writes

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem
open Idealize.ShloMosaic.Pipeline (Dat)
open Cert.Proof

/-! ### One tile -/

/-- Which of its two neighbours a lane takes: the one 32 lanes on in the first half of a head, else the one 32 lanes back. -/
theorem lane_half : ∀ l : Fin 128, IntOp.cmpi .slt (IntOp.andi (BitVec.ofNat 32 l.val) 63#32) 32#32 = if l.val % 64 < 32 then 1#1 else 0#1 := by
  decide +kernel
/-- A rotated lane. -/
theorem rotated (a : InArr) (T : Fin 8192) (J j0 j1 j2 : ℕ) (l : Fin 128) (hJ : J % 64 = 0) (z z1 z2 c s : EReal) (h0 : z = a.col T j0) (h1 : z1 = a.col T j1)
    (h2 : z2 = a.col T j2) (hc : c = a.cs T l.val) (hs : s = if l.val % 64 < 32 then -a.sn T l.val else a.sn T l.val) (e0 : j0 = J + l.val)
    (e1 : j1 = J + (l.val + 128 - 96) % 128) (e2 : j2 = J + (l.val + 128 - 32) % 128) :
    z * c + Scalar.select (IntOp.cmpi .slt (IntOp.andi (BitVec.ofNat 32 l.val) 63#32) 32#32) z1 z2 * s = a.rot T (J + l.val) := by
  have hl := l.isLt
  have ec : a.cs T (J + l.val) = a.cs T l.val := by
    unfold InArr.cs
    exact congrArg (fun q => a.c (ix2 _ q)) (Fin.ext (by dsimp only; omega))
  have es : a.sn T (J + l.val) = a.sn T l.val := by
    unfold InArr.sn
    exact congrArg (fun q => a.s (ix2 _ q)) (Fin.ext (by dsimp only; omega))
  subst h0 h1 h2 hc hs e0 e1 e2
  rw [lane_half]
  unfold InArr.rot
  rw [ec, es]
  by_cases h : l.val % 64 < 32
  · rw [if_pos h, if_pos h, if_pos (by omega), Scalar.select, if_pos (show (1#1 : BitVec 1) = 1 from rfl), mul_neg, sub_eq_add_neg,
      show J + (l.val + 128 - 96) % 128 = J + l.val + 32 by omega]
  · rw [if_neg h, if_neg h, if_neg (by omega), Scalar.select, if_neg (by decide), show J + (l.val + 128 - 32) % 128 = J + l.val - 32 by omega]

section tile
variable (a : InArr) (tok : Fin 512 → Fin 8192)
variable (vx : Vec Ideal S512x1024 .f32) (g : Vec Ideal S1x1024 .f32) (ct st : Vec Ideal S512x128 .f32) (wq w1 w2 w3 : Vec Ideal S1024x1024 .bf16)
  (wk : Vec Ideal S256x1024 .bf16)

/-- What the body reads is a tile of the arrays. -/
structure Fits : Prop where
  x : ∀ r p, vx (ix2 r p) = a.x (ix2 (tok r) p)
  g : ∀ d, g (ix2 (0 : Fin 1) d) = a.g (ix2 (0 : Fin 1) d)
  c : ∀ r (l : Fin 128), ct (ix2 r l) = a.cs (tok r) l.val
  s : ∀ r (l : Fin 128), st (ix2 r l) = if l.val % 64 < 32 then -a.sn (tok r) l.val else a.sn (tok r) l.val
  wq : ∀ (d : Fin 1024) p, wq (ix2 d p) = a.w (ix2 ⟨4096 + d.val, by omega⟩ p)
  wk : ∀ (d : Fin 256) p, wk (ix2 d p) = a.w (ix2 ⟨5120 + d.val, by omega⟩ p)
  w1 : ∀ (d : Fin 1024) p, w1 (ix2 d p) = a.w (ix2 ⟨5376 + d.val, by omega⟩ p)
  w2 : ∀ (d : Fin 1024) p, w2 (ix2 d p) = a.w (ix2 ⟨6400 + d.val, by omega⟩ p)
  w3 : ∀ (d : Fin 1024) p, w3 (ix2 d p) = a.w (ix2 ⟨7424 + d.val, by omega⟩ p)

variable (h : Fits a tok vx g ct st wq w1 w2 w3 wk) (r : Fin 512) (d : Fin 1024) (l : Fin 128)
include h

theorem h_at : k0_pay6 vx g (ix2 r d) = a.h (tok r) d := by
  unfold InArr.h InArr.row invRms meanSq
  pointwise [k0_pay6]
  simp only [h.x, h.g]
/-- A projected column is the one of the stacked projections. -/
theorem col_at (z : EReal) (j : ℕ) (hj : j < 8448) (f : Fin 1024 → EReal) (hf : ∀ p, f p = a.w (ix2 (⟨j, hj⟩ : Fin 8448) p))
    (hz : z = ∑ p : Fin 1024, k0_pay6 vx g (ix2 r p) * f p) : z = a.col (tok r) j := by
  rw [hz]
  unfold InArr.col
  refine Finset.sum_congr rfl fun p _ => ?_
  rw [h_at a tok vx g ct st wq w1 w2 w3 wk h, hf]
  exact congrArg (fun q => _ * a.w (ix2 q p)) (Fin.ext (Nat.mod_eq_of_lt hj).symm)
theorem q_at : k0_pay8 vx g wq (ix2 r d) = a.col (tok r) (4096 + d.val) :=
  col_at a tok vx g ct st wq w1 w2 w3 wk h r _ _ (by omega) (fun p => wq (ix2 d p)) (fun p => h.wq d p) (by pointwise [k0_pay8])
theorem kv_at (e : Fin 256) : k0_pay20 (k0_pay6 vx g) wk (ix2 r e) = a.col (tok r) (5120 + e.val) :=
  col_at a tok vx g ct st wq w1 w2 w3 wk h r _ _ (by omega) (fun p => wk (ix2 e p)) (fun p => h.wk e p) (by pointwise [k0_pay20])
theorem g1_at : k0_pay3 (k0_pay6 vx g) w1 (ix2 r d) = a.g3 (tok r) d.val :=
  col_at a tok vx g ct st wq w1 w2 w3 wk h r _ _ (by omega) (fun p => w1 (ix2 d p)) (fun p => h.w1 d p) (by pointwise [k0_pay3])
theorem g2_at : k0_pay4 (k0_pay6 vx g) w2 (ix2 r d) = a.g3 (tok r) (1024 + d.val) :=
  (col_at a tok vx g ct st wq w1 w2 w3 wk h r _ _ (by omega) (fun p => w2 (ix2 d p)) (fun p => h.w2 d p) (by pointwise [k0_pay4])).trans
    (congrArg (a.col (tok r)) (by omega))
theorem g3_at : k0_pay5 (k0_pay6 vx g) w3 (ix2 r d) = a.g3 (tok r) (2048 + d.val) :=
  (col_at a tok vx g ct st wq w1 w2 w3 wk h r _ _ (by omega) (fun p => w3 (ix2 d p)) (fun p => h.w3 d p) (by pointwise [k0_pay5])).trans
    (congrArg (a.col (tok r)) (by omega))
theorem st_at : k0_pay7 st (ix2 r l) = if l.val % 64 < 32 then -a.sn (tok r) l.val else a.sn (tok r) l.val := by
  pointwise [k0_pay7]
  exact h.s r l
theorem q0_at : k0_pay9 vx g ct st wq (ix2 r l) = a.q (tok r) (l.val) := by
  unfold InArr.q
  pointwise [k0_pay9, k0_pay7]
  refine congrArg (· * logitScale) ((rotated a (tok r) 4096 _ _ _ l rfl _ _ _ _ _ (q_at a tok vx g ct st wq w1 w2 w3 wk h r _) (q_at a tok vx g ct st wq w1 w2 w3 wk h r _)
    (q_at a tok vx g ct st wq w1 w2 w3 wk h r _) (h.c r l) (h.s r l) ?_ ?_ ?_).trans (congrArg (a.rot (tok r)) ?_)) <;> (try dsimp only) <;> omega
theorem q1_at : k0_pay10 ct (k0_pay7 st) (k0_pay8 vx g wq) (ix2 r l) = a.q (tok r) (128 + l.val) := by
  unfold InArr.q
  pointwise [k0_pay10]
  refine congrArg (· * logitScale) ((rotated a (tok r) 4224 _ _ _ l rfl _ _ _ _ _ (q_at a tok vx g ct st wq w1 w2 w3 wk h r _) (q_at a tok vx g ct st wq w1 w2 w3 wk h r _)
    (q_at a tok vx g ct st wq w1 w2 w3 wk h r _) (h.c r l) (st_at a tok vx g ct st wq w1 w2 w3 wk h r l) ?_ ?_ ?_).trans (congrArg (a.rot (tok r)) ?_)) <;> (try dsimp only) <;> omega
theorem q2_at : k0_pay11 ct (k0_pay7 st) (k0_pay8 vx g wq) (ix2 r l) = a.q (tok r) (256 + l.val) := by
  unfold InArr.q
  pointwise [k0_pay11]
  refine congrArg (· * logitScale) ((rotated a (tok r) 4352 _ _ _ l rfl _ _ _ _ _ (q_at a tok vx g ct st wq w1 w2 w3 wk h r _) (q_at a tok vx g ct st wq w1 w2 w3 wk h r _)
    (q_at a tok vx g ct st wq w1 w2 w3 wk h r _) (h.c r l) (st_at a tok vx g ct st wq w1 w2 w3 wk h r l) ?_ ?_ ?_).trans (congrArg (a.rot (tok r)) ?_)) <;> (try dsimp only) <;> omega
theorem q3_at : k0_pay15 (k0_pay7 st) (k0_pay12 (k0_pay8 vx g wq)) (k0_pay13 ct (k0_pay8 vx g wq)) k0_pay14 (ix2 r l) = a.q (tok r) (384 + l.val) := by
  unfold InArr.q
  pointwise [k0_pay15, k0_pay12, k0_pay13, k0_pay14]
  refine congrArg (· * logitScale) ((rotated a (tok r) 4480 _ _ _ l rfl _ _ _ _ _ (q_at a tok vx g ct st wq w1 w2 w3 wk h r _) (q_at a tok vx g ct st wq w1 w2 w3 wk h r _)
    (q_at a tok vx g ct st wq w1 w2 w3 wk h r _) (h.c r l) (st_at a tok vx g ct st wq w1 w2 w3 wk h r l) ?_ ?_ ?_).trans (congrArg (a.rot (tok r)) ?_)) <;> (try dsimp only) <;> omega
theorem q4_at : k0_pay16 ct (k0_pay7 st) (k0_pay8 vx g wq) (ix2 r l) = a.q (tok r) (512 + l.val) := by
  unfold InArr.q
  pointwise [k0_pay16]
  refine congrArg (· * logitScale) ((rotated a (tok r) 4608 _ _ _ l rfl _ _ _ _ _ (q_at a tok vx g ct st wq w1 w2 w3 wk h r _) (q_at a tok vx g ct st wq w1 w2 w3 wk h r _)
    (q_at a tok vx g ct st wq w1 w2 w3 wk h r _) (h.c r l) (st_at a tok vx g ct st wq w1 w2 w3 wk h r l) ?_ ?_ ?_).trans (congrArg (a.rot (tok r)) ?_)) <;> (try dsimp only) <;> omega
theorem q5_at : k0_pay17 ct (k0_pay7 st) (k0_pay8 vx g wq) (ix2 r l) = a.q (tok r) (640 + l.val) := by
  unfold InArr.q
  pointwise [k0_pay17]
  refine congrArg (· * logitScale) ((rotated a (tok r) 4736 _ _ _ l rfl _ _ _ _ _ (q_at a tok vx g ct st wq w1 w2 w3 wk h r _) (q_at a tok vx g ct st wq w1 w2 w3 wk h r _)
    (q_at a tok vx g ct st wq w1 w2 w3 wk h r _) (h.c r l) (st_at a tok vx g ct st wq w1 w2 w3 wk h r l) ?_ ?_ ?_).trans (congrArg (a.rot (tok r)) ?_)) <;> (try dsimp only) <;> omega
theorem q6_at : k0_pay18 ct (k0_pay7 st) (k0_pay8 vx g wq) (ix2 r l) = a.q (tok r) (768 + l.val) := by
  unfold InArr.q
  pointwise [k0_pay18]
  refine congrArg (· * logitScale) ((rotated a (tok r) 4864 _ _ _ l rfl _ _ _ _ _ (q_at a tok vx g ct st wq w1 w2 w3 wk h r _) (q_at a tok vx g ct st wq w1 w2 w3 wk h r _)
    (q_at a tok vx g ct st wq w1 w2 w3 wk h r _) (h.c r l) (st_at a tok vx g ct st wq w1 w2 w3 wk h r l) ?_ ?_ ?_).trans (congrArg (a.rot (tok r)) ?_)) <;> (try dsimp only) <;> omega
theorem q7_at : k0_pay19 ct (k0_pay7 st) (k0_pay8 vx g wq) (ix2 r l) = a.q (tok r) (896 + l.val) := by
  unfold InArr.q
  pointwise [k0_pay19]
  refine congrArg (· * logitScale) ((rotated a (tok r) 4992 _ _ _ l rfl _ _ _ _ _ (q_at a tok vx g ct st wq w1 w2 w3 wk h r _) (q_at a tok vx g ct st wq w1 w2 w3 wk h r _)
    (q_at a tok vx g ct st wq w1 w2 w3 wk h r _) (h.c r l) (st_at a tok vx g ct st wq w1 w2 w3 wk h r l) ?_ ?_ ?_).trans (congrArg (a.rot (tok r)) ?_)) <;> (try dsimp only) <;> omega
theorem k_at : k0_pay1 (k0_pay7 st) (k0_pay21 (k0_pay6 vx g) wk) (k0_pay22 (k0_pay6 vx g) ct wk) (iota .tc S512x128 32 [1] iota_S512x128_d1_w32) 63#32 (ix2 r l)
    = a.kv (tok r) l.val := by
  unfold InArr.kv
  rw [if_pos l.isLt]
  pointwise [k0_pay1, k0_pay22, k0_pay21]
  refine rotated a (tok r) 5120 _ _ _ l rfl _ _ _ _ _ (kv_at a tok vx g ct st wq w1 w2 w3 wk h r _) (kv_at a tok vx g ct st wq w1 w2 w3 wk h r _)
    (kv_at a tok vx g ct st wq w1 w2 w3 wk h r _) (h.c r l) (st_at a tok vx g ct st wq w1 w2 w3 wk h r l) ?_ ?_ ?_ <;> (try dsimp only) <;> omega
theorem v_at : k0_pay2 (k0_pay20 (k0_pay6 vx g) wk) (ix2 r l) = a.kv (tok r) (128 + l.val) := by
  unfold InArr.kv
  rw [if_neg (by omega)]
  pointwise [k0_pay2]
  exact kv_at a tok vx g ct st wq w1 w2 w3 wk h r _

end tile

end Cert.Kernel5Ideal.Hand

end
-- ==== Proof.In.lean ====
module

public import proofs.«01_k».proof.Proof.InTile
public import proofs.«01_k».proof.Proof.Cols

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem
open Idealize.ShloMosaic.Pipeline (Dat)
open Cert.Proof

/-- Which block each window takes at a point. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val, 0] ∧ win0_6.index t = ![t.val, 0]
    ∧ win0_7.index t = ![t.val, 0] ∧ win0_8.index t = ![t.val, 0] ∧ t.val < 16 :=
  (by decide +kernel : ∀ t : Fin grid0.N, _)
theorem N16 : cfg0.N = 16 := rfl

variable (m : (ℓ : Loc nD τ sig) → Buf (Elt Ideal) ℓ) (c : Dev nD)

/-- The arrays the kernel is called with. -/
def arr : InArr := ⟨m ((c : Thread nD τ).loc main_arg0), m ((c : Thread nD τ).loc main_arg1), m ((c : Thread nD τ).loc main_arg2),
  m ((c : Thread nD τ).loc main_arg3), m ((c : Thread nD τ).loc main_arg4)⟩

/-! ### The rotation's tables, laid out for a pair of heads -/

theorem cos_tab (s : Fin 2048) (l : Fin 128) : (V m c main_v2 : Vec Ideal S2048x128 .f32) (ix2 s l) = (arr m c).c (ix2 s ⟨l.val % 32, by omega⟩) := by
  unfold V arr
  simp only [hostOps0]
  after_results
  pointwise
theorem sin_tab (s : Fin 2048) (l : Fin 128) : (V m c main_v7 : Vec Ideal S2048x128 .f32) (ix2 s l)
    = if l.val % 64 < 32 then -(arr m c).s (ix2 s ⟨l.val % 32, by omega⟩) else (arr m c).s (ix2 s ⟨l.val % 32, by omega⟩) := by
  unfold V arr
  simp only [hostOps0]
  after_results
  pointwise
  by_cases h : l.val % 64 < 32
  · rw [dif_pos h, if_pos h]
    exact congrArg (fun q => -(arr m c).s (ix2 s q)) (Fin.ext (show l.val % 64 = l.val % 32 by omega))
  · rw [dif_neg h, if_neg h]
    exact congrArg (fun q => (arr m c).s (ix2 s q)) (Fin.ext (show l.val % 64 - 32 = l.val % 32 by omega))

variable (t : Fin cfg0.N)

/-- Row `r` of a point's tile, among all the tokens. -/
def tokAt (r : Fin 512) : Fin 8192 := ⟨t.val * 512 + r.val, by have := lt_of_lt_of_eq t.isLt N16; omega⟩

theorem tokAt_mod (r : Fin 512) : (tokAt t r).val % 2048 = t.val % 4 * 512 + r.val := by
  unfold tokAt
  dsimp only
  omega
/-- Every point's blocks are its tokens of the arrays. -/
theorem fits : Fits (arr m c) (tokAt t) (View.ld (iblk m c 0 t) r0_0) (View.ld (iblk m c 1 t) r0_1) (View.ld (iblk m c 3 t) r0_2) (View.ld (iblk m c 4 t) r0_2)
    (View.ld (iblk m c 2 t) r0_3) (View.ld (iblk m c 2 t) r0_15) (View.ld (iblk m c 2 t) r0_17) (View.ld (iblk m c 2 t) r0_19) (View.ld (iblk m c 2 t) r0_12) where
  x r p := by unfold tokAt arr; pointwise; blk_ext [iblk, V, idx t]
  g d := by unfold arr; pointwise; blk_ext [iblk, V, idx t]
  c r l := by
    have hN : t.val < 16 := lt_of_lt_of_eq t.isLt N16
    have e : View.ld (iblk m c 3 t) r0_2 (ix2 r l) = (V m c main_v2 : Vec Ideal S2048x128 .f32) (ix2 ⟨t.val % 4 * 512 + r.val, by omega⟩ l) := by
      pointwise
      blk_ext [iblk, idx t]
    rw [e, cos_tab]
    unfold InArr.cs
    exact congrArg (fun q => (arr m c).c (ix2 q _)) (Fin.ext (tokAt_mod t r).symm)
  s r l := by
    have hN : t.val < 16 := lt_of_lt_of_eq t.isLt N16
    have e : View.ld (iblk m c 4 t) r0_2 (ix2 r l) = (V m c main_v7 : Vec Ideal S2048x128 .f32) (ix2 ⟨t.val % 4 * 512 + r.val, by omega⟩ l) := by
      pointwise
      blk_ext [iblk, idx t]
    rw [e, sin_tab]
    unfold InArr.sn
    exact congrArg (fun q => if l.val % 64 < 32 then -(arr m c).s (ix2 q _) else (arr m c).s (ix2 q _)) (Fin.ext (tokAt_mod t r).symm)
  wq d p := by unfold arr; pointwise; blk_ext [iblk, V, idx t]
  wk d p := by unfold arr; pointwise; blk_ext [iblk, V, idx t]
  w1 d p := by unfold arr; pointwise; blk_ext [iblk, V, idx t]
  w2 d p := by unfold arr; pointwise; blk_ext [iblk, V, idx t]
  w3 d p := by unfold arr; pointwise; blk_ext [iblk, V, idx t]

/-! ### The four results, tile after tile -/

/-- The normalised rows. -/
theorem out_h : (dats m 0 c).arrAt 5 cfg0.N = fun i => (arr m c).h (i 0) (i 1) := by
  refine (dats m 0 c).arrAt_eq_of_covers 5 _ (by decide +kernel) fun t hf y => ?_
  have hN : t.val < 16 := lt_of_lt_of_eq t.isLt N16
  blk_simp
  rw [after0_5]
  have hy : y = ix2 (y 0) (y 1) := eq_ix2 y
  have key : ∀ v : S512x1024.Idx → EReal, (∀ r (d : Fin 1024), v (ix2 r d) = (arr m c).h (tokAt t r) d) →
      v y = (arr m c).h (((View.whole main_v8_0).slice (win0_5.rect t)).emb y 0) (((View.whole main_v8_0).slice (win0_5.rect t)).emb y 1) := by
    intro v hv
    refine (congrArg v hy).trans ((hv (y 0) (y 1)).trans (congrArg₂ (arr m c).h (Fin.ext ?_) (Fin.ext ?_)))
    · show t.val * 512 + (y 0).val = _; blk_simp [idx t]
    · show (y 1).val = _; blk_simp [idx t]
  unfold_out out0_5
  rw [canon_window]
  refine key _ fun r d => ?_
  refine (put_rows_in _ _ r d r (Nat.zero_add _).symm).trans ?_
  exact h_at _ _ _ _ _ _ _ _ _ _ _ (fits m c t) r d
/-- The rotated and scaled queries. -/
theorem out_q : (dats m 0 c).arrAt 6 cfg0.N = fun i => (arr m c).qAt (i 0) (i 1) := by
  refine (dats m 0 c).arrAt_eq_of_covers 6 _ (by decide +kernel) fun t hf y => ?_
  have hN : t.val < 16 := lt_of_lt_of_eq t.isLt N16
  blk_simp
  rw [after0_6]
  have hy : y = ix2 (y 0) (y 1) := eq_ix2 y
  have key : ∀ v : S512x1024.Idx → EReal, (∀ r (d : Fin 1024), v (ix2 r d) = (arr m c).qAt (tokAt t r) d) →
      v y = (arr m c).qAt (((View.whole main_v8_1).slice (win0_6.rect t)).emb y 0) (((View.whole main_v8_1).slice (win0_6.rect t)).emb y 1) := by
    intro v hv
    refine (congrArg v hy).trans ((hv (y 0) (y 1)).trans (congrArg₂ (arr m c).qAt (Fin.ext ?_) (Fin.ext ?_)))
    · show t.val * 512 + (y 0).val = _; blk_simp [idx t]
    · show (y 1).val = _; blk_simp [idx t]
  unfold_out out0_6
  rw [canon_window, canon_window, canon_window, canon_window, canon_window, canon_window, canon_window, canon_window]
  refine key _ fun r d => ?_
  have hd := d.isLt
  have z : ∀ (P : Prop), d.val < 0 → P := fun _ h => absurd h (Nat.not_lt_zero _)
  exact put_col _ _ (fun r e => (arr m c).q (tokAt t r) e) r d (fun r e => q7_at _ _ _ _ _ _ _ _ _ _ _ (fits m c t) r e) (by omega) (fun h =>
    put_col _ _ (fun r e => (arr m c).q (tokAt t r) e) r d (fun r e => q6_at _ _ _ _ _ _ _ _ _ _ _ (fits m c t) r e) (by omega) (fun h =>
    put_col _ _ (fun r e => (arr m c).q (tokAt t r) e) r d (fun r e => q5_at _ _ _ _ _ _ _ _ _ _ _ (fits m c t) r e) (by omega) (fun h =>
    put_col _ _ (fun r e => (arr m c).q (tokAt t r) e) r d (fun r e => q4_at _ _ _ _ _ _ _ _ _ _ _ (fits m c t) r e) (by omega) (fun h =>
    put_col _ _ (fun r e => (arr m c).q (tokAt t r) e) r d (fun r e => q3_at _ _ _ _ _ _ _ _ _ _ _ (fits m c t) r e) (by omega) (fun h =>
    put_col _ _ (fun r e => (arr m c).q (tokAt t r) e) r d (fun r e => q2_at _ _ _ _ _ _ _ _ _ _ _ (fits m c t) r e) (by omega) (fun h =>
    put_col _ _ (fun r e => (arr m c).q (tokAt t r) e) r d (fun r e => q1_at _ _ _ _ _ _ _ _ _ _ _ (fits m c t) r e) (by omega) (fun h =>
    put_col _ _ (fun r e => (arr m c).q (tokAt t r) e) r d (fun r e => (q0_at _ _ _ _ _ _ _ _ _ _ _ (fits m c t) r e).trans (congrArg ((arr m c).q (tokAt t r)) (Nat.zero_add _).symm)) (by omega) (fun h => z _ h))))))))
/-- The rotated keys, and the values. -/
theorem out_kv : (dats m 0 c).arrAt 7 cfg0.N = fun i => (arr m c).kvAt (i 0) (i 1) := by
  refine (dats m 0 c).arrAt_eq_of_covers 7 _ (by decide +kernel) fun t hf y => ?_
  have hN : t.val < 16 := lt_of_lt_of_eq t.isLt N16
  blk_simp
  rw [after0_7]
  have hy : y = ix2 (y 0) (y 1) := eq_ix2 y
  have key : ∀ v : S512x256.Idx → EReal, (∀ r (d : Fin 256), v (ix2 r d) = (arr m c).kvAt (tokAt t r) d) →
      v y = (arr m c).kvAt (((View.whole main_v8_2).slice (win0_7.rect t)).emb y 0) (((View.whole main_v8_2).slice (win0_7.rect t)).emb y 1) := by
    intro v hv
    refine (congrArg v hy).trans ((hv (y 0) (y 1)).trans (congrArg₂ (arr m c).kvAt (Fin.ext ?_) (Fin.ext ?_)))
    · show t.val * 512 + (y 0).val = _; blk_simp [idx t]
    · show (y 1).val = _; blk_simp [idx t]
  unfold_out out0_7
  rw [canon_window, canon_window]
  refine key _ fun r d => ?_
  have hd := d.isLt
  have z : ∀ (P : Prop), d.val < 0 → P := fun _ h => absurd h (Nat.not_lt_zero _)
  exact put_col _ _ (fun r e => (arr m c).kv (tokAt t r) e) r d (fun r e => v_at _ _ _ _ _ _ _ _ _ _ _ (fits m c t) r e) (by omega) (fun h =>
    put_col _ _ (fun r e => (arr m c).kv (tokAt t r) e) r d (fun r e => (k_at _ _ _ _ _ _ _ _ _ _ _ (fits m c t) r e).trans (congrArg ((arr m c).kv (tokAt t r)) (Nat.zero_add _).symm)) (by omega) (fun h => z _ h))
/-- The gates. -/
theorem out_g3 : (dats m 0 c).arrAt 8 cfg0.N = fun i => (arr m c).g3At (i 0) (i 1) := by
  refine (dats m 0 c).arrAt_eq_of_covers 8 _ (by decide +kernel) fun t hf y => ?_
  have hN : t.val < 16 := lt_of_lt_of_eq t.isLt N16
  blk_simp
  rw [after0_8]
  have hy : y = ix2 (y 0) (y 1) := eq_ix2 y
  have key : ∀ v : S512x3072.Idx → EReal, (∀ r (d : Fin 3072), v (ix2 r d) = (arr m c).g3At (tokAt t r) d) →
      v y = (arr m c).g3At (((View.whole main_v8_3).slice (win0_8.rect t)).emb y 0) (((View.whole main_v8_3).slice (win0_8.rect t)).emb y 1) := by
    intro v hv
    refine (congrArg v hy).trans ((hv (y 0) (y 1)).trans (congrArg₂ (arr m c).g3At (Fin.ext ?_) (Fin.ext ?_)))
    · show t.val * 512 + (y 0).val = _; blk_simp [idx t]
    · show (y 1).val = _; blk_simp [idx t]
  unfold_out out0_8
  rw [canon_window, canon_window, canon_window]
  refine key _ fun r d => ?_
  have hd := d.isLt
  have z : ∀ (P : Prop), d.val < 0 → P := fun _ h => absurd h (Nat.not_lt_zero _)
  exact put_col _ _ (fun r e => (arr m c).g3 (tokAt t r) e) r d (fun r e => g3_at _ _ _ _ _ _ _ _ _ _ _ (fits m c t) r e) (by omega) (fun h =>
    put_col _ _ (fun r e => (arr m c).g3 (tokAt t r) e) r d (fun r e => g2_at _ _ _ _ _ _ _ _ _ _ _ (fits m c t) r e) (by omega) (fun h =>
    put_col _ _ (fun r e => (arr m c).g3 (tokAt t r) e) r d (fun r e => (g1_at _ _ _ _ _ _ _ _ _ _ _ (fits m c t) r e).trans (congrArg ((arr m c).g3 (tokAt t r)) (Nat.zero_add _).symm)) (by omega) (fun h => z _ h)))

end Cert.Kernel5Ideal.Hand

end
-- ==== Proof.InRef.lean ====
module

public import proofs.«01_k».proof.Proof.InSpec
public import proofs.«01_k».proof.Proof.Gen.Reference5Ideal.Read

@[expose] public section

set_option maxRecDepth 16384

noncomputable section

namespace Cert.Proof.InArr

open Cert.Reference5Ideal Cert.Reference5Ideal.Gen Cert.Reference5Ideal.Read
open Idealize.ShloMosaic Idealize.ShloMosaic.TcCoe Idealize.SL.Sem

variable (a : InArr) (b : Fin 4) (t : Fin 2048) (d : Fin 1024) (T : Fin 8192)

/-! ### What the reference computes, one operation after another -/

theorem r_0 : val_main_v0 (F := Ideal) a.x (ix3 b t d) = a.row (place b t) d := by
  unfold row place
  pointwise [val_main_v0]
theorem r_9 : val_main_v9 (F := Ideal) a.x (ix3 b t (0 : Fin 1)) = invRms (a.row (place b t)) := by
  unfold invRms meanSq
  pointwise [val_main_v9, val_main_v8, val_main_v7, val_main_v6, val_main_v5, val_main_v4, val_main_v3, val_main_v2, val_main_cst, val_main_cst_0, val_main_cst_1]
  simp only [r_0 a b t]
theorem r_14 : val_main_v14 (F := Ideal) a.x a.g (ix3 b t d) = a.h (place b t) d := by
  unfold h
  pointwise [val_main_v14, val_main_v13, val_main_v12, val_main_v11, val_main_v10, val_main_v1]
  rw [r_0, r_9]
theorem r_17 (e : Fin 8448) : val_main_v17 (F := Ideal) a.x a.g a.w (ix3 b t e) = a.col (place b t) e.val := by
  unfold col
  pointwise [val_main_v17, val_main_v16, val_main_v15]
  simp only [r_14 a b t]
  have he : (⟨e.val % 8448, Nat.mod_lt _ (by norm_num)⟩ : Fin 8448) = e := Fin.ext (Nat.mod_eq_of_lt e.isLt)
  rw [he]
theorem r_18 (e : Fin 4352) : val_main_v18 (F := Ideal) a.x a.g a.w (ix3 b t e) = a.col (place b t) (4096 + e.val) := by
  pointwise [val_main_v18]
  exact r_17 a b t _
theorem r_23 (i : Fin 16) (k : Fin 64) : val_main_v23 (F := Ideal) a.x a.g a.w (ix4 b t i k) = a.col (place b t) (4096 + (i.val * 64 + k.val)) := by
  pointwise [val_main_v23, val_main_v19]
  rw [r_18]
theorem r_45 (i : Fin 2) (k : Fin 64) : val_main_v45 (F := Ideal) a.x a.g a.w (ix4 b t i k) = a.col (place b t) (5120 + (i.val * 64 + k.val)) := by
  pointwise [val_main_v45, val_main_v20]
  rw [r_18]
  exact congrArg (a.col (place b t)) (by dsimp only; omega)
/-- A table at a token's place. -/
theorem cs_place (j : ℕ) (k : Fin 32) (h : j % 32 = k.val) : a.cs (place b t) j = a.c (ix2 t k) := by
  unfold cs
  exact congrArg₂ (fun p q => a.c (ix2 p q)) (Fin.ext (place_mod b t)) (Fin.ext h)
theorem sn_place (j : ℕ) (k : Fin 32) (h : j % 32 = k.val) : a.sn (place b t) j = a.s (ix2 t k) := by
  unfold sn
  exact congrArg₂ (fun p q => a.s (ix2 p q)) (Fin.ext (place_mod b t)) (Fin.ext h)
theorem rot_low (j : ℕ) (k : Fin 32) (h : j % 64 = k.val) :
    a.rot (place b t) j = a.col (place b t) j * a.c (ix2 t k) - a.col (place b t) (j + 32) * a.s (ix2 t k) := by
  unfold rot
  rw [if_pos (by omega), cs_place a b t j k (by omega), sn_place a b t j k (by omega)]
theorem rot_high (j : ℕ) (k : Fin 32) (h : j % 64 = 32 + k.val) :
    a.rot (place b t) j = a.col (place b t) j * a.c (ix2 t k) + a.col (place b t) (j - 32) * a.s (ix2 t k) := by
  unfold rot
  rw [if_neg (by omega), cs_place a b t j k (by omega), sn_place a b t j k (by omega)]
theorem r_34 (i : Fin 16) (k : Fin 32) :
    val_main_v34 (F := Ideal) a.x a.g a.w a.c a.s (ix4 b t i k) = a.rot (place b t) (4096 + (i.val * 64 + k.val)) := by
  rw [rot_low a b t _ k (by omega)]
  pointwise [val_main_v34, val_main_v33, val_main_v32, val_main_v31, val_main_v30, val_main_v29, val_main_v28, val_main_v27, val_main_v26, val_main_v25, val_main_v24]
  rw [r_23, r_23]
  exact congrArg (fun z => _ - a.col (place b t) z * _) (by dsimp only; omega)
theorem r_41 (i : Fin 16) (k : Fin 32) :
    val_main_v41 (F := Ideal) a.x a.g a.w a.c a.s (ix4 b t i k) = a.rot (place b t) (4096 + (i.val * 64 + (32 + k.val))) := by
  rw [rot_high a b t _ k (by omega)]
  pointwise [val_main_v41, val_main_v40, val_main_v39, val_main_v38, val_main_v37, val_main_v36, val_main_v35, val_main_v27, val_main_v26, val_main_v25, val_main_v24]
  rw [r_23, r_23]
  exact congrArg (fun z => _ + a.col (place b t) z * _) (by dsimp only; omega)
theorem r_56 (i : Fin 2) (k : Fin 32) :
    val_main_v56 (F := Ideal) a.x a.g a.w a.c a.s (ix4 b t i k) = a.rot (place b t) (5120 + (i.val * 64 + k.val)) := by
  rw [rot_low a b t _ k (by omega)]
  pointwise [val_main_v56, val_main_v55, val_main_v54, val_main_v53, val_main_v52, val_main_v51, val_main_v50, val_main_v49, val_main_v48, val_main_v47, val_main_v46]
  rw [r_45, r_45]
  exact congrArg (fun z => _ - a.col (place b t) z * _) (by dsimp only; omega)
theorem r_63 (i : Fin 2) (k : Fin 32) :
    val_main_v63 (F := Ideal) a.x a.g a.w a.c a.s (ix4 b t i k) = a.rot (place b t) (5120 + (i.val * 64 + (32 + k.val))) := by
  rw [rot_high a b t _ k (by omega)]
  pointwise [val_main_v63, val_main_v62, val_main_v61, val_main_v60, val_main_v59, val_main_v58, val_main_v57, val_main_v49, val_main_v48, val_main_v47, val_main_v46]
  rw [r_45, r_45]
  exact congrArg (fun z => _ + a.col (place b t) z * _) (by dsimp only; omega)
theorem r_42 (i : Fin 16) (k : Fin 64) :
    val_main_v42 (F := Ideal) a.x a.g a.w a.c a.s (ix4 b t i k) = a.rot (place b t) (4096 + (i.val * 64 + k.val)) := by
  pointwise [val_main_v42]
  split_ifs with h
  · exact r_34 a b t i _
  · exact (r_41 a b t i _).trans (congrArg (a.rot (place b t)) (by dsimp only; omega))
  · contradiction
theorem r_64 (i : Fin 2) (k : Fin 64) :
    val_main_v64 (F := Ideal) a.x a.g a.w a.c a.s (ix4 b t i k) = a.rot (place b t) (5120 + (i.val * 64 + k.val)) := by
  pointwise [val_main_v64]
  split_ifs with h
  · exact r_56 a b t i _
  · exact (r_63 a b t i _).trans (congrArg (a.rot (place b t)) (by dsimp only; omega))
  · contradiction
theorem r_44 (i : Fin 16) (k : Fin 64) :
    val_main_v44 (F := Ideal) a.x a.g a.w a.c a.s (ix4 b t i k) = a.q (place b t) (i.val * 64 + k.val) := by
  unfold q
  pointwise [val_main_v44, val_main_v43, val_main_cst_2]
  rw [r_42]

/-! ### The four results -/

theorem place_eta (h0 : T.val / 2048 < 4) (h1 : T.val % 2048 < 2048) : place ⟨T.val / 2048, h0⟩ ⟨T.val % 2048, h1⟩ = T :=
  Fin.ext (by unfold place; dsimp only; omega)
theorem r_69 : val_main_v69 (F := Ideal) a.x a.g (ix2 T d) = a.h T d := by
  pointwise [val_main_v69, val_main_v68]
  rw [r_14, place_eta]
theorem r_71 : val_main_v71 (F := Ideal) a.x a.g a.w a.c a.s (ix2 T d) = a.q T d.val := by
  pointwise [val_main_v71, val_main_v70]
  rw [r_44, place_eta]
  exact congrArg (a.q T) (by dsimp only; omega)
theorem r_73 (e : Fin 3072) : val_main_v73 (F := Ideal) a.x a.g a.w (ix2 T e) = a.g3 T e.val := by
  unfold g3
  pointwise [val_main_v73, val_main_v22]
  rw [r_18, place_eta]
  exact congrArg (a.col T) (by dsimp only; omega)
theorem r_72 (e : Fin 256) : val_main_v72 (F := Ideal) a.x a.g a.w a.c a.s (ix2 T e) = a.kv T e.val := by
  unfold kv
  pointwise [val_main_v72, val_main_v67, val_main_v66, val_main_v65, val_main_v21]
  split_ifs with h
  · rw [r_64, place_eta]
    exact congrArg (a.rot T) (by dsimp only; omega)
  · rw [r_18, place_eta]
    exact congrArg (a.col T) (by dsimp only; omega)
  · contradiction

end Cert.Proof.InArr

end
-- ==== Proof.InValue.lean ====
/- The first norm and the projections to queries, keys, values and gates: their frames, and that their two programs leave the same contents. -/
module

public import proofs.«01_k».proof.Defs
public import proofs.«01_k».proof.Proof.Gen.Kernel5
public import proofs.«01_k».proof.Proof.Gen.Reference5Ideal.Run
public import proofs.«01_k».proof.Proof.In
public import proofs.«01_k».proof.Proof.InRef
public import Idealize.ShloMosaic.Lib.Quiescent

@[expose] public section

noncomputable section

namespace Cert.Proof

open Idealize.ShloMosaic Idealize.ShloMosaic.TcCoe Idealize.SL.Sem

set_option maxHeartbeats 4000000 in
/-- The two programs have one text: their label tables are the same function. -/
theorem table_same5 {F : FTy → Type} [FloatOps F] : (Cert.Kernel5Ideal.defs₀ (F := F)) = Cert.Kernel5.defs₀ (F := F) := by
  unfold Cert.Kernel5Ideal.defs₀ Cert.Kernel5.defs₀
  refine congrArg Defs.onTc ?_
  funext l x
  match l, x with
  | ⟨0, _⟩, (t, s) => rfl
  | ⟨n + 1, h⟩, _ => exact absurd h (Nat.not_lt.2 (Nat.le_add_left _ _))
theorem defs_same5 {F : FTy → Type} [FloatOps F] : (Cert.Kernel5Ideal.defs (F := F)) = Cert.Kernel5.defs (F := F) :=
  congrArg (Pipeline.defs (Cert.Kernel5Ideal.pcfgs (F := F))) table_same5

theorem frame_kernel5 : Cert.quiescent_Kernel5 := fun m ρ _ => by
  rw [← defs_same5]
  exact (θ_run Cert.Kernel5Ideal.defs _ _).mono (fun _ h => h) (Cert.Kernel5Ideal.Gen.frame (F := Bits) m ρ)

theorem frame_ideal5 : Cert.quiescent_Kernel5Ideal := fun m ρ _ => Cert.Kernel5Ideal.Gen.frame (F := Ideal) m ρ

theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

set_option maxHeartbeats 4000000 in
open Cert.Kernel5Ideal.Hand in
theorem value5 : Cert.algebraic_Kernel5Ideal_Reference5Ideal := by
  intro m g m' g' _ hargs
  refine ⟨fun c => fun i : (⟨2, ![8192, 1024]⟩ : Shape).Idx => (arr m c).h (i 0) (i 1),
    fun c => fun i : (⟨2, ![8192, 1024]⟩ : Shape).Idx => (arr m c).qAt (i 0) (i 1),
    fun c => fun i : (⟨2, ![8192, 256]⟩ : Shape).Idx => (arr m c).kvAt (i 0) (i 1),
    fun c => fun i : (⟨2, ![8192, 3072]⟩ : Shape).Idx => (arr m c).g3At (i 0) (i 1), ?_, ?_⟩
  · refine (θ_run Cert.Kernel5Ideal.defs _ _).mono (fun r h c => ?_) (Cert.Kernel5Ideal.Value.run_blocks m g)
    exact ⟨(h c).1.trans (out_h m c), (h c).2.1.trans (out_q m c), (h c).2.2.1.trans (out_kv m c), (h c).2.2.2.1.trans (out_g3 m c), (h c).2.2.2.2⟩
  · refine (θ_run Cert.Reference5Ideal.defs _ _).mono (fun r h c => ?_) (Cert.Reference5Ideal.Value.run (F := Ideal) m' g')
    obtain ⟨a0, a1, a2, a3, a4⟩ := hargs c
    obtain ⟨h0, h1, h2, h3, hrest⟩ := h c
    rw [Cert.Reference5Ideal.Read.val_main_v69_eq, a0, a1] at h0
    rw [Cert.Reference5Ideal.Read.val_main_v71_eq, a0, a1, a2, a3, a4] at h1
    rw [Cert.Reference5Ideal.Read.val_main_v72_eq, a0, a1, a2, a3, a4] at h2
    rw [Cert.Reference5Ideal.Read.val_main_v73_eq, a0, a1, a2] at h3
    refine ⟨?_, ?_, ?_, ?_, hrest⟩
    · exact h0.trans (funext (at_ix2 fun T d => (arr m c).r_69 d T))
    · exact h1.trans (funext (at_ix2 fun T d => (arr m c).r_71 d T))
    · exact h2.trans (funext (at_ix2 fun T e => (arr m c).r_72 T e))
    · exact h3.trans (funext (at_ix2 fun T e => (arr m c).r_73 T e))

end Cert.Proof

end
-- ==== Proof.AdamSpec.lean ====
module

public import proofs.«01_k».proof.Proof.Reals

@[expose] public section

noncomputable section

namespace Cert.Proof

open Idealize.ShloMosaic

/-! ## The sum of a gradient over the chips, and the AdamW step it gives, entry by entry -/

/-- A device's sum of its own gradient and its neighbour's, the three it receives, and the weight with its two moments. -/
structure StepArr (n : ℕ) where
  p : FVec Ideal ⟨2, ![n, 1024]⟩ .f32
  r : FVec Ideal ⟨3, ![3, n, 1024]⟩ .bf16
  w : FVec Ideal ⟨2, ![n, 1024]⟩ .f32
  m : FVec Ideal ⟨2, ![n, 1024]⟩ .f32
  v : FVec Ideal ⟨2, ![n, 1024]⟩ .f32

/-- The step's constants. -/
abbrev decay1 : EReal := Ideal.ofBits .f32 0x3F666666#32
abbrev fresh1 : EReal := Ideal.ofBits .f32 0x3DCCCCCD#32
abbrev decay2 : EReal := Ideal.ofBits .f32 0x3F7FBE77#32
abbrev fresh2 : EReal := Ideal.ofBits .f32 0x3A83126F#32
abbrev debias1 : EReal := Ideal.ofBits .f32 0x3F26BD02#32
abbrev debias2 : EReal := Ideal.ofBits .f32 0x3C231ACC#32
abbrev tiny : EReal := Ideal.ofBits .f32 0x322BCC77#32
abbrev shrink : EReal := Ideal.ofBits .f32 0x3C23D70A#32
abbrev rate : EReal := Ideal.ofBits .f32 0xBA83126F#32

/-- The new moments, and the change of the weight. -/
def moment1 (g m : EReal) : EReal := decay1 * m + fresh1 * g
def moment2 (g v : EReal) : EReal := decay2 * v + fresh2 * (g * g)
def change (w g m v : EReal) : EReal :=
  rate * (Ideal.div (Ideal.div (moment1 g m) debias1) (Ideal.sqrt (Ideal.div (moment2 g v) debias2) + tiny) + shrink * w)

namespace StepArr

variable {n : ℕ} (a : StepArr n) (T : Fin n) (d : Fin 1024)

def g : EReal := a.p (ix2 T d) + a.r (ix3 (0 : Fin 3) T d) + a.r (ix3 (1 : Fin 3) T d) + a.r (ix3 (2 : Fin 3) T d)
def m1 : EReal := moment1 (a.g T d) (a.m (ix2 T d))
def v1 : EReal := moment2 (a.g T d) (a.v (ix2 T d))
def delta : EReal := change (a.w (ix2 T d)) (a.g T d) (a.m (ix2 T d)) (a.v (ix2 T d))
/-- The sum, with the three it receives summed first. -/
theorem g_eq (z : EReal) (h : z = a.p (ix2 T d) + ∑ j : Fin 3, a.r (ix3 j T d)) : z = a.g T d := by
  rw [h, Fin.sum_univ_three]
  unfold g
  rw [add_assoc, add_assoc, add_assoc]

end StepArr

end Cert.Proof

end
-- ==== Proof.AdamInTile.lean ====
module

public import proofs.«01_k».proof.Proof.AdamSpec
public import proofs.«01_k».proof.Proof.Gen.Kernel6Ideal.Value
public import Idealize.ShloMosaic.Lib.Pipeline.ValueKit
public import Idealize.ShloMosaic.Lib.Claim
public import proofs.«01_k».proof.Proof.Writes

@[expose] public section

set_option maxRecDepth 16384

noncomputable section

namespace Cert.Kernel6Ideal.Hand

open Cert.Kernel6Ideal Cert.Kernel6Ideal.Gen
open Idealize.ShloMosaic Idealize.ShloMosaic.TcCoe Idealize.SL.Sem
open Idealize.ShloMosaic.Pipeline (Dat)
open Cert.Proof

/-! ### One tile -/

section tile
variable (a : StepArr 1056) (tok : Fin 176 → Fin 1056)
variable (p w m v : Vec Ideal S176x1024 .f32) (r0 r1 r2 : Vec Ideal S1x176x1024 .bf16)

/-- What the body reads is a tile of the arrays. -/
structure Fits : Prop where
  p : ∀ r d, p (ix2 r d) = a.p (ix2 (tok r) d)
  r0 : ∀ r d, r0 (ix3 (0 : Fin 1) r d) = a.r (ix3 (0 : Fin 3) (tok r) d)
  r1 : ∀ r d, r1 (ix3 (0 : Fin 1) r d) = a.r (ix3 (1 : Fin 3) (tok r) d)
  r2 : ∀ r d, r2 (ix3 (0 : Fin 1) r d) = a.r (ix3 (2 : Fin 3) (tok r) d)
  w : ∀ r d, w (ix2 r d) = a.w (ix2 (tok r) d)
  m : ∀ r d, m (ix2 r d) = a.m (ix2 (tok r) d)
  v : ∀ r d, v (ix2 r d) = a.v (ix2 (tok r) d)

variable (h : Fits a tok p w m v r0 r1 r2) (r : Fin 176) (d : Fin 1024)
include h

theorem g_at : k0_pay2 p r0 r1 r2 (ix2 r d) = a.g (tok r) d := by
  unfold StepArr.g
  pointwise [k0_pay2]
  rw [h.p, h.r0, h.r1, h.r2]
theorem m_at : k0_pay3 p r0 r1 r2 m (ix2 r d) = a.m1 (tok r) d := by
  unfold StepArr.m1 moment1
  rw [← g_at a tok p w m v r0 r1 r2 h, ← h.m]
  pointwise [k0_pay3]
theorem v_at : k0_pay4 p r0 r1 r2 v (ix2 r d) = a.v1 (tok r) d := by
  unfold StepArr.v1 moment2
  rw [← g_at a tok p w m v r0 r1 r2 h, ← h.v]
  pointwise [k0_pay4]
theorem delta_at : k0_pay1 w (k0_pay5 p r0 r1 r2 m) (k0_pay6 p r0 r1 r2 v) (ix2 r d) = a.delta (tok r) d := by
  have hm := m_at a tok p w m v r0 r1 r2 h r d
  have hv := v_at a tok p w m v r0 r1 r2 h r d
  unfold StepArr.m1 at hm
  unfold StepArr.v1 at hv
  unfold StepArr.delta change
  rw [← hm, ← hv, ← h.w]
  pointwise [k0_pay1, k0_pay5, k0_pay6]

end tile

end Cert.Kernel6Ideal.Hand

end
-- ==== Proof.AdamIn.lean ====
module

public import proofs.«01_k».proof.Proof.AdamInTile

@[expose] public section

set_option maxRecDepth 16384

noncomputable section

namespace Cert.Kernel6Ideal.Hand

open Cert.Kernel6Ideal Cert.Kernel6Ideal.Gen
open Idealize.ShloMosaic Idealize.ShloMosaic.TcCoe Idealize.SL.Sem
open Idealize.ShloMosaic.Pipeline (Dat)
open Cert.Proof

/-- Which block each window takes at a point. -/
theorem idx : ∀ t : Fin cfg0.N, win0_0.index t = ![t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ t.val < 6 :=
  (by decide +kernel : ∀ t : Fin grid0.N, _)
theorem points : cfg0.N = 6 := rfl

variable (m : (ℓ : Loc nD τ sig) → Buf (Elt Ideal) ℓ) (c : Dev nD)

/-- The arrays the kernel is called with. -/
def arr : StepArr 1056 := ⟨m ((c : Thread nD τ).loc main_arg0), m ((c : Thread nD τ).loc main_arg1), m ((c : Thread nD τ).loc main_arg2), m ((c : Thread nD τ).loc main_arg3), m ((c : Thread nD τ).loc main_arg4)⟩

variable (t : Fin cfg0.N)

/-- Row `r` of a point's tile, among all the rows. -/
def tokAt (r : Fin 176) : Fin 1056 := ⟨t.val * 176 + r.val, by have := lt_of_lt_of_eq t.isLt points; omega⟩

/-- Every point's blocks are its rows of the arrays. -/
theorem fits : Fits (arr m c) (tokAt t) (View.ld (iblk m c 0 t) r0_0) (View.ld (iblk m c 2 t) r0_0) (View.ld (iblk m c 3 t) r0_0) (View.ld (iblk m c 4 t) r0_0)
    (View.ld (iblk m c 1 t) r0_1) (View.ld (iblk m c 1 t) r0_2) (View.ld (iblk m c 1 t) r0_3) where
  p r d := by unfold tokAt arr; pointwise; blk_ext [iblk, V, idx t]
  r0 r d := by unfold tokAt arr; pointwise; blk_ext [iblk, V, idx t]
  r1 r d := by unfold tokAt arr; pointwise; blk_ext [iblk, V, idx t]
  r2 r d := by unfold tokAt arr; pointwise; blk_ext [iblk, V, idx t]
  w r d := by unfold tokAt arr; pointwise; blk_ext [iblk, V, idx t]
  m r d := by unfold tokAt arr; pointwise; blk_ext [iblk, V, idx t]
  v r d := by unfold tokAt arr; pointwise; blk_ext [iblk, V, idx t]

/-! ### The results, tile after tile -/

/-- The summed gradient. -/
theorem out_g : (dats m 0 c).arrAt 5 cfg0.N = fun i => (arr m c).g (i 0) (i 1) := by
  refine (dats m 0 c).arrAt_eq_of_covers 5 _ (by decide +kernel) fun t hf y => ?_
  have hN : t.val < 6 := lt_of_lt_of_eq t.isLt points
  blk_simp
  rw [after0_5]
  have hy : y = ix2 (y 0) (y 1) := eq_ix2 y
  have key : ∀ v : S176x1024.Idx → EReal, (∀ r (d : Fin 1024), v (ix2 r d) = (arr m c).g (tokAt t r) d) →
      v y = (arr m c).g (((View.whole main_v0_0).slice (win0_5.rect t)).emb y 0) (((View.whole main_v0_0).slice (win0_5.rect t)).emb y 1) := by
    intro v hv
    refine (congrArg v hy).trans ((hv (y 0) (y 1)).trans (congrArg₂ (arr m c).g (Fin.ext ?_) (Fin.ext ?_)))
    · show t.val * 176 + (y 0).val = _; blk_simp [idx t]
    · show (y 1).val = _; blk_simp [idx t]
  unfold out0_5
  rw [canon_window]
  refine key _ fun r d => ?_
  refine (put_rows_in _ _ r d r (Nat.zero_add _).symm).trans ?_
  exact g_at _ _ _ _ _ _ _ _ _ (fits m c t) r d

/-- The change of the weight. -/
theorem out_delta : (dats m 0 c).arrAt 6 cfg0.N = fun i => (arr m c).delta (i 0) (i 1) := by
  refine (dats m 0 c).arrAt_eq_of_covers 6 _ (by decide +kernel) fun t hf y => ?_
  have hN : t.val < 6 := lt_of_lt_of_eq t.isLt points
  blk_simp
  rw [after0_6]
  have hy : y = ix2 (y 0) (y 1) := eq_ix2 y
  have key : ∀ v : S176x1024.Idx → EReal, (∀ r (d : Fin 1024), v (ix2 r d) = (arr m c).delta (tokAt t r) d) →
      v y = (arr m c).delta (((View.whole main_v0_1).slice (win0_6.rect t)).emb y 0) (((View.whole main_v0_1).slice (win0_6.rect t)).emb y 1) := by
    intro v hv
    refine (congrArg v hy).trans ((hv (y 0) (y 1)).trans (congrArg₂ (arr m c).delta (Fin.ext ?_) (Fin.ext ?_)))
    · show t.val * 176 + (y 0).val = _; blk_simp [idx t]
    · show (y 1).val = _; blk_simp [idx t]
  unfold out0_6
  rw [canon_window]
  refine key _ fun r d => ?_
  refine (put_rows_in _ _ r d r (Nat.zero_add _).symm).trans ?_
  exact delta_at _ _ _ _ _ _ _ _ _ (fits m c t) r d

/-- The first moment. -/
theorem out_m : (dats m 0 c).arrAt 7 cfg0.N = fun i => (arr m c).m1 (i 0) (i 1) := by
  refine (dats m 0 c).arrAt_eq_of_covers 7 _ (by decide +kernel) fun t hf y => ?_
  have hN : t.val < 6 := lt_of_lt_of_eq t.isLt points
  blk_simp
  rw [after0_7]
  have hy : y = ix2 (y 0) (y 1) := eq_ix2 y
  have key : ∀ v : S176x1024.Idx → EReal, (∀ r (d : Fin 1024), v (ix2 r d) = (arr m c).m1 (tokAt t r) d) →
      v y = (arr m c).m1 (((View.whole main_v0_2).slice (win0_7.rect t)).emb y 0) (((View.whole main_v0_2).slice (win0_7.rect t)).emb y 1) := by
    intro v hv
    refine (congrArg v hy).trans ((hv (y 0) (y 1)).trans (congrArg₂ (arr m c).m1 (Fin.ext ?_) (Fin.ext ?_)))
    · show t.val * 176 + (y 0).val = _; blk_simp [idx t]
    · show (y 1).val = _; blk_simp [idx t]
  unfold out0_7
  rw [canon_window]
  refine key _ fun r d => ?_
  refine (put_rows_in _ _ r d r (Nat.zero_add _).symm).trans ?_
  exact m_at _ _ _ _ _ _ _ _ _ (fits m c t) r d

/-- The second moment. -/
theorem out_v : (dats m 0 c).arrAt 8 cfg0.N = fun i => (arr m c).v1 (i 0) (i 1) := by
  refine (dats m 0 c).arrAt_eq_of_covers 8 _ (by decide +kernel) fun t hf y => ?_
  have hN : t.val < 6 := lt_of_lt_of_eq t.isLt points
  blk_simp
  rw [after0_8]
  have hy : y = ix2 (y 0) (y 1) := eq_ix2 y
  have key : ∀ v : S176x1024.Idx → EReal, (∀ r (d : Fin 1024), v (ix2 r d) = (arr m c).v1 (tokAt t r) d) →
      v y = (arr m c).v1 (((View.whole main_v0_3).slice (win0_8.rect t)).emb y 0) (((View.whole main_v0_3).slice (win0_8.rect t)).emb y 1) := by
    intro v hv
    refine (congrArg v hy).trans ((hv (y 0) (y 1)).trans (congrArg₂ (arr m c).v1 (Fin.ext ?_) (Fin.ext ?_)))
    · show t.val * 176 + (y 0).val = _; blk_simp [idx t]
    · show (y 1).val = _; blk_simp [idx t]
  unfold out0_8
  rw [canon_window]
  refine key _ fun r d => ?_
  refine (put_rows_in _ _ r d r (Nat.zero_add _).symm).trans ?_
  exact v_at _ _ _ _ _ _ _ _ _ (fits m c t) r d

end Cert.Kernel6Ideal.Hand

end
-- ==== Proof.AdamInRef.lean ====
module

public import proofs.«01_k».proof.Proof.AdamSpec
public import proofs.«01_k».proof.Proof.Gen.Reference6Ideal.Read

@[expose] public section

set_option maxRecDepth 16384

noncomputable section

namespace Cert.Proof.StepArr

open Cert.Reference6Ideal Cert.Reference6Ideal.Gen Cert.Reference6Ideal.Read
open Idealize.ShloMosaic Idealize.ShloMosaic.TcCoe Idealize.SL.Sem

variable (a : StepArr 1056) (T : Fin 1056) (d : Fin 1024)

/-! ### What the reference computes for the transposed projection -/

theorem ri_g : val_main_v2 (F := Ideal) a.p a.r (ix2 T d) = a.g T d := by
  refine a.g_eq T d _ ?_
  pointwise [val_main_v2, val_main_v1, val_main_v0, val_main_cst]
theorem ri_m : val_main_v7 (F := Ideal) a.p a.r a.m (ix2 T d) = a.m1 T d := by
  unfold m1 moment1
  rw [← ri_g]
  pointwise [val_main_v7, val_main_v6, val_main_v5, val_main_v4, val_main_v3, val_main_cst_0, val_main_cst_1]
theorem ri_v : val_main_v13 (F := Ideal) a.p a.r a.v (ix2 T d) = a.v1 T d := by
  unfold v1 moment2
  rw [← ri_g]
  pointwise [val_main_v13, val_main_v12, val_main_v11, val_main_v10, val_main_v9, val_main_v8, val_main_cst_2, val_main_cst_3]
theorem ri_delta : val_main_v26 (F := Ideal) a.p a.r a.w a.m a.v (ix2 T d) = a.delta T d := by
  have hm := ri_m a T d
  have hv := ri_v a T d
  unfold m1 at hm
  unfold v1 at hv
  unfold delta change
  rw [← hm, ← hv]
  pointwise [val_main_v26, val_main_v25, val_main_v24, val_main_v23, val_main_v22, val_main_v21, val_main_v20, val_main_v19, val_main_v18, val_main_v17,
    val_main_v16, val_main_v15, val_main_v14, val_main_cst_4, val_main_cst_5, val_main_cst_6, val_main_cst_7, val_main_cst_8]

end Cert.Proof.StepArr

end
-- ==== Proof.AdamInValue.lean ====
/- The sum over the chips of the projection's gradient and its AdamW step: their frames, and that their two programs leave the same contents. -/
module

public import proofs.«01_k».proof.Defs
public import proofs.«01_k».proof.Proof.Gen.Kernel6
public import proofs.«01_k».proof.Proof.Gen.Reference6Ideal.Run
public import proofs.«01_k».proof.Proof.AdamIn
public import proofs.«01_k».proof.Proof.AdamInRef
public import Idealize.ShloMosaic.Lib.Quiescent

@[expose] public section

noncomputable section

namespace Cert.Proof

open Idealize.ShloMosaic Idealize.ShloMosaic.TcCoe Idealize.SL.Sem

set_option maxHeartbeats 4000000 in
/-- The two programs have one text: their label tables are the same function. -/
theorem table_same6 {F : FTy → Type} [FloatOps F] : (Cert.Kernel6Ideal.defs₀ (F := F)) = Cert.Kernel6.defs₀ (F := F) := by
  unfold Cert.Kernel6Ideal.defs₀ Cert.Kernel6.defs₀
  refine congrArg Defs.onTc ?_
  funext l x
  match l, x with
  | ⟨0, _⟩, (t, s) => rfl
  | ⟨n + 1, h⟩, _ => exact absurd h (Nat.not_lt.2 (Nat.le_add_left _ _))
theorem defs_same6 {F : FTy → Type} [FloatOps F] : (Cert.Kernel6Ideal.defs (F := F)) = Cert.Kernel6.defs (F := F) :=
  congrArg (Pipeline.defs (Cert.Kernel6Ideal.pcfgs (F := F))) table_same6

theorem frame_kernel6 : Cert.quiescent_Kernel6 := fun m ρ _ => by
  rw [← defs_same6]
  exact (θ_run Cert.Kernel6Ideal.defs _ _).mono (fun _ h => h) (Cert.Kernel6Ideal.Gen.frame (F := Bits) m ρ)

theorem frame_ideal6 : Cert.quiescent_Kernel6Ideal := fun m ρ _ => Cert.Kernel6Ideal.Gen.frame (F := Ideal) m ρ

theorem frame_reference6 : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

set_option maxHeartbeats 4000000 in
open Cert.Kernel6Ideal.Hand in
theorem value6 : Cert.algebraic_Kernel6Ideal_Reference6Ideal := by
  intro m g m' g' _ hargs
  refine ⟨fun c => fun i : (⟨2, ![1056, 1024]⟩ : Shape).Idx => (arr m c).g (i 0) (i 1),
    fun c => fun i : (⟨2, ![1056, 1024]⟩ : Shape).Idx => (arr m c).delta (i 0) (i 1),
    fun c => fun i : (⟨2, ![1056, 1024]⟩ : Shape).Idx => (arr m c).m1 (i 0) (i 1),
    fun c => fun i : (⟨2, ![1056, 1024]⟩ : Shape).Idx => (arr m c).v1 (i 0) (i 1), ?_, ?_⟩
  · refine (θ_run Cert.Kernel6Ideal.defs _ _).mono (fun r h c => ?_) (Cert.Kernel6Ideal.Value.run_blocks m g)
    exact ⟨(h c).1.trans (out_g m c), (h c).2.1.trans (out_delta m c), (h c).2.2.1.trans (out_m m c), (h c).2.2.2.1.trans (out_v m c), (h c).2.2.2.2⟩
  · refine (θ_run Cert.Reference6Ideal.defs _ _).mono (fun r h c => ?_) (Cert.Reference6Ideal.Value.run (F := Ideal) m' g')
    obtain ⟨a0, a1, a2, a3, a4⟩ := hargs c
    obtain ⟨h0, h1, h2, h3, hrest⟩ := h c
    rw [Cert.Reference6Ideal.Read.val_main_v2_eq, a0, a1] at h0
    rw [Cert.Reference6Ideal.Read.val_main_v26_eq, a0, a1, a2, a3, a4] at h1
    rw [Cert.Reference6Ideal.Read.val_main_v7_eq, a0, a1, a3] at h2
    rw [Cert.Reference6Ideal.Read.val_main_v13_eq, a0, a1, a4] at h3
    refine ⟨?_, ?_, ?_, ?_, hrest⟩
    · exact h0.trans (funext (at_ix2 fun T d => (arr m c).ri_g T d))
    · exact h1.trans (funext (at_ix2 fun T d => (arr m c).ri_delta T d))
    · exact h2.trans (funext (at_ix2 fun T d => (arr m c).ri_m T d))
    · exact h3.trans (funext (at_ix2 fun T d => (arr m c).ri_v T d))

end Cert.Proof

end
-- ==== Proof.AdamSqFrame.lean ====
/- The run of the sums over the chips for three weights: what every point leaves, the body once, and the run over any float values.
   The generated form of this frame, which it follows, does not compile within the default limits. -/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel7Ideal.Hand

open Cert.Kernel7Ideal Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl
theorem V_main_arg11 (c : Dev nD) : V m c main_arg11 = m ((c : Thread nD τ).loc main_arg11) := rfl
theorem V_main_arg12 (c : Dev nD) : V m c main_arg12 = m ((c : Thread nD τ).loc main_arg12) := rfl
theorem V_main_arg13 (c : Dev nD) : V m c main_arg13 = m ((c : Thread nD τ).loc main_arg13) := rfl
theorem V_main_arg14 (c : Dev nD) : V m c main_arg14 = m ((c : Thread nD τ).loc main_arg14) := rfl

/-! ## The windows' blocks -/

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1620000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      ((h c).1 12).trans (((dats 0 c).arrAt_in 12 rfl _).trans ((hA c 12).trans (V_main_arg12 m c))),
      ((h c).1 13).trans (((dats 0 c).arrAt_in 13 rfl _).trans ((hA c 13).trans (V_main_arg13 m c))),
      ((h c).1 14).trans (((dats 0 c).arrAt_in 14 rfl _).trans ((hA c 14).trans (V_main_arg14 m c)))⟩) h

/-! ## The body's accesses -/

abbrev r0_0 : Rect S32x1024 := Rect.unit (s := S32x1024) ![0, 0] S32x1024.size inb_S32x1024_S32x1024_0_0
abbrev r0_1 : Rect S3x32x1024 := Rect.unit (s := S3x32x1024) ![0, 0, 0] S1x32x1024.size inb_S3x32x1024_S1x32x1024_0_0_0
abbrev r0_2 : Rect S3x32x1024 := Rect.unit (s := S3x32x1024) ![1, 0, 0] S1x32x1024.size inb_S3x32x1024_S1x32x1024_1_0_0
abbrev r0_3 : Rect S3x32x1024 := Rect.unit (s := S3x32x1024) ![2, 0, 0] S1x32x1024.size inb_S3x32x1024_S1x32x1024_2_0_0

/-! ## What the body leaves in each output window's buffer -/

/-! ### Values of the body that the stores' payloads, spelt out, would write more than once

    Each is a vector the body binds (often a part call's result), stated over the input windows' blocks and
    numbered on from the skeleton's payload functions (`k0_pay17` …, after `k0_pay16`), so that
    `out0_W` and the values after it name it instead of spelling it out (`unfold_out out0_W` opens a canon
    with them, `unfold_payloads` opens them with the payloads); the comment after each is the printed function's
    name for the value (a count appended where that name is bound again). -/

def k0_pay17 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : FVec F S32x1024 .f32 :=
  k0_pay7 (View.ld x1 r0_0) (View.ld x4 r0_1) (View.ld x4 r0_2) (View.ld x4 r0_3) -- `v56`
def k0_pay18 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : FVec F S32x1024 .f32 :=
  k0_pay11 (View.ld x2 r0_0) (View.ld x5 r0_1) -- `v92`
def k0_pay19 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : FVec F S32x1024 .bf16 :=
  k0_pay12 (View.ld x5 r0_2) -- `v94`

def out0_15 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay1 (View.ld x0 r0_0) (View.ld x3 r0_1) (View.ld x3 r0_2) (View.ld x3 r0_3)⟩]

theorem cover0_15 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_16 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay7 (View.ld x1 r0_0) (View.ld x4 r0_1) (View.ld x4 r0_2) (View.ld x4 r0_3)⟩]

theorem cover0_16 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_17 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay13 (k0_pay18 x0 x1 x2 x3 x4 x5 x6 x7 x8 x9 x10 x11 x12 x13 x14) (k0_pay19 x0 x1 x2 x3 x4 x5 x6 x7 x8 x9 x10 x11 x12 x13 x14) (View.ld x5 r0_3)⟩]

theorem cover0_17 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_18 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay6 (View.ld x6 r0_0) (k0_pay4 (View.ld x0 r0_0) (View.ld x3 r0_1) (View.ld x3 r0_2) (View.ld x3 r0_3) (View.ld x9 r0_0)) (k0_pay5 (View.ld x0 r0_0) (View.ld x3 r0_1) (View.ld x3 r0_2) (View.ld x3 r0_3) (View.ld x12 r0_0))⟩]

theorem cover0_18 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_19 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay10 (k0_pay17 x0 x1 x2 x3 x4 x5 x6 x7 x8 x9 x10 x11 x12 x13 x14) (View.ld x7 r0_0) (View.ld x10 r0_0) (View.ld x13 r0_0)⟩]

theorem cover0_19 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_20 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay16 (k0_pay18 x0 x1 x2 x3 x4 x5 x6 x7 x8 x9 x10 x11 x12 x13 x14) (k0_pay19 x0 x1 x2 x3 x4 x5 x6 x7 x8 x9 x10 x11 x12 x13 x14) (View.ld x5 r0_3) (View.ld x8 r0_0) (View.ld x11 r0_0) (View.ld x14 r0_0)⟩]

theorem cover0_20 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_21 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay2 (View.ld x0 r0_0) (View.ld x3 r0_1) (View.ld x3 r0_2) (View.ld x3 r0_3) (View.ld x9 r0_0)⟩]

theorem cover0_21 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_22 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay8 (k0_pay17 x0 x1 x2 x3 x4 x5 x6 x7 x8 x9 x10 x11 x12 x13 x14) (View.ld x10 r0_0)⟩]

theorem cover0_22 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_23 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay14 (k0_pay18 x0 x1 x2 x3 x4 x5 x6 x7 x8 x9 x10 x11 x12 x13 x14) (k0_pay19 x0 x1 x2 x3 x4 x5 x6 x7 x8 x9 x10 x11 x12 x13 x14) (View.ld x5 r0_3) (View.ld x11 r0_0)⟩]

theorem cover0_23 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_24 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay3 (View.ld x0 r0_0) (View.ld x3 r0_1) (View.ld x3 r0_2) (View.ld x3 r0_3) (View.ld x12 r0_0)⟩]

theorem cover0_24 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_25 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay9 (k0_pay17 x0 x1 x2 x3 x4 x5 x6 x7 x8 x9 x10 x11 x12 x13 x14) (View.ld x13 r0_0)⟩]

theorem cover0_25 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

def out0_26 (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) : Vec F S32x1024 .f32 :=
  View.canon [⟨r0_0, k0_pay15 (k0_pay18 x0 x1 x2 x3 x4 x5 x6 x7 x8 x9 x10 x11 x12 x13 x14) (k0_pay19 x0 x1 x2 x3 x4 x5 x6 x7 x8 x9 x10 x11 x12 x13 x14) (View.ld x5 r0_3) (View.ld x14 r0_0)⟩]

theorem cover0_26 (p0 : Vec F S32x1024 .f32) (y : S32x1024.Idx) :
    ∃ pc ∈ ([⟨r0_0, p0⟩] : List (View.Piece (Elt F) S32x1024 .f32)), y ∈ pc.1.set :=
  View.cover_of_tiled [⟨r0_0, p0⟩] S32x1024.size (by rfl) y

/-! ## The body's triple -/

set_option maxHeartbeats 1000000 in
theorem sound_kernel (c : Dev nD) (E : Set ℕ) (i : grid0.Coords) (arg1 : Memref sig .tc .vmem S32x1024 .f32) (harg1 : arg1.IsWhole) (arg2 : Memref sig .tc .vmem S32x1024 .f32) (harg2 : arg2.IsWhole) (arg3 : Memref sig .tc .vmem S32x1024 .f32) (harg3 : arg3.IsWhole) (arg4 : Memref sig .tc .vmem S3x32x1024 .bf16) (harg4 : arg4.IsWhole) (arg5 : Memref sig .tc .vmem S3x32x1024 .bf16) (harg5 : arg5.IsWhole) (arg6 : Memref sig .tc .vmem S3x32x1024 .bf16) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S32x1024 .f32) (harg12 : arg12.IsWhole) (arg13 : Memref sig .tc .vmem S32x1024 .f32) (harg13 : arg13.IsWhole) (arg14 : Memref sig .tc .vmem S32x1024 .f32) (harg14 : arg14.IsWhole) (arg15 : Memref sig .tc .vmem S32x1024 .f32) (harg15 : arg15.IsWhole) (arg16 : Memref sig .tc .vmem S32x1024 .f32) (harg16 : arg16.IsWhole) (arg17 : Memref sig .tc .vmem S32x1024 .f32) (harg17 : arg17.IsWhole) (arg18 : Memref sig .tc .vmem S32x1024 .f32) (harg18 : arg18.IsWhole) (arg19 : Memref sig .tc .vmem S32x1024 .f32) (harg19 : arg19.IsWhole) (arg20 : Memref sig .tc .vmem S32x1024 .f32) (harg20 : arg20.IsWhole) (arg21 : Memref sig .tc .vmem S32x1024 .f32) (harg21 : arg21.IsWhole) (arg22 : Memref sig .tc .vmem S32x1024 .f32) (harg22 : arg22.IsWhole) (arg23 : Memref sig .tc .vmem S32x1024 .f32) (harg23 : arg23.IsWhole) (arg24 : Memref sig .tc .vmem S32x1024 .f32) (harg24 : arg24.IsWhole) (arg25 : Memref sig .tc .vmem S32x1024 .f32) (harg25 : arg25.IsWhole) (arg26 : Memref sig .tc .vmem S32x1024 .f32) (harg26 : arg26.IsWhole) (arg27 : Memref sig .tc .vmem S32x1024 .f32) (harg27 : arg27.IsWhole)
    (x0 : Vec F S32x1024 .f32) (x1 : Vec F S32x1024 .f32) (x2 : Vec F S32x1024 .f32) (x3 : Vec F S3x32x1024 .bf16) (x4 : Vec F S3x32x1024 .bf16) (x5 : Vec F S3x32x1024 .bf16) (x6 : Vec F S32x1024 .f32) (x7 : Vec F S32x1024 .f32) (x8 : Vec F S32x1024 .f32) (x9 : Vec F S32x1024 .f32) (x10 : Vec F S32x1024 .f32) (x11 : Vec F S32x1024 .f32) (x12 : Vec F S32x1024 .f32) (x13 : Vec F S32x1024 .f32) (x14 : Vec F S32x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14) ∗ owns (c : Thread nD τ) arg17 fullShare (out0_16 x0 x1 x2 x3 x4 x5 x6 x7 x8 x9 x10 x11 x12 x13 x14) ∗ owns (c : Thread nD τ) arg18 fullShare (out0_17 x0 x1 x2 x3 x4 x5 x6 x7 x8 x9 x10 x11 x12 x13 x14) ∗ owns (c : Thread nD τ) arg19 fullShare (out0_18 x0 x1 x2 x3 x4 x5 x6 x7 x8 x9 x10 x11 x12 x13 x14) ∗ owns (c : Thread nD τ) arg20 fullShare (out0_19 x0 x1 x2 x3 x4 x5 x6 x7 x8 x9 x10 x11 x12 x13 x14) ∗ owns (c : Thread nD τ) arg21 fullShare (out0_20 x0 x1 x2 x3 x4 x5 x6 x7 x8 x9 x10 x11 x12 x13 x14) ∗ owns (c : Thread nD τ) arg22 fullShare (out0_21 x0 x1 x2 x3 x4 x5 x6 x7 x8 x9 x10 x11 x12 x13 x14) ∗ owns (c : Thread nD τ) arg23 fullShare (out0_22 x0 x1 x2 x3 x4 x5 x6 x7 x8 x9 x10 x11 x12 x13 x14) ∗ owns (c : Thread nD τ) arg24 fullShare (out0_23 x0 x1 x2 x3 x4 x5 x6 x7 x8 x9 x10 x11 x12 x13 x14) ∗ owns (c : Thread nD τ) arg25 fullShare (out0_24 x0 x1 x2 x3 x4 x5 x6 x7 x8 x9 x10 x11 x12 x13 x14) ∗ owns (c : Thread nD τ) arg26 fullShare (out0_25 x0 x1 x2 x3 x4 x5 x6 x7 x8 x9 x10 x11 x12 x13 x14) ∗ owns (c : Thread nD τ) arg27 fullShare (out0_26 x0 x1 x2 x3 x4 x5 x6 x7 x8 x9 x10 x11 x12 x13 x14)) -∗ K ⟨⟩))
      ⊢ wp frame (wpE (defs₀ (F := F)) Variants.none c none) E (cc0_chip_sum_adamw_squares i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_chip_sum_adamw_squares_eq_skeleton]; unfold cc0_chip_sum_adamw_squares_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_26 _)).trans ?_
  rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The same, as the launch takes it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel7Ideal.Hand

end
-- ==== Proof.AdamSqTile.lean ====
module

public import proofs.«01_k».proof.Proof.AdamSpec
public import proofs.«01_k».proof.Proof.AdamSqFrame
public import Idealize.ShloMosaic.Lib.Pipeline.ValueKit
public import Idealize.ShloMosaic.Lib.Claim
public import proofs.«01_k».proof.Proof.Writes

@[expose] public section

set_option maxRecDepth 16384

noncomputable section

namespace Cert.Kernel7Ideal.Hand

open Cert.Kernel7Ideal Cert.Kernel7Ideal.Gen
open Idealize.ShloMosaic Idealize.ShloMosaic.TcCoe Idealize.SL.Sem
open Idealize.ShloMosaic.Pipeline (Dat)
open Cert.Proof

/-! ### One tile, of each of the three weights -/

section tile
variable (a : StepArr 128) (tok : Fin 32 → Fin 128)
variable (p w m v : Vec Ideal S32x1024 .f32) (r0 r1 r2 : Vec Ideal S1x32x1024 .bf16)

/-- What the body reads is a tile of the arrays. -/
structure Fits : Prop where
  p : ∀ r d, p (ix2 r d) = a.p (ix2 (tok r) d)
  r0 : ∀ r d, r0 (ix3 (0 : Fin 1) r d) = a.r (ix3 (0 : Fin 3) (tok r) d)
  r1 : ∀ r d, r1 (ix3 (0 : Fin 1) r d) = a.r (ix3 (1 : Fin 3) (tok r) d)
  r2 : ∀ r d, r2 (ix3 (0 : Fin 1) r d) = a.r (ix3 (2 : Fin 3) (tok r) d)
  w : ∀ r d, w (ix2 r d) = a.w (ix2 (tok r) d)
  m : ∀ r d, m (ix2 r d) = a.m (ix2 (tok r) d)
  v : ∀ r d, v (ix2 r d) = a.v (ix2 (tok r) d)

variable (h : Fits a tok p w m v r0 r1 r2) (r : Fin 32) (d : Fin 1024)
include h

theorem g0_at : k0_pay1 p r0 r1 r2 (ix2 r d) = a.g (tok r) d := by
  unfold StepArr.g
  pointwise [k0_pay1]
  rw [h.p, h.r0, h.r1, h.r2]
theorem m0_at : k0_pay2 p r0 r1 r2 m (ix2 r d) = a.m1 (tok r) d := by
  unfold StepArr.m1 moment1
  rw [← g0_at a tok p w m v r0 r1 r2 h, ← h.m]
  pointwise [k0_pay2]
theorem v0_at : k0_pay3 p r0 r1 r2 v (ix2 r d) = a.v1 (tok r) d := by
  unfold StepArr.v1 moment2
  rw [← g0_at a tok p w m v r0 r1 r2 h, ← h.v]
  pointwise [k0_pay3]
theorem delta0_at : k0_pay6 w (k0_pay4 p r0 r1 r2 m) (k0_pay5 p r0 r1 r2 v) (ix2 r d) = a.delta (tok r) d := by
  have hm := m0_at a tok p w m v r0 r1 r2 h r d
  have hv := v0_at a tok p w m v r0 r1 r2 h r d
  unfold StepArr.m1 at hm
  unfold StepArr.v1 at hv
  unfold StepArr.delta change
  rw [← hm, ← hv, ← h.w]
  pointwise [k0_pay6, k0_pay5, k0_pay4]

theorem g1_at : k0_pay7 p r0 r1 r2 (ix2 r d) = a.g (tok r) d := by
  unfold StepArr.g
  pointwise [k0_pay7]
  rw [h.p, h.r0, h.r1, h.r2]
theorem m1_at : k0_pay8 (k0_pay7 p r0 r1 r2) m (ix2 r d) = a.m1 (tok r) d := by
  unfold StepArr.m1 moment1
  rw [← g1_at a tok p w m v r0 r1 r2 h, ← h.m]
  pointwise [k0_pay8]
theorem v1_at : k0_pay9 (k0_pay7 p r0 r1 r2) v (ix2 r d) = a.v1 (tok r) d := by
  unfold StepArr.v1 moment2
  rw [← g1_at a tok p w m v r0 r1 r2 h, ← h.v]
  pointwise [k0_pay9]
theorem delta1_at : k0_pay10 (k0_pay7 p r0 r1 r2) w m v (ix2 r d) = a.delta (tok r) d := by
  have hm := m1_at a tok p w m v r0 r1 r2 h r d
  have hv := v1_at a tok p w m v r0 r1 r2 h r d
  unfold StepArr.m1 at hm
  unfold StepArr.v1 at hv
  unfold StepArr.delta change
  rw [← hm, ← hv, ← h.w]
  pointwise [k0_pay10, k0_pay9, k0_pay8]

theorem g2_at : k0_pay13 (k0_pay11 p r0) (k0_pay12 r1) r2 (ix2 r d) = a.g (tok r) d := by
  unfold StepArr.g
  pointwise [k0_pay13, k0_pay12, k0_pay11]
  rw [h.p, h.r0, h.r1, h.r2]
theorem m2_at : k0_pay14 (k0_pay11 p r0) (k0_pay12 r1) r2 m (ix2 r d) = a.m1 (tok r) d := by
  unfold StepArr.m1 moment1
  rw [← g2_at a tok p w m v r0 r1 r2 h, ← h.m]
  pointwise [k0_pay14]
theorem v2_at : k0_pay15 (k0_pay11 p r0) (k0_pay12 r1) r2 v (ix2 r d) = a.v1 (tok r) d := by
  unfold StepArr.v1 moment2
  rw [← g2_at a tok p w m v r0 r1 r2 h, ← h.v]
  pointwise [k0_pay15]
theorem delta2_at : k0_pay16 (k0_pay11 p r0) (k0_pay12 r1) r2 w m v (ix2 r d) = a.delta (tok r) d := by
  have hm := m2_at a tok p w m v r0 r1 r2 h r d
  have hv := v2_at a tok p w m v r0 r1 r2 h r d
  unfold StepArr.m1 at hm
  unfold StepArr.v1 at hv
  unfold StepArr.delta change
  rw [← hm, ← hv, ← h.w]
  pointwise [k0_pay16]

end tile

end Cert.Kernel7Ideal.Hand

end
-- ==== Proof.AdamSq.lean ====
module

public import proofs.«01_k».proof.Proof.AdamSqTile

@[expose] public section

set_option maxRecDepth 16384

noncomputable section

namespace Cert.Kernel7Ideal.Hand

open Cert.Kernel7Ideal Cert.Kernel7Ideal.Gen
open Idealize.ShloMosaic Idealize.ShloMosaic.TcCoe Idealize.SL.Sem
open Idealize.ShloMosaic.Pipeline (Dat)
open Cert.Proof

/-! Which block each window takes at a point. -/

theorem idx0 : ∀ t : Fin cfg0.N, win0_0.index t = ![t.val, 0] ∧ win0_1.index t = ![t.val, 0] ∧ win0_2.index t = ![t.val, 0] ∧ win0_3.index t = ![0, t.val, 0] ∧ win0_4.index t = ![0, t.val, 0] ∧ win0_5.index t = ![0, t.val, 0] ∧ win0_6.index t = ![t.val, 0] ∧ win0_7.index t = ![t.val, 0] ∧ win0_8.index t = ![t.val, 0] :=
  (by decide +kernel : ∀ t : Fin grid0.N, _)
theorem idx1 : ∀ t : Fin cfg0.N, win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)
theorem idx2 : ∀ t : Fin cfg0.N, win0_18.index t = ![t.val, 0] ∧ win0_19.index t = ![t.val, 0] ∧ win0_20.index t = ![t.val, 0] ∧ win0_21.index t = ![t.val, 0] ∧ win0_22.index t = ![t.val, 0] ∧ win0_23.index t = ![t.val, 0] ∧ win0_24.index t = ![t.val, 0] ∧ win0_25.index t = ![t.val, 0] ∧ win0_26.index t = ![t.val, 0] :=
  (by decide +kernel : ∀ t : Fin grid0.N, _)
theorem idx (t : Fin cfg0.N) : (win0_0.index t = ![t.val, 0] ∧ win0_1.index t = ![t.val, 0] ∧ win0_2.index t = ![t.val, 0] ∧ win0_3.index t = ![0, t.val, 0] ∧ win0_4.index t = ![0, t.val, 0] ∧ win0_5.index t = ![0, t.val, 0] ∧ win0_6.index t = ![t.val, 0] ∧ win0_7.index t = ![t.val, 0] ∧ win0_8.index t = ![t.val, 0]) ∧ (win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0]) ∧ (win0_18.index t = ![t.val, 0] ∧ win0_19.index t = ![t.val, 0] ∧ win0_20.index t = ![t.val, 0] ∧ win0_21.index t = ![t.val, 0] ∧ win0_22.index t = ![t.val, 0] ∧ win0_23.index t = ![t.val, 0] ∧ win0_24.index t = ![t.val, 0] ∧ win0_25.index t = ![t.val, 0] ∧ win0_26.index t = ![t.val, 0]) := ⟨idx0 t, idx1 t, idx2 t⟩
theorem points : cfg0.N = 4 := rfl

variable (m : (ℓ : Loc nD τ sig) → Buf (Elt Ideal) ℓ) (c : Dev nD)

/-- The arrays the kernel is called with, for weight 1. -/
def arr0 : StepArr 128 := ⟨m ((c : Thread nD τ).loc main_arg0), m ((c : Thread nD τ).loc main_arg3), m ((c : Thread nD τ).loc main_arg6), m ((c : Thread nD τ).loc main_arg9), m ((c : Thread nD τ).loc main_arg12)⟩
/-- The arrays the kernel is called with, for weight 2. -/
def arr1 : StepArr 128 := ⟨m ((c : Thread nD τ).loc main_arg1), m ((c : Thread nD τ).loc main_arg4), m ((c : Thread nD τ).loc main_arg7), m ((c : Thread nD τ).loc main_arg10), m ((c : Thread nD τ).loc main_arg13)⟩
/-- The arrays the kernel is called with, for weight 3. -/
def arr2 : StepArr 128 := ⟨m ((c : Thread nD τ).loc main_arg2), m ((c : Thread nD τ).loc main_arg5), m ((c : Thread nD τ).loc main_arg8), m ((c : Thread nD τ).loc main_arg11), m ((c : Thread nD τ).loc main_arg14)⟩

variable (t : Fin cfg0.N)

/-- Row `r` of a point's tile, among all the rows. -/
def tokAt (r : Fin 32) : Fin 128 := ⟨t.val * 32 + r.val, by have := lt_of_lt_of_eq t.isLt points; omega⟩

/-- Every point's blocks are its rows of the arrays. -/
theorem fits0 : Fits (arr0 m c) (tokAt t) (View.ld (iblk m c 0 t) r0_0) (View.ld (iblk m c 6 t) r0_0) (View.ld (iblk m c 9 t) r0_0) (View.ld (iblk m c 12 t) r0_0)
    (View.ld (iblk m c 3 t) r0_1) (View.ld (iblk m c 3 t) r0_2) (View.ld (iblk m c 3 t) r0_3) where
  p r d := by unfold tokAt arr0; pointwise; blk_ext [iblk, V, idx t]
  r0 r d := by unfold tokAt arr0; pointwise; blk_ext [iblk, V, idx t]
  r1 r d := by unfold tokAt arr0; pointwise; blk_ext [iblk, V, idx t]
  r2 r d := by unfold tokAt arr0; pointwise; blk_ext [iblk, V, idx t]
  w r d := by unfold tokAt arr0; pointwise; blk_ext [iblk, V, idx t]
  m r d := by unfold tokAt arr0; pointwise; blk_ext [iblk, V, idx t]
  v r d := by unfold tokAt arr0; pointwise; blk_ext [iblk, V, idx t]
/-- Every point's blocks are its rows of the arrays. -/
theorem fits1 : Fits (arr1 m c) (tokAt t) (View.ld (iblk m c 1 t) r0_0) (View.ld (iblk m c 7 t) r0_0) (View.ld (iblk m c 10 t) r0_0) (View.ld (iblk m c 13 t) r0_0)
    (View.ld (iblk m c 4 t) r0_1) (View.ld (iblk m c 4 t) r0_2) (View.ld (iblk m c 4 t) r0_3) where
  p r d := by unfold tokAt arr1; pointwise; blk_ext [iblk, V, idx t]
  r0 r d := by unfold tokAt arr1; pointwise; blk_ext [iblk, V, idx t]
  r1 r d := by unfold tokAt arr1; pointwise; blk_ext [iblk, V, idx t]
  r2 r d := by unfold tokAt arr1; pointwise; blk_ext [iblk, V, idx t]
  w r d := by unfold tokAt arr1; pointwise; blk_ext [iblk, V, idx t]
  m r d := by unfold tokAt arr1; pointwise; blk_ext [iblk, V, idx t]
  v r d := by unfold tokAt arr1; pointwise; blk_ext [iblk, V, idx t]
/-- Every point's blocks are its rows of the arrays. -/
theorem fits2 : Fits (arr2 m c) (tokAt t) (View.ld (iblk m c 2 t) r0_0) (View.ld (iblk m c 8 t) r0_0) (View.ld (iblk m c 11 t) r0_0) (View.ld (iblk m c 14 t) r0_0)
    (View.ld (iblk m c 5 t) r0_1) (View.ld (iblk m c 5 t) r0_2) (View.ld (iblk m c 5 t) r0_3) where
  p r d := by unfold tokAt arr2; pointwise; blk_ext [iblk, V, idx t]
  r0 r d := by unfold tokAt arr2; pointwise; blk_ext [iblk, V, idx t]
  r1 r d := by unfold tokAt arr2; pointwise; blk_ext [iblk, V, idx t]
  r2 r d := by unfold tokAt arr2; pointwise; blk_ext [iblk, V, idx t]
  w r d := by unfold tokAt arr2; pointwise; blk_ext [iblk, V, idx t]
  m r d := by unfold tokAt arr2; pointwise; blk_ext [iblk, V, idx t]
  v r d := by unfold tokAt arr2; pointwise; blk_ext [iblk, V, idx t]

/-! ### The results, tile after tile -/

/-- The summed gradient. -/
theorem out_g0 : (dats m 0 c).arrAt 15 cfg0.N = fun i => (arr0 m c).g (i 0) (i 1) := by
  refine (dats m 0 c).arrAt_eq_of_covers 15 _ (by decide +kernel) fun t hf y => ?_
  have hN : t.val < 4 := lt_of_lt_of_eq t.isLt points
  blk_simp
  rw [after0_15]
  have hy : y = ix2 (y 0) (y 1) := eq_ix2 y
  have key : ∀ v : S32x1024.Idx → EReal, (∀ r (d : Fin 1024), v (ix2 r d) = (arr0 m c).g (tokAt t r) d) →
      v y = (arr0 m c).g (((View.whole main_v0_0).slice (win0_15.rect t)).emb y 0) (((View.whole main_v0_0).slice (win0_15.rect t)).emb y 1) := by
    intro v hv
    refine (congrArg v hy).trans ((hv (y 0) (y 1)).trans (congrArg₂ (arr0 m c).g (Fin.ext ?_) (Fin.ext ?_)))
    · show t.val * 32 + (y 0).val = _; blk_simp [idx t]
    · show (y 1).val = _; blk_simp [idx t]
  unfold out0_15
  rw [canon_window]
  refine key _ fun r d => ?_
  refine (put_rows_in _ _ r d r (Nat.zero_add _).symm).trans ?_
  exact g0_at _ _ _ _ _ _ _ _ _ (fits0 m c t) r d

/-- The summed gradient. -/
theorem out_g1 : (dats m 0 c).arrAt 16 cfg0.N = fun i => (arr1 m c).g (i 0) (i 1) := by
  refine (dats m 0 c).arrAt_eq_of_covers 16 _ (by decide +kernel) fun t hf y => ?_
  have hN : t.val < 4 := lt_of_lt_of_eq t.isLt points
  blk_simp
  rw [after0_16]
  have hy : y = ix2 (y 0) (y 1) := eq_ix2 y
  have key : ∀ v : S32x1024.Idx → EReal, (∀ r (d : Fin 1024), v (ix2 r d) = (arr1 m c).g (tokAt t r) d) →
      v y = (arr1 m c).g (((View.whole main_v0_1).slice (win0_16.rect t)).emb y 0) (((View.whole main_v0_1).slice (win0_16.rect t)).emb y 1) := by
    intro v hv
    refine (congrArg v hy).trans ((hv (y 0) (y 1)).trans (congrArg₂ (arr1 m c).g (Fin.ext ?_) (Fin.ext ?_)))
    · show t.val * 32 + (y 0).val = _; blk_simp [idx t]
    · show (y 1).val = _; blk_simp [idx t]
  unfold out0_16
  rw [canon_window]
  refine key _ fun r d => ?_
  refine (put_rows_in _ _ r d r (Nat.zero_add _).symm).trans ?_
  exact g1_at _ _ _ _ _ _ _ _ _ (fits1 m c t) r d

/-- The summed gradient. -/
theorem out_g2 : (dats m 0 c).arrAt 17 cfg0.N = fun i => (arr2 m c).g (i 0) (i 1) := by
  refine (dats m 0 c).arrAt_eq_of_covers 17 _ (by decide +kernel) fun t hf y => ?_
  have hN : t.val < 4 := lt_of_lt_of_eq t.isLt points
  blk_simp
  rw [after0_17]
  have hy : y = ix2 (y 0) (y 1) := eq_ix2 y
  have key : ∀ v : S32x1024.Idx → EReal, (∀ r (d : Fin 1024), v (ix2 r d) = (arr2 m c).g (tokAt t r) d) →
      v y = (arr2 m c).g (((View.whole main_v0_2).slice (win0_17.rect t)).emb y 0) (((View.whole main_v0_2).slice (win0_17.rect t)).emb y 1) := by
    intro v hv
    refine (congrArg v hy).trans ((hv (y 0) (y 1)).trans (congrArg₂ (arr2 m c).g (Fin.ext ?_) (Fin.ext ?_)))
    · show t.val * 32 + (y 0).val = _; blk_simp [idx t]
    · show (y 1).val = _; blk_simp [idx t]
  unfold out0_17 k0_pay19 k0_pay18
  rw [canon_window]
  refine key _ fun r d => ?_
  refine (put_rows_in _ _ r d r (Nat.zero_add _).symm).trans ?_
  exact g2_at _ _ _ _ _ _ _ _ _ (fits2 m c t) r d

/-- The change of the weight. -/
theorem out_delta0 : (dats m 0 c).arrAt 18 cfg0.N = fun i => (arr0 m c).delta (i 0) (i 1) := by
  refine (dats m 0 c).arrAt_eq_of_covers 18 _ (by decide +kernel) fun t hf y => ?_
  have hN : t.val < 4 := lt_of_lt_of_eq t.isLt points
  blk_simp
  rw [after0_18]
  have hy : y = ix2 (y 0) (y 1) := eq_ix2 y
  have key : ∀ v : S32x1024.Idx → EReal, (∀ r (d : Fin 1024), v (ix2 r d) = (arr0 m c).delta (tokAt t r) d) →
      v y = (arr0 m c).delta (((View.whole main_v0_3).slice (win0_18.rect t)).emb y 0) (((View.whole main_v0_3).slice (win0_18.rect t)).emb y 1) := by
    intro v hv
    refine (congrArg v hy).trans ((hv (y 0) (y 1)).trans (congrArg₂ (arr0 m c).delta (Fin.ext ?_) (Fin.ext ?_)))
    · show t.val * 32 + (y 0).val = _; blk_simp [idx t]
    · show (y 1).val = _; blk_simp [idx t]
  unfold out0_18
  rw [canon_window]
  refine key _ fun r d => ?_
  refine (put_rows_in _ _ r d r (Nat.zero_add _).symm).trans ?_
  exact delta0_at _ _ _ _ _ _ _ _ _ (fits0 m c t) r d

/-- The change of the weight. -/
theorem out_delta1 : (dats m 0 c).arrAt 19 cfg0.N = fun i => (arr1 m c).delta (i 0) (i 1) := by
  refine (dats m 0 c).arrAt_eq_of_covers 19 _ (by decide +kernel) fun t hf y => ?_
  have hN : t.val < 4 := lt_of_lt_of_eq t.isLt points
  blk_simp
  rw [after0_19]
  have hy : y = ix2 (y 0) (y 1) := eq_ix2 y
  have key : ∀ v : S32x1024.Idx → EReal, (∀ r (d : Fin 1024), v (ix2 r d) = (arr1 m c).delta (tokAt t r) d) →
      v y = (arr1 m c).delta (((View.whole main_v0_4).slice (win0_19.rect t)).emb y 0) (((View.whole main_v0_4).slice (win0_19.rect t)).emb y 1) := by
    intro v hv
    refine (congrArg v hy).trans ((hv (y 0) (y 1)).trans (congrArg₂ (arr1 m c).delta (Fin.ext ?_) (Fin.ext ?_)))
    · show t.val * 32 + (y 0).val = _; blk_simp [idx t]
    · show (y 1).val = _; blk_simp [idx t]
  unfold out0_19 k0_pay17
  rw [canon_window]
  refine key _ fun r d => ?_
  refine (put_rows_in _ _ r d r (Nat.zero_add _).symm).trans ?_
  exact delta1_at _ _ _ _ _ _ _ _ _ (fits1 m c t) r d

/-- The change of the weight. -/
theorem out_delta2 : (dats m 0 c).arrAt 20 cfg0.N = fun i => (arr2 m c).delta (i 0) (i 1) := by
  refine (dats m 0 c).arrAt_eq_of_covers 20 _ (by decide +kernel) fun t hf y => ?_
  have hN : t.val < 4 := lt_of_lt_of_eq t.isLt points
  blk_simp
  rw [after0_20]
  have hy : y = ix2 (y 0) (y 1) := eq_ix2 y
  have key : ∀ v : S32x1024.Idx → EReal, (∀ r (d : Fin 1024), v (ix2 r d) = (arr2 m c).delta (tokAt t r) d) →
      v y = (arr2 m c).delta (((View.whole main_v0_5).slice (win0_20.rect t)).emb y 0) (((View.whole main_v0_5).slice (win0_20.rect t)).emb y 1) := by
    intro v hv
    refine (congrArg v hy).trans ((hv (y 0) (y 1)).trans (congrArg₂ (arr2 m c).delta (Fin.ext ?_) (Fin.ext ?_)))
    · show t.val * 32 + (y 0).val = _; blk_simp [idx t]
    · show (y 1).val = _; blk_simp [idx t]
  unfold out0_20 k0_pay19 k0_pay18
  rw [canon_window]
  refine key _ fun r d => ?_
  refine (put_rows_in _ _ r d r (Nat.zero_add _).symm).trans ?_
  exact delta2_at _ _ _ _ _ _ _ _ _ (fits2 m c t) r d

/-- The first moment. -/
theorem out_m0 : (dats m 0 c).arrAt 21 cfg0.N = fun i => (arr0 m c).m1 (i 0) (i 1) := by
  refine (dats m 0 c).arrAt_eq_of_covers 21 _ (by decide +kernel) fun t hf y => ?_
  have hN : t.val < 4 := lt_of_lt_of_eq t.isLt points
  blk_simp
  rw [after0_21]
  have hy : y = ix2 (y 0) (y 1) := eq_ix2 y
  have key : ∀ v : S32x1024.Idx → EReal, (∀ r (d : Fin 1024), v (ix2 r d) = (arr0 m c).m1 (tokAt t r) d) →
      v y = (arr0 m c).m1 (((View.whole main_v0_6).slice (win0_21.rect t)).emb y 0) (((View.whole main_v0_6).slice (win0_21.rect t)).emb y 1) := by
    intro v hv
    refine (congrArg v hy).trans ((hv (y 0) (y 1)).trans (congrArg₂ (arr0 m c).m1 (Fin.ext ?_) (Fin.ext ?_)))
    · show t.val * 32 + (y 0).val = _; blk_simp [idx t]
    · show (y 1).val = _; blk_simp [idx t]
  unfold out0_21
  rw [canon_window]
  refine key _ fun r d => ?_
  refine (put_rows_in _ _ r d r (Nat.zero_add _).symm).trans ?_
  exact m0_at _ _ _ _ _ _ _ _ _ (fits0 m c t) r d

/-- The first moment. -/
theorem out_m1 : (dats m 0 c).arrAt 22 cfg0.N = fun i => (arr1 m c).m1 (i 0) (i 1) := by
  refine (dats m 0 c).arrAt_eq_of_covers 22 _ (by decide +kernel) fun t hf y => ?_
  have hN : t.val < 4 := lt_of_lt_of_eq t.isLt points
  blk_simp
  rw [after0_22]
  have hy : y = ix2 (y 0) (y 1) := eq_ix2 y
  have key : ∀ v : S32x1024.Idx → EReal, (∀ r (d : Fin 1024), v (ix2 r d) = (arr1 m c).m1 (tokAt t r) d) →
      v y = (arr1 m c).m1 (((View.whole main_v0_7).slice (win0_22.rect t)).emb y 0) (((View.whole main_v0_7).slice (win0_22.rect t)).emb y 1) := by
    intro v hv
    refine (congrArg v hy).trans ((hv (y 0) (y 1)).trans (congrArg₂ (arr1 m c).m1 (Fin.ext ?_) (Fin.ext ?_)))
    · show t.val * 32 + (y 0).val = _; blk_simp [idx t]
    · show (y 1).val = _; blk_simp [idx t]
  unfold out0_22 k0_pay17
  rw [canon_window]
  refine key _ fun r d => ?_
  refine (put_rows_in _ _ r d r (Nat.zero_add _).symm).trans ?_
  exact m1_at _ _ _ _ _ _ _ _ _ (fits1 m c t) r d

/-- The first moment. -/
theorem out_m2 : (dats m 0 c).arrAt 23 cfg0.N = fun i => (arr2 m c).m1 (i 0) (i 1) := by
  refine (dats m 0 c).arrAt_eq_of_covers 23 _ (by decide +kernel) fun t hf y => ?_
  have hN : t.val < 4 := lt_of_lt_of_eq t.isLt points
  blk_simp
  rw [after0_23]
  have hy : y = ix2 (y 0) (y 1) := eq_ix2 y
  have key : ∀ v : S32x1024.Idx → EReal, (∀ r (d : Fin 1024), v (ix2 r d) = (arr2 m c).m1 (tokAt t r) d) →
      v y = (arr2 m c).m1 (((View.whole main_v0_8).slice (win0_23.rect t)).emb y 0) (((View.whole main_v0_8).slice (win0_23.rect t)).emb y 1) := by
    intro v hv
    refine (congrArg v hy).trans ((hv (y 0) (y 1)).trans (congrArg₂ (arr2 m c).m1 (Fin.ext ?_) (Fin.ext ?_)))
    · show t.val * 32 + (y 0).val = _; blk_simp [idx t]
    · show (y 1).val = _; blk_simp [idx t]
  unfold out0_23 k0_pay19 k0_pay18
  rw [canon_window]
  refine key _ fun r d => ?_
  refine (put_rows_in _ _ r d r (Nat.zero_add _).symm).trans ?_
  exact m2_at _ _ _ _ _ _ _ _ _ (fits2 m c t) r d

/-- The second moment. -/
theorem out_v0 : (dats m 0 c).arrAt 24 cfg0.N = fun i => (arr0 m c).v1 (i 0) (i 1) := by
  refine (dats m 0 c).arrAt_eq_of_covers 24 _ (by decide +kernel) fun t hf y => ?_
  have hN : t.val < 4 := lt_of_lt_of_eq t.isLt points
  blk_simp
  rw [after0_24]
  have hy : y = ix2 (y 0) (y 1) := eq_ix2 y
  have key : ∀ v : S32x1024.Idx → EReal, (∀ r (d : Fin 1024), v (ix2 r d) = (arr0 m c).v1 (tokAt t r) d) →
      v y = (arr0 m c).v1 (((View.whole main_v0_9).slice (win0_24.rect t)).emb y 0) (((View.whole main_v0_9).slice (win0_24.rect t)).emb y 1) := by
    intro v hv
    refine (congrArg v hy).trans ((hv (y 0) (y 1)).trans (congrArg₂ (arr0 m c).v1 (Fin.ext ?_) (Fin.ext ?_)))
    · show t.val * 32 + (y 0).val = _; blk_simp [idx t]
    · show (y 1).val = _; blk_simp [idx t]
  unfold out0_24
  rw [canon_window]
  refine key _ fun r d => ?_
  refine (put_rows_in _ _ r d r (Nat.zero_add _).symm).trans ?_
  exact v0_at _ _ _ _ _ _ _ _ _ (fits0 m c t) r d

/-- The second moment. -/
theorem out_v1 : (dats m 0 c).arrAt 25 cfg0.N = fun i => (arr1 m c).v1 (i 0) (i 1) := by
  refine (dats m 0 c).arrAt_eq_of_covers 25 _ (by decide +kernel) fun t hf y => ?_
  have hN : t.val < 4 := lt_of_lt_of_eq t.isLt points
  blk_simp
  rw [after0_25]
  have hy : y = ix2 (y 0) (y 1) := eq_ix2 y
  have key : ∀ v : S32x1024.Idx → EReal, (∀ r (d : Fin 1024), v (ix2 r d) = (arr1 m c).v1 (tokAt t r) d) →
      v y = (arr1 m c).v1 (((View.whole main_v0_10).slice (win0_25.rect t)).emb y 0) (((View.whole main_v0_10).slice (win0_25.rect t)).emb y 1) := by
    intro v hv
    refine (congrArg v hy).trans ((hv (y 0) (y 1)).trans (congrArg₂ (arr1 m c).v1 (Fin.ext ?_) (Fin.ext ?_)))
    · show t.val * 32 + (y 0).val = _; blk_simp [idx t]
    · show (y 1).val = _; blk_simp [idx t]
  unfold out0_25 k0_pay17
  rw [canon_window]
  refine key _ fun r d => ?_
  refine (put_rows_in _ _ r d r (Nat.zero_add _).symm).trans ?_
  exact v1_at _ _ _ _ _ _ _ _ _ (fits1 m c t) r d

/-- The second moment. -/
theorem out_v2 : (dats m 0 c).arrAt 26 cfg0.N = fun i => (arr2 m c).v1 (i 0) (i 1) := by
  refine (dats m 0 c).arrAt_eq_of_covers 26 _ (by decide +kernel) fun t hf y => ?_
  have hN : t.val < 4 := lt_of_lt_of_eq t.isLt points
  blk_simp
  rw [after0_26]
  have hy : y = ix2 (y 0) (y 1) := eq_ix2 y
  have key : ∀ v : S32x1024.Idx → EReal, (∀ r (d : Fin 1024), v (ix2 r d) = (arr2 m c).v1 (tokAt t r) d) →
      v y = (arr2 m c).v1 (((View.whole main_v0_11).slice (win0_26.rect t)).emb y 0) (((View.whole main_v0_11).slice (win0_26.rect t)).emb y 1) := by
    intro v hv
    refine (congrArg v hy).trans ((hv (y 0) (y 1)).trans (congrArg₂ (arr2 m c).v1 (Fin.ext ?_) (Fin.ext ?_)))
    · show t.val * 32 + (y 0).val = _; blk_simp [idx t]
    · show (y 1).val = _; blk_simp [idx t]
  unfold out0_26 k0_pay19 k0_pay18
  rw [canon_window]
  refine key _ fun r d => ?_
  refine (put_rows_in _ _ r d r (Nat.zero_add _).symm).trans ?_
  exact v2_at _ _ _ _ _ _ _ _ _ (fits2 m c t) r d

end Cert.Kernel7Ideal.Hand

end
-- ==== Proof.AdamSqRef.lean ====
module

public import proofs.«01_k».proof.Proof.AdamSpec
public import proofs.«01_k».proof.Proof.Gen.Reference7Ideal.Read

@[expose] public section

set_option maxRecDepth 16384

noncomputable section

namespace Cert.Proof.StepArr

open Cert.Reference7Ideal Cert.Reference7Ideal.Gen Cert.Reference7Ideal.Read
open Idealize.ShloMosaic Idealize.ShloMosaic.TcCoe Idealize.SL.Sem

variable (a : StepArr 128) (T : Fin 128) (d : Fin 1024)

/-! ### What the reference computes for each of the three weights -/

theorem r0_g : val_main_v2 (F := Ideal) a.p a.r (ix2 T d) = a.g T d := by
  refine a.g_eq T d _ ?_
  pointwise [val_main_v2, val_main_v1, val_main_v0, val_main_cst]
theorem r0_m : val_main_v13 (F := Ideal) a.p a.r a.m (ix2 T d) = a.m1 T d := by
  unfold m1 moment1
  rw [← r0_g]
  pointwise [val_main_v13, val_main_v12, val_main_v11, val_main_v10, val_main_v9, val_main_cst_2, val_main_cst_3]
theorem r0_v : val_main_v19 (F := Ideal) a.p a.r a.v (ix2 T d) = a.v1 T d := by
  unfold v1 moment2
  rw [← r0_g]
  pointwise [val_main_v19, val_main_v18, val_main_v17, val_main_v16, val_main_v15, val_main_v14, val_main_cst_4, val_main_cst_5]
theorem r0_delta : val_main_v32 (F := Ideal) a.p a.r a.w a.m a.v (ix2 T d) = a.delta T d := by
  have hm := r0_m a T d
  have hv := r0_v a T d
  unfold m1 at hm
  unfold v1 at hv
  unfold delta change
  rw [← hm, ← hv]
  pointwise [val_main_v32, val_main_v31, val_main_v30, val_main_v29, val_main_v28, val_main_v27, val_main_v26, val_main_v25, val_main_v24, val_main_v23, val_main_v22, val_main_v21, val_main_v20, val_main_cst_6, val_main_cst_7, val_main_cst_8, val_main_cst_9, val_main_cst_10]

theorem r1_g : val_main_v5 (F := Ideal) a.p a.r (ix2 T d) = a.g T d := by
  refine a.g_eq T d _ ?_
  pointwise [val_main_v5, val_main_v4, val_main_v3, val_main_cst_0]
theorem r1_m : val_main_v37 (F := Ideal) a.p a.r a.m (ix2 T d) = a.m1 T d := by
  unfold m1 moment1
  rw [← r1_g]
  pointwise [val_main_v37, val_main_v36, val_main_v35, val_main_v34, val_main_v33, val_main_cst_11, val_main_cst_12]
theorem r1_v : val_main_v43 (F := Ideal) a.p a.r a.v (ix2 T d) = a.v1 T d := by
  unfold v1 moment2
  rw [← r1_g]
  pointwise [val_main_v43, val_main_v42, val_main_v41, val_main_v40, val_main_v39, val_main_v38, val_main_cst_13, val_main_cst_14]
theorem r1_delta : val_main_v56 (F := Ideal) a.p a.r a.w a.m a.v (ix2 T d) = a.delta T d := by
  have hm := r1_m a T d
  have hv := r1_v a T d
  unfold m1 at hm
  unfold v1 at hv
  unfold delta change
  rw [← hm, ← hv]
  pointwise [val_main_v56, val_main_v55, val_main_v54, val_main_v53, val_main_v52, val_main_v51, val_main_v50, val_main_v49, val_main_v48, val_main_v47, val_main_v46, val_main_v45, val_main_v44, val_main_cst_15, val_main_cst_16, val_main_cst_17, val_main_cst_18, val_main_cst_19]

theorem r2_g : val_main_v8 (F := Ideal) a.p a.r (ix2 T d) = a.g T d := by
  refine a.g_eq T d _ ?_
  pointwise [val_main_v8, val_main_v7, val_main_v6, val_main_cst_1]
theorem r2_m : val_main_v61 (F := Ideal) a.p a.r a.m (ix2 T d) = a.m1 T d := by
  unfold m1 moment1
  rw [← r2_g]
  pointwise [val_main_v61, val_main_v60, val_main_v59, val_main_v58, val_main_v57, val_main_cst_20, val_main_cst_21]
theorem r2_v : val_main_v67 (F := Ideal) a.p a.r a.v (ix2 T d) = a.v1 T d := by
  unfold v1 moment2
  rw [← r2_g]
  pointwise [val_main_v67, val_main_v66, val_main_v65, val_main_v64, val_main_v63, val_main_v62, val_main_cst_22, val_main_cst_23]
theorem r2_delta : val_main_v80 (F := Ideal) a.p a.r a.w a.m a.v (ix2 T d) = a.delta T d := by
  have hm := r2_m a T d
  have hv := r2_v a T d
  unfold m1 at hm
  unfold v1 at hv
  unfold delta change
  rw [← hm, ← hv]
  pointwise [val_main_v80, val_main_v79, val_main_v78, val_main_v77, val_main_v76, val_main_v75, val_main_v74, val_main_v73, val_main_v72, val_main_v71, val_main_v70, val_main_v69, val_main_v68, val_main_cst_24, val_main_cst_25, val_main_cst_26, val_main_cst_27, val_main_cst_28]

end Cert.Proof.StepArr

end
-- ==== Proof.AdamSqValue.lean ====
/- The sums over the chips of three gradients and their AdamW steps: their frames, and that their two programs leave the same contents. -/
module

public import proofs.«01_k».proof.Defs
public import proofs.«01_k».proof.Proof.Gen.Kernel7
public import proofs.«01_k».proof.Proof.Gen.Reference7Ideal.Run
public import proofs.«01_k».proof.Proof.AdamSq
public import proofs.«01_k».proof.Proof.AdamSqRef
public import Idealize.ShloMosaic.Lib.Quiescent

@[expose] public section

noncomputable section

namespace Cert.Proof

open Idealize.ShloMosaic Idealize.ShloMosaic.TcCoe Idealize.SL.Sem

set_option maxHeartbeats 4000000 in
/-- The two programs have one text: their label tables are the same function. -/
theorem table_same7 {F : FTy → Type} [FloatOps F] : (Cert.Kernel7Ideal.defs₀ (F := F)) = Cert.Kernel7.defs₀ (F := F) := by
  unfold Cert.Kernel7Ideal.defs₀ Cert.Kernel7.defs₀
  refine congrArg Defs.onTc ?_
  funext l x
  match l, x with
  | ⟨0, _⟩, (t, s) => rfl
  | ⟨n + 1, h⟩, _ => exact absurd h (Nat.not_lt.2 (Nat.le_add_left _ _))
set_option maxHeartbeats 40000000 in
theorem defs_same7 {F : FTy → Type} [FloatOps F] : (Cert.Kernel7Ideal.defs (F := F)) = Cert.Kernel7.defs (F := F) :=
  congrArg (Pipeline.defs (Cert.Kernel7Ideal.pcfgs (F := F))) table_same7

set_option maxHeartbeats 40000000 in
theorem frame_kernel7 : Cert.quiescent_Kernel7 := fun m ρ _ => by
  rw [← defs_same7]
  exact (θ_run Cert.Kernel7Ideal.defs _ _).mono (fun _ h => h) (Cert.Kernel7Ideal.Hand.frame (F := Bits) m ρ)

theorem frame_ideal7 : Cert.quiescent_Kernel7Ideal := fun m ρ _ => Cert.Kernel7Ideal.Hand.frame (F := Ideal) m ρ

theorem frame_reference7 : Cert.quiescent_Reference7Ideal := fun m ρ _ =>
  (θ_run Cert.Reference7Ideal.defs _ _).mono (fun r h => ⟨fun c => (h c).2.2.2.2.2.2.2.2.2.2.2.2, sem_eq_zero_of_no_sems (by decide) r.2⟩)
    (Cert.Reference7Ideal.Value.run (F := Ideal) m ρ)

set_option maxHeartbeats 4000000 in
open Cert.Kernel7Ideal.Hand in
theorem value7 : Cert.algebraic_Kernel7Ideal_Reference7Ideal := by
  intro m g m' g' _ hargs
  refine ⟨fun c => fun i : (⟨2, ![128, 1024]⟩ : Shape).Idx => (arr0 m c).g (i 0) (i 1),
    fun c => fun i : (⟨2, ![128, 1024]⟩ : Shape).Idx => (arr1 m c).g (i 0) (i 1),
    fun c => fun i : (⟨2, ![128, 1024]⟩ : Shape).Idx => (arr2 m c).g (i 0) (i 1),
    fun c => fun i : (⟨2, ![128, 1024]⟩ : Shape).Idx => (arr0 m c).delta (i 0) (i 1),
    fun c => fun i : (⟨2, ![128, 1024]⟩ : Shape).Idx => (arr1 m c).delta (i 0) (i 1),
    fun c => fun i : (⟨2, ![128, 1024]⟩ : Shape).Idx => (arr2 m c).delta (i 0) (i 1),
    fun c => fun i : (⟨2, ![128, 1024]⟩ : Shape).Idx => (arr0 m c).m1 (i 0) (i 1),
    fun c => fun i : (⟨2, ![128, 1024]⟩ : Shape).Idx => (arr1 m c).m1 (i 0) (i 1),
    fun c => fun i : (⟨2, ![128, 1024]⟩ : Shape).Idx => (arr2 m c).m1 (i 0) (i 1),
    fun c => fun i : (⟨2, ![128, 1024]⟩ : Shape).Idx => (arr0 m c).v1 (i 0) (i 1),
    fun c => fun i : (⟨2, ![128, 1024]⟩ : Shape).Idx => (arr1 m c).v1 (i 0) (i 1),
    fun c => fun i : (⟨2, ![128, 1024]⟩ : Shape).Idx => (arr2 m c).v1 (i 0) (i 1), ?_, ?_⟩
  · refine (θ_run Cert.Kernel7Ideal.defs _ _).mono (fun r h c => ?_) (θ_run_and (run_main m g) (unchanged m g))
    exact ⟨((h.1 c).1 15).trans (out_g0 m c), ((h.1 c).1 16).trans (out_g1 m c), ((h.1 c).1 17).trans (out_g2 m c), ((h.1 c).1 18).trans (out_delta0 m c), ((h.1 c).1 19).trans (out_delta1 m c), ((h.1 c).1 20).trans (out_delta2 m c), ((h.1 c).1 21).trans (out_m0 m c), ((h.1 c).1 22).trans (out_m1 m c), ((h.1 c).1 23).trans (out_m2 m c), ((h.1 c).1 24).trans (out_v0 m c), ((h.1 c).1 25).trans (out_v1 m c), ((h.1 c).1 26).trans (out_v2 m c), h.2 c⟩
  · refine (θ_run Cert.Reference7Ideal.defs _ _).mono (fun r h c => ?_) (Cert.Reference7Ideal.Value.run (F := Ideal) m' g')
    obtain ⟨a0, a1, a2, a3, a4, a5, a6, a7, a8, a9, a10, a11, a12, a13, a14⟩ := hargs c
    obtain ⟨h0, h1, h2, h3, h4, h5, h6, h7, h8, h9, h10, h11, hrest⟩ := h c
    rw [Cert.Reference7Ideal.Read.val_main_v2_eq, a0, a3] at h0
    rw [Cert.Reference7Ideal.Read.val_main_v5_eq, a1, a4] at h1
    rw [Cert.Reference7Ideal.Read.val_main_v8_eq, a2, a5] at h2
    rw [Cert.Reference7Ideal.Read.val_main_v32_eq, a0, a3, a6, a9, a12] at h3
    rw [Cert.Reference7Ideal.Read.val_main_v56_eq, a1, a4, a7, a10, a13] at h4
    rw [Cert.Reference7Ideal.Read.val_main_v80_eq, a2, a5, a8, a11, a14] at h5
    rw [Cert.Reference7Ideal.Read.val_main_v13_eq, a0, a3, a9] at h6
    rw [Cert.Reference7Ideal.Read.val_main_v37_eq, a1, a4, a10] at h7
    rw [Cert.Reference7Ideal.Read.val_main_v61_eq, a2, a5, a11] at h8
    rw [Cert.Reference7Ideal.Read.val_main_v19_eq, a0, a3, a12] at h9
    rw [Cert.Reference7Ideal.Read.val_main_v43_eq, a1, a4, a13] at h10
    rw [Cert.Reference7Ideal.Read.val_main_v67_eq, a2, a5, a14] at h11
    refine ⟨?_, ?_, ?_, ?_, ?_, ?_, ?_, ?_, ?_, ?_, ?_, ?_, hrest⟩
    · exact h0.trans (funext (at_ix2 fun T d => (arr0 m c).r0_g T d))
    · exact h1.trans (funext (at_ix2 fun T d => (arr1 m c).r1_g T d))
    · exact h2.trans (funext (at_ix2 fun T d => (arr2 m c).r2_g T d))
    · exact h3.trans (funext (at_ix2 fun T d => (arr0 m c).r0_delta T d))
    · exact h4.trans (funext (at_ix2 fun T d => (arr1 m c).r1_delta T d))
    · exact h5.trans (funext (at_ix2 fun T d => (arr2 m c).r2_delta T d))
    · exact h6.trans (funext (at_ix2 fun T d => (arr0 m c).r0_m T d))
    · exact h7.trans (funext (at_ix2 fun T d => (arr1 m c).r1_m T d))
    · exact h8.trans (funext (at_ix2 fun T d => (arr2 m c).r2_m T d))
    · exact h9.trans (funext (at_ix2 fun T d => (arr0 m c).r0_v T d))
    · exact h10.trans (funext (at_ix2 fun T d => (arr1 m c).r1_v T d))
    · exact h11.trans (funext (at_ix2 fun T d => (arr2 m c).r2_v T d))

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.On_rows_written
public import proofs.«01_k».proof.Proof.Value
public import proofs.«01_k».proof.Proof.Frames
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.DhValue
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.HeadValue
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.ConvValue
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.InValue
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.AdamInValue
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Reference7Ideal.Read
public import proofs.«01_k».proof.Proof.AdamSqValue
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Gen.facts, Cert.Pre_finite2.Gen.facts, Cert.Pre_finite3.Gen.facts, Cert.On_rows_written.Gen.facts,
    frame_kernel, frame_ideal, fun m ρ _ => frame_ideal m ρ trivial, frame_reference, fun m ρ _ => frame_reference m ρ trivial,
    frame_kernel2, frame_ideal2, fun m ρ _ => frame_ideal2 m ρ trivial, frame_reference2, fun m ρ _ => frame_reference2 m ρ trivial,
    frame_kernel3, frame_ideal3, fun m ρ _ => frame_ideal3 m ρ trivial, frame_reference3, fun m ρ _ => frame_reference3 m ρ trivial,
    frame_kernel4, frame_ideal4, frame_reference4,
    frame_kernel5, frame_ideal5, frame_reference5,
    frame_kernel6, frame_ideal6, frame_reference6,
    frame_kernel7, frame_ideal7, frame_reference7,
    trivial, value, trivial, value2, trivial, value3, trivial, value4, trivial, value5,
    trivial, value6, trivial, value7⟩

end Cert.Proof

end
